-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_KernelG (m : (ℓ : Loc Cert.KernelG.nD Cert.KernelG.τ Cert.KernelG.sig) → Buf (Elt Bits) ℓ) : Prop :=
  True

def Pre_KernelGIdeal (m : (ℓ : Loc Cert.KernelGIdeal.nD Cert.KernelGIdeal.τ Cert.KernelGIdeal.sig) → Buf (Elt Ideal) ℓ) : Prop :=
  True

def Pre_ReferenceGIdeal (m : (ℓ : Loc Cert.ReferenceGIdeal.nD Cert.ReferenceGIdeal.τ Cert.ReferenceGIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelH (m : (ℓ : Loc Cert.KernelH.nD Cert.KernelH.τ Cert.KernelH.sig) → Buf (Elt Bits) ℓ) : Prop :=
  True

def Pre_KernelHIdeal (m : (ℓ : Loc Cert.KernelHIdeal.nD Cert.KernelHIdeal.τ Cert.KernelHIdeal.sig) → Buf (Elt Ideal) ℓ) : Prop :=
  True

def Pre_ReferenceHIdeal (m : (ℓ : Loc Cert.ReferenceHIdeal.nD Cert.ReferenceHIdeal.τ Cert.ReferenceHIdeal.sig) → Buf (Elt Ideal) ℓ) : Prop :=
  True

def Pre_KernelPG (m : (ℓ : Loc Cert.KernelPG.nD Cert.KernelPG.τ Cert.KernelPG.sig) → Buf (Elt Bits) ℓ) : Prop :=
  True

def Pre_KernelPGIdeal (m : (ℓ : Loc Cert.KernelPGIdeal.nD Cert.KernelPGIdeal.τ Cert.KernelPGIdeal.sig) → Buf (Elt Ideal) ℓ) : Prop :=
  True

def Pre_ReferencePGIdeal (m : (ℓ : Loc Cert.ReferencePGIdeal.nD Cert.ReferencePGIdeal.τ Cert.ReferencePGIdeal.sig) → Buf (Elt Ideal) ℓ) : Prop :=
  True

def Pre_KernelPC (m : (ℓ : Loc Cert.KernelPC.nD Cert.KernelPC.τ Cert.KernelPC.sig) → Buf (Elt Bits) ℓ) : Prop :=
  True

def Pre_KernelPCIdeal (m : (ℓ : Loc Cert.KernelPCIdeal.nD Cert.KernelPCIdeal.τ Cert.KernelPCIdeal.sig) → Buf (Elt Ideal) ℓ) : Prop :=
  True

def Pre_ReferencePCIdeal (m : (ℓ : Loc Cert.ReferencePCIdeal.nD Cert.ReferencePCIdeal.τ Cert.ReferencePCIdeal.sig) → Buf (Elt Ideal) ℓ) : Prop :=
  True

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_ReferenceXIdeal (m : (ℓ : Loc Cert.ReferenceXIdeal.nD Cert.ReferenceXIdeal.τ Cert.ReferenceXIdeal.sig) → Buf (Elt Ideal) ℓ) : Prop :=
  True

def Pre_KernelL (m : (ℓ : Loc Cert.KernelL.nD Cert.KernelL.τ Cert.KernelL.sig) → Buf (Elt Bits) ℓ) : Prop :=
  True

def Pre_KernelLIdeal (m : (ℓ : Loc Cert.KernelLIdeal.nD Cert.KernelLIdeal.τ Cert.KernelLIdeal.sig) → Buf (Elt Ideal) ℓ) : Prop :=
  True

def Pre_ReferenceLIdeal (m : (ℓ : Loc Cert.ReferenceLIdeal.nD Cert.ReferenceLIdeal.τ Cert.ReferenceLIdeal.sig) → Buf (Elt Ideal) ℓ) : Prop :=
  True

def Pre_KernelN (m : (ℓ : Loc Cert.KernelN.nD Cert.KernelN.τ Cert.KernelN.sig) → Buf (Elt Bits) ℓ) : Prop :=
  True

def Pre_KernelNIdeal (m : (ℓ : Loc Cert.KernelNIdeal.nD Cert.KernelNIdeal.τ Cert.KernelNIdeal.sig) → Buf (Elt Ideal) ℓ) : Prop :=
  True

def Pre_ReferenceNIdeal (m : (ℓ : Loc Cert.ReferenceNIdeal.nD Cert.ReferenceNIdeal.τ Cert.ReferenceNIdeal.sig) → Buf (Elt Ideal) ℓ) : Prop :=
  True

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelG [hKernelG : Cert.KernelG.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1))
      ∧ r.2.sem = fun _ => 0)

def quiescent_KernelGIdeal [hKernelGIdeal : Cert.KernelGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg), Pre_KernelGIdeal m →
    θ_run (Cert.KernelGIdeal.defs (F := Ideal)) (onTc (τ := Cert.KernelGIdeal.τ) (Cert.KernelGIdeal.main (F := Ideal))) ⟨m, fun _ => 0, g⟩ (fun r => (∀ c : Dev Cert.KernelGIdeal.nD,
      r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
      ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1))
      ∧ r.2.sem = fun _ => 0)

def quiescent_ReferenceGIdeal [hReferenceGIdeal : Cert.ReferenceGIdeal.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1))
      ∧ r.2.sem = fun _ => 0)

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1))
      ∧ r.2.sem = fun _ => 0)

def quiescent_KernelHIdeal [hKernelHIdeal : Cert.KernelHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1))
      ∧ r.2.sem = fun _ => 0)

def quiescent_ReferenceHIdeal [hReferenceHIdeal : Cert.ReferenceHIdeal.Facts] : Prop :=
  ∀ (m : (ℓ : Loc Cert.ReferenceHIdeal.nD Cert.ReferenceHIdeal.τ Cert.ReferenceHIdeal.sig) → Buf (Elt Ideal) ℓ) (g : Dev Cert.ReferenceHIdeal.nD → PrngReg), Pre_ReferenceHIdeal m →
    θ_run (Cert.ReferenceHIdeal.defs (F := Ideal)) (onTc (τ := Cert.ReferenceHIdeal.τ) (Cert.ReferenceHIdeal.main (F := Ideal))) ⟨m, fun _ => 0, g⟩ (fun r => (∀ c : Dev Cert.ReferenceHIdeal.nD,
      r.2.mem ((c.tc : Thread Cert.ReferenceHIdeal.nD Cert.ReferenceHIdeal.τ).loc Cert.ReferenceHIdeal.main_arg0) = m ((c.tc : Thread Cert.ReferenceHIdeal.nD Cert.ReferenceHIdeal.τ).loc Cert.ReferenceHIdeal.main_arg0)
      ∧ r.2.mem ((c.tc : Thread Cert.ReferenceHIdeal.nD Cert.ReferenceHIdeal.τ).loc Cert.ReferenceHIdeal.main_arg1) = m ((c.tc : Thread Cert.ReferenceHIdeal.nD Cert.ReferenceHIdeal.τ).loc Cert.ReferenceHIdeal.main_arg1))
      ∧ r.2.sem = fun _ => 0)

def quiescent_KernelPG [hKernelPG : Cert.KernelPG.Facts] : Prop :=
  ∀ (m : (ℓ : Loc Cert.KernelPG.nD Cert.KernelPG.τ Cert.KernelPG.sig) → Buf (Elt Bits) ℓ) (g : Dev Cert.KernelPG.nD → PrngReg), Pre_KernelPG m →
    θ_run (Cert.KernelPG.defs (F := Bits)) (onTc (τ := Cert.KernelPG.τ) (Cert.KernelPG.main (F := Bits))) ⟨m, fun _ => 0, g⟩ (fun r => (∀ c : Dev Cert.KernelPG.nD,
      r.2.mem ((c.tc : Thread Cert.KernelPG.nD Cert.KernelPG.τ).loc Cert.KernelPG.main_arg0) = m ((c.tc : Thread Cert.KernelPG.nD Cert.KernelPG.τ).loc Cert.KernelPG.main_arg0)
      ∧ r.2.mem ((c.tc : Thread Cert.KernelPG.nD Cert.KernelPG.τ).loc Cert.KernelPG.main_arg1) = m ((c.tc : Thread Cert.KernelPG.nD Cert.KernelPG.τ).loc Cert.KernelPG.main_arg1))
      ∧ r.2.sem = fun _ => 0)

def quiescent_KernelPGIdeal [hKernelPGIdeal : Cert.KernelPGIdeal.Facts] : Prop :=
  ∀ (m : (ℓ : Loc Cert.KernelPGIdeal.nD Cert.KernelPGIdeal.τ Cert.KernelPGIdeal.sig) → Buf (Elt Ideal) ℓ) (g : Dev Cert.KernelPGIdeal.nD → PrngReg), Pre_KernelPGIdeal m →
    θ_run (Cert.KernelPGIdeal.defs (F := Ideal)) (onTc (τ := Cert.KernelPGIdeal.τ) (Cert.KernelPGIdeal.main (F := Ideal))) ⟨m, fun _ => 0, g⟩ (fun r => (∀ c : Dev Cert.KernelPGIdeal.nD,
      r.2.mem ((c.tc : Thread Cert.KernelPGIdeal.nD Cert.KernelPGIdeal.τ).loc Cert.KernelPGIdeal.main_arg0) = m ((c.tc : Thread Cert.KernelPGIdeal.nD Cert.KernelPGIdeal.τ).loc Cert.KernelPGIdeal.main_arg0)
      ∧ r.2.mem ((c.tc : Thread Cert.KernelPGIdeal.nD Cert.KernelPGIdeal.τ).loc Cert.KernelPGIdeal.main_arg1) = m ((c.tc : Thread Cert.KernelPGIdeal.nD Cert.KernelPGIdeal.τ).loc Cert.KernelPGIdeal.main_arg1))
      ∧ r.2.sem = fun _ => 0)

def quiescent_ReferencePGIdeal [hReferencePGIdeal : Cert.ReferencePGIdeal.Facts] : Prop :=
  ∀ (m : (ℓ : Loc Cert.ReferencePGIdeal.nD Cert.ReferencePGIdeal.τ Cert.ReferencePGIdeal.sig) → Buf (Elt Ideal) ℓ) (g : Dev Cert.ReferencePGIdeal.nD → PrngReg), Pre_ReferencePGIdeal m →
    θ_run (Cert.ReferencePGIdeal.defs (F := Ideal)) (onTc (τ := Cert.ReferencePGIdeal.τ) (Cert.ReferencePGIdeal.main (F := Ideal))) ⟨m, fun _ => 0, g⟩ (fun r => (∀ c : Dev Cert.ReferencePGIdeal.nD,
      r.2.mem ((c.tc : Thread Cert.ReferencePGIdeal.nD Cert.ReferencePGIdeal.τ).loc Cert.ReferencePGIdeal.main_arg0) = m ((c.tc : Thread Cert.ReferencePGIdeal.nD Cert.ReferencePGIdeal.τ).loc Cert.ReferencePGIdeal.main_arg0)
      ∧ r.2.mem ((c.tc : Thread Cert.ReferencePGIdeal.nD Cert.ReferencePGIdeal.τ).loc Cert.ReferencePGIdeal.main_arg1) = m ((c.tc : Thread Cert.ReferencePGIdeal.nD Cert.ReferencePGIdeal.τ).loc Cert.ReferencePGIdeal.main_arg1))
      ∧ r.2.sem = fun _ => 0)

def quiescent_KernelPC [hKernelPC : Cert.KernelPC.Facts] : Prop :=
  ∀ (m : (ℓ : Loc Cert.KernelPC.nD Cert.KernelPC.τ Cert.KernelPC.sig) → Buf (Elt Bits) ℓ) (g : Dev Cert.KernelPC.nD → PrngReg), Pre_KernelPC m →
    θ_run (Cert.KernelPC.defs (F := Bits)) (onTc (τ := Cert.KernelPC.τ) (Cert.KernelPC.main (F := Bits))) ⟨m, fun _ => 0, g⟩ (fun r => (∀ c : Dev Cert.KernelPC.nD,
      r.2.mem ((c.tc : Thread Cert.KernelPC.nD Cert.KernelPC.τ).loc Cert.KernelPC.main_arg0) = m ((c.tc : Thread Cert.KernelPC.nD Cert.KernelPC.τ).loc Cert.KernelPC.main_arg0)
      ∧ r.2.mem ((c.tc : Thread Cert.KernelPC.nD Cert.KernelPC.τ).loc Cert.KernelPC.main_arg1) = m ((c.tc : Thread Cert.KernelPC.nD Cert.KernelPC.τ).loc Cert.KernelPC.main_arg1))
      ∧ r.2.sem = fun _ => 0)

def quiescent_KernelPCIdeal [hKernelPCIdeal : Cert.KernelPCIdeal.Facts] : Prop :=
  ∀ (m : (ℓ : Loc Cert.KernelPCIdeal.nD Cert.KernelPCIdeal.τ Cert.KernelPCIdeal.sig) → Buf (Elt Ideal) ℓ) (g : Dev Cert.KernelPCIdeal.nD → PrngReg), Pre_KernelPCIdeal m →
    θ_run (Cert.KernelPCIdeal.defs (F := Ideal)) (onTc (τ := Cert.KernelPCIdeal.τ) (Cert.KernelPCIdeal.main (F := Ideal))) ⟨m, fun _ => 0, g⟩ (fun r => (∀ c : Dev Cert.KernelPCIdeal.nD,
      r.2.mem ((c.tc : Thread Cert.KernelPCIdeal.nD Cert.KernelPCIdeal.τ).loc Cert.KernelPCIdeal.main_arg0) = m ((c.tc : Thread Cert.KernelPCIdeal.nD Cert.KernelPCIdeal.τ).loc Cert.KernelPCIdeal.main_arg0)
      ∧ r.2.mem ((c.tc : Thread Cert.KernelPCIdeal.nD Cert.KernelPCIdeal.τ).loc Cert.KernelPCIdeal.main_arg1) = m ((c.tc : Thread Cert.KernelPCIdeal.nD Cert.KernelPCIdeal.τ).loc Cert.KernelPCIdeal.main_arg1))
      ∧ r.2.sem = fun _ => 0)

def quiescent_ReferencePCIdeal [hReferencePCIdeal : Cert.ReferencePCIdeal.Facts] : Prop :=
  ∀ (m : (ℓ : Loc Cert.ReferencePCIdeal.nD Cert.ReferencePCIdeal.τ Cert.ReferencePCIdeal.sig) → Buf (Elt Ideal) ℓ) (g : Dev Cert.ReferencePCIdeal.nD → PrngReg), Pre_ReferencePCIdeal m →
    θ_run (Cert.ReferencePCIdeal.defs (F := Ideal)) (onTc (τ := Cert.ReferencePCIdeal.τ) (Cert.ReferencePCIdeal.main (F := Ideal))) ⟨m, fun _ => 0, g⟩ (fun r => (∀ c : Dev Cert.ReferencePCIdeal.nD,
      r.2.mem ((c.tc : Thread Cert.ReferencePCIdeal.nD Cert.ReferencePCIdeal.τ).loc Cert.ReferencePCIdeal.main_arg0) = m ((c.tc : Thread Cert.ReferencePCIdeal.nD Cert.ReferencePCIdeal.τ).loc Cert.ReferencePCIdeal.main_arg0)
      ∧ r.2.mem ((c.tc : Thread Cert.ReferencePCIdeal.nD Cert.ReferencePCIdeal.τ).loc Cert.ReferencePCIdeal.main_arg1) = m ((c.tc : Thread Cert.ReferencePCIdeal.nD Cert.ReferencePCIdeal.τ).loc Cert.ReferencePCIdeal.main_arg1))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1)
      ∧ r.2.mem ((c.tc : Thread Cert.KernelX.nD Cert.KernelX.τ).loc Cert.KernelX.main_arg2) = m ((c.tc : Thread Cert.KernelX.nD Cert.KernelX.τ).loc Cert.KernelX.main_arg2)
      ∧ r.2.mem ((c.tc : Thread Cert.KernelX.nD Cert.KernelX.τ).loc Cert.KernelX.main_arg3) = m ((c.tc : Thread Cert.KernelX.nD Cert.KernelX.τ).loc Cert.KernelX.main_arg3)
      ∧ r.2.mem ((c.tc : Thread Cert.KernelX.nD Cert.KernelX.τ).loc Cert.KernelX.main_arg4) = m ((c.tc : Thread Cert.KernelX.nD Cert.KernelX.τ).loc Cert.KernelX.main_arg4)
      ∧ r.2.mem ((c.tc : Thread Cert.KernelX.nD Cert.KernelX.τ).loc Cert.KernelX.main_arg5) = m ((c.tc : Thread Cert.KernelX.nD Cert.KernelX.τ).loc Cert.KernelX.main_arg5))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
      ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
      ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4)
      ∧ r.2.mem ((c.tc : Thread Cert.KernelXIdeal.nD Cert.KernelXIdeal.τ).loc Cert.KernelXIdeal.main_arg5) = m ((c.tc : Thread Cert.KernelXIdeal.nD Cert.KernelXIdeal.τ).loc Cert.KernelXIdeal.main_arg5))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2)
      ∧ r.2.mem ((c.tc : Thread Cert.ReferenceXIdeal.nD Cert.ReferenceXIdeal.τ).loc Cert.ReferenceXIdeal.main_arg3) = m ((c.tc : Thread Cert.ReferenceXIdeal.nD Cert.ReferenceXIdeal.τ).loc Cert.ReferenceXIdeal.main_arg3)
      ∧ r.2.mem ((c.tc : Thread Cert.ReferenceXIdeal.nD Cert.ReferenceXIdeal.τ).loc Cert.ReferenceXIdeal.main_arg4) = m ((c.tc : Thread Cert.ReferenceXIdeal.nD Cert.ReferenceXIdeal.τ).loc Cert.ReferenceXIdeal.main_arg4)
      ∧ r.2.mem ((c.tc : Thread Cert.ReferenceXIdeal.nD Cert.ReferenceXIdeal.τ).loc Cert.ReferenceXIdeal.main_arg5) = m ((c.tc : Thread Cert.ReferenceXIdeal.nD Cert.ReferenceXIdeal.τ).loc Cert.ReferenceXIdeal.main_arg5))
      ∧ r.2.sem = fun _ => 0)

def quiescent_KernelL [hKernelL : Cert.KernelL.Facts] : Prop :=
  ∀ (m : (ℓ : Loc Cert.KernelL.nD Cert.KernelL.τ Cert.KernelL.sig) → Buf (Elt Bits) ℓ) (g : Dev Cert.KernelL.nD → PrngReg), Pre_KernelL m →
    θ_run (Cert.KernelL.defs (F := Bits)) (onTc (τ := Cert.KernelL.τ) (Cert.KernelL.main (F := Bits))) ⟨m, fun _ => 0, g⟩ (fun r => (∀ c : Dev Cert.KernelL.nD,
      r.2.mem ((c.tc : Thread Cert.KernelL.nD Cert.KernelL.τ).loc Cert.KernelL.main_arg0) = m ((c.tc : Thread Cert.KernelL.nD Cert.KernelL.τ).loc Cert.KernelL.main_arg0)
      ∧ r.2.mem ((c.tc : Thread Cert.KernelL.nD Cert.KernelL.τ).loc Cert.KernelL.main_arg1) = m ((c.tc : Thread Cert.KernelL.nD Cert.KernelL.τ).loc Cert.KernelL.main_arg1)
      ∧ r.2.mem ((c.tc : Thread Cert.KernelL.nD Cert.KernelL.τ).loc Cert.KernelL.main_arg2) = m ((c.tc : Thread Cert.KernelL.nD Cert.KernelL.τ).loc Cert.KernelL.main_arg2)
      ∧ r.2.mem ((c.tc : Thread Cert.KernelL.nD Cert.KernelL.τ).loc Cert.KernelL.main_arg3) = m ((c.tc : Thread Cert.KernelL.nD Cert.KernelL.τ).loc Cert.KernelL.main_arg3)
      ∧ r.2.mem ((c.tc : Thread Cert.KernelL.nD Cert.KernelL.τ).loc Cert.KernelL.main_arg4) = m ((c.tc : Thread Cert.KernelL.nD Cert.KernelL.τ).loc Cert.KernelL.main_arg4))
      ∧ r.2.sem = fun _ => 0)

def quiescent_KernelLIdeal [hKernelLIdeal : Cert.KernelLIdeal.Facts] : Prop :=
  ∀ (m : (ℓ : Loc Cert.KernelLIdeal.nD Cert.KernelLIdeal.τ Cert.KernelLIdeal.sig) → Buf (Elt Ideal) ℓ) (g : Dev Cert.KernelLIdeal.nD → PrngReg), Pre_KernelLIdeal m →
    θ_run (Cert.KernelLIdeal.defs (F := Ideal)) (onTc (τ := Cert.KernelLIdeal.τ) (Cert.KernelLIdeal.main (F := Ideal))) ⟨m, fun _ => 0, g⟩ (fun r => (∀ c : Dev Cert.KernelLIdeal.nD,
      r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
      ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
      ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
      ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
      ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4))
      ∧ r.2.sem = fun _ => 0)

def quiescent_ReferenceLIdeal [hReferenceLIdeal : Cert.ReferenceLIdeal.Facts] : Prop :=
  ∀ (m : (ℓ : Loc Cert.ReferenceLIdeal.nD Cert.ReferenceLIdeal.τ Cert.ReferenceLIdeal.sig) → Buf (Elt Ideal) ℓ) (g : Dev Cert.ReferenceLIdeal.nD → PrngReg), Pre_ReferenceLIdeal m →
    θ_run (Cert.ReferenceLIdeal.defs (F := Ideal)) (onTc (τ := Cert.ReferenceLIdeal.τ) (Cert.ReferenceLIdeal.main (F := Ideal))) ⟨m, fun _ => 0, g⟩ (fun r => (∀ c : Dev Cert.ReferenceLIdeal.nD,
      r.2.mem ((c.tc : Thread Cert.ReferenceLIdeal.nD Cert.ReferenceLIdeal.τ).loc Cert.ReferenceLIdeal.main_arg0) = m ((c.tc : Thread Cert.ReferenceLIdeal.nD Cert.ReferenceLIdeal.τ).loc Cert.ReferenceLIdeal.main_arg0)
      ∧ r.2.mem ((c.tc : Thread Cert.ReferenceLIdeal.nD Cert.ReferenceLIdeal.τ).loc Cert.ReferenceLIdeal.main_arg1) = m ((c.tc : Thread Cert.ReferenceLIdeal.nD Cert.ReferenceLIdeal.τ).loc Cert.ReferenceLIdeal.main_arg1)
      ∧ r.2.mem ((c.tc : Thread Cert.ReferenceLIdeal.nD Cert.ReferenceLIdeal.τ).loc Cert.ReferenceLIdeal.main_arg2) = m ((c.tc : Thread Cert.ReferenceLIdeal.nD Cert.ReferenceLIdeal.τ).loc Cert.ReferenceLIdeal.main_arg2)
      ∧ r.2.mem ((c.tc : Thread Cert.ReferenceLIdeal.nD Cert.ReferenceLIdeal.τ).loc Cert.ReferenceLIdeal.main_arg3) = m ((c.tc : Thread Cert.ReferenceLIdeal.nD Cert.ReferenceLIdeal.τ).loc Cert.ReferenceLIdeal.main_arg3)
      ∧ r.2.mem ((c.tc : Thread Cert.ReferenceLIdeal.nD Cert.ReferenceLIdeal.τ).loc Cert.ReferenceLIdeal.main_arg4) = m ((c.tc : Thread Cert.ReferenceLIdeal.nD Cert.ReferenceLIdeal.τ).loc Cert.ReferenceLIdeal.main_arg4))
      ∧ r.2.sem = fun _ => 0)

def quiescent_KernelN [hKernelN : Cert.KernelN.Facts] : Prop :=
  ∀ (m : (ℓ : Loc Cert.KernelN.nD Cert.KernelN.τ Cert.KernelN.sig) → Buf (Elt Bits) ℓ) (g : Dev Cert.KernelN.nD → PrngReg), Pre_KernelN m →
    θ_run (Cert.KernelN.defs (F := Bits)) (onTc (τ := Cert.KernelN.τ) (Cert.KernelN.main (F := Bits))) ⟨m, fun _ => 0, g⟩ (fun r => (∀ c : Dev Cert.KernelN.nD,
      r.2.mem ((c.tc : Thread Cert.KernelN.nD Cert.KernelN.τ).loc Cert.KernelN.main_arg0) = m ((c.tc : Thread Cert.KernelN.nD Cert.KernelN.τ).loc Cert.KernelN.main_arg0)
      ∧ r.2.mem ((c.tc : Thread Cert.KernelN.nD Cert.KernelN.τ).loc Cert.KernelN.main_arg1) = m ((c.tc : Thread Cert.KernelN.nD Cert.KernelN.τ).loc Cert.KernelN.main_arg1))
      ∧ r.2.sem = fun _ => 0)

def quiescent_KernelNIdeal [hKernelNIdeal : Cert.KernelNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg), Pre_KernelNIdeal m →
    θ_run (Cert.KernelNIdeal.defs (F := Ideal)) (onTc (τ := Cert.KernelNIdeal.τ) (Cert.KernelNIdeal.main (F := Ideal))) ⟨m, fun _ => 0, g⟩ (fun r => (∀ c : Dev Cert.KernelNIdeal.nD,
      r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
      ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1))
      ∧ r.2.sem = fun _ => 0)

def quiescent_ReferenceNIdeal [hReferenceNIdeal : Cert.ReferenceNIdeal.Facts] : Prop :=
  ∀ (m : (ℓ : Loc Cert.ReferenceNIdeal.nD Cert.ReferenceNIdeal.τ Cert.ReferenceNIdeal.sig) → Buf (Elt Ideal) ℓ) (g : Dev Cert.ReferenceNIdeal.nD → PrngReg), Pre_ReferenceNIdeal m →
    θ_run (Cert.ReferenceNIdeal.defs (F := Ideal)) (onTc (τ := Cert.ReferenceNIdeal.τ) (Cert.ReferenceNIdeal.main (F := Ideal))) ⟨m, fun _ => 0, g⟩ (fun r => (∀ c : Dev Cert.ReferenceNIdeal.nD,
      r.2.mem ((c.tc : Thread Cert.ReferenceNIdeal.nD Cert.ReferenceNIdeal.τ).loc Cert.ReferenceNIdeal.main_arg0) = m ((c.tc : Thread Cert.ReferenceNIdeal.nD Cert.ReferenceNIdeal.τ).loc Cert.ReferenceNIdeal.main_arg0)
      ∧ r.2.mem ((c.tc : Thread Cert.ReferenceNIdeal.nD Cert.ReferenceNIdeal.τ).loc Cert.ReferenceNIdeal.main_arg1) = m ((c.tc : Thread Cert.ReferenceNIdeal.nD Cert.ReferenceNIdeal.τ).loc Cert.ReferenceNIdeal.main_arg1))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3)
      ∧ r.2.mem ((c.tc : Thread Cert.KernelA.nD Cert.KernelA.τ).loc Cert.KernelA.main_arg4) = m ((c.tc : Thread Cert.KernelA.nD Cert.KernelA.τ).loc Cert.KernelA.main_arg4))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v42_13) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_v55) = v4 c
          ∧ r.2.mem ((c.tc : Thread Cert.ReferenceIdeal.nD Cert.ReferenceIdeal.τ).loc Cert.ReferenceIdeal.main_v45) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelG_KernelGIdeal : Prop :=
  True

def algebraic_KernelGIdeal_ReferenceGIdeal [hKernelGIdeal : Cert.KernelGIdeal.Facts] [hReferenceGIdeal : Cert.ReferenceGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg)
    (m' : (ℓ : Loc Cert.ReferenceGIdeal.nD Cert.ReferenceGIdeal.τ Cert.ReferenceGIdeal.sig) → Buf (Elt Ideal) ℓ) (g' : Dev Cert.ReferenceGIdeal.nD → PrngReg), Pre_KernelGIdeal m →
    (∀ c : Dev Cert.KernelGIdeal.nD,
      m' ((c.tc : Thread Cert.ReferenceGIdeal.nD Cert.ReferenceGIdeal.τ).loc Cert.ReferenceGIdeal.main_arg0) = m ((c.tc : Thread Cert.KernelGIdeal.nD Cert.KernelGIdeal.τ).loc Cert.KernelGIdeal.main_arg0)
      ∧ m' ((c.tc : Thread Cert.ReferenceGIdeal.nD Cert.ReferenceGIdeal.τ).loc Cert.ReferenceGIdeal.main_arg1) = m ((c.tc : Thread Cert.KernelGIdeal.nD Cert.KernelGIdeal.τ).loc Cert.KernelGIdeal.main_arg1)) →
    ∃ (v0 : (c : Dev Cert.KernelGIdeal.nD) → Buf (Elt Ideal) ((c.tc : Thread Cert.KernelGIdeal.nD Cert.KernelGIdeal.τ).loc Cert.KernelGIdeal.main_v0)),
      θ_run (Cert.KernelGIdeal.defs (F := Ideal)) (onTc (τ := Cert.KernelGIdeal.τ) (Cert.KernelGIdeal.main (F := Ideal))) ⟨m, fun _ => 0, g⟩ (fun r => ∀ c : Dev Cert.KernelGIdeal.nD,
          r.2.mem ((c.tc : Thread Cert.KernelGIdeal.nD Cert.KernelGIdeal.τ).loc Cert.KernelGIdeal.main_v0) = v0 c
          ∧ r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
          ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1))
      ∧ θ_run (Cert.ReferenceGIdeal.defs (F := Ideal)) (onTc (τ := Cert.ReferenceGIdeal.τ) (Cert.ReferenceGIdeal.main (F := Ideal))) ⟨m', fun _ => 0, g'⟩ (fun r => ∀ c : Dev Cert.ReferenceGIdeal.nD,
          r.2.mem ((c.tc : Thread Cert.ReferenceGIdeal.nD Cert.ReferenceGIdeal.τ).loc Cert.ReferenceGIdeal.main_v5) = v0 c
          ∧ r.2.mem ((c.tc : Thread Cert.ReferenceGIdeal.nD Cert.ReferenceGIdeal.τ).loc Cert.ReferenceGIdeal.main_arg0) = m' ((c.tc : Thread Cert.ReferenceGIdeal.nD Cert.ReferenceGIdeal.τ).loc Cert.ReferenceGIdeal.main_arg0)
          ∧ r.2.mem ((c.tc : Thread Cert.ReferenceGIdeal.nD Cert.ReferenceGIdeal.τ).loc Cert.ReferenceGIdeal.main_arg1) = m' ((c.tc : Thread Cert.ReferenceGIdeal.nD Cert.ReferenceGIdeal.τ).loc Cert.ReferenceGIdeal.main_arg1))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)) →
    ∃ (v0 : (c : Dev Cert.KernelCIdeal.nD) → Buf (Elt Ideal) ((c.tc : Thread Cert.KernelCIdeal.nD Cert.KernelCIdeal.τ).loc Cert.KernelCIdeal.main_v0)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v0) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v5) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)) →
    ∃ (v0 : (c : Dev Cert.KernelOIdeal.nD) → Buf (Elt Ideal) ((c.tc : Thread Cert.KernelOIdeal.nD Cert.KernelOIdeal.τ).loc Cert.KernelOIdeal.main_v0)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v4) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1))

def preserves_KernelH_KernelHIdeal : Prop :=
  True

def algebraic_KernelHIdeal_ReferenceHIdeal [hKernelHIdeal : Cert.KernelHIdeal.Facts] [hReferenceHIdeal : Cert.ReferenceHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg)
    (m' : (ℓ : Loc Cert.ReferenceHIdeal.nD Cert.ReferenceHIdeal.τ Cert.ReferenceHIdeal.sig) → Buf (Elt Ideal) ℓ) (g' : Dev Cert.ReferenceHIdeal.nD → PrngReg), Pre_KernelHIdeal m →
    (∀ c : Dev Cert.KernelHIdeal.nD,
      m' ((c.tc : Thread Cert.ReferenceHIdeal.nD Cert.ReferenceHIdeal.τ).loc Cert.ReferenceHIdeal.main_arg0) = m ((c.tc : Thread Cert.KernelHIdeal.nD Cert.KernelHIdeal.τ).loc Cert.KernelHIdeal.main_arg0)
      ∧ m' ((c.tc : Thread Cert.ReferenceHIdeal.nD Cert.ReferenceHIdeal.τ).loc Cert.ReferenceHIdeal.main_arg1) = m ((c.tc : Thread Cert.KernelHIdeal.nD Cert.KernelHIdeal.τ).loc Cert.KernelHIdeal.main_arg1)) →
    ∃ (v0 : (c : Dev Cert.KernelHIdeal.nD) → Buf (Elt Ideal) ((c.tc : Thread Cert.KernelHIdeal.nD Cert.KernelHIdeal.τ).loc Cert.KernelHIdeal.main_v0)),
      θ_run (Cert.KernelHIdeal.defs (F := Ideal)) (onTc (τ := Cert.KernelHIdeal.τ) (Cert.KernelHIdeal.main (F := Ideal))) ⟨m, fun _ => 0, g⟩ (fun r => ∀ c : Dev Cert.KernelHIdeal.nD,
          r.2.mem ((c.tc : Thread Cert.KernelHIdeal.nD Cert.KernelHIdeal.τ).loc Cert.KernelHIdeal.main_v0) = v0 c
          ∧ r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
          ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1))
      ∧ θ_run (Cert.ReferenceHIdeal.defs (F := Ideal)) (onTc (τ := Cert.ReferenceHIdeal.τ) (Cert.ReferenceHIdeal.main (F := Ideal))) ⟨m', fun _ => 0, g'⟩ (fun r => ∀ c : Dev Cert.ReferenceHIdeal.nD,
          r.2.mem ((c.tc : Thread Cert.ReferenceHIdeal.nD Cert.ReferenceHIdeal.τ).loc Cert.ReferenceHIdeal.main_v4) = v0 c
          ∧ r.2.mem ((c.tc : Thread Cert.ReferenceHIdeal.nD Cert.ReferenceHIdeal.τ).loc Cert.ReferenceHIdeal.main_arg0) = m' ((c.tc : Thread Cert.ReferenceHIdeal.nD Cert.ReferenceHIdeal.τ).loc Cert.ReferenceHIdeal.main_arg0)
          ∧ r.2.mem ((c.tc : Thread Cert.ReferenceHIdeal.nD Cert.ReferenceHIdeal.τ).loc Cert.ReferenceHIdeal.main_arg1) = m' ((c.tc : Thread Cert.ReferenceHIdeal.nD Cert.ReferenceHIdeal.τ).loc Cert.ReferenceHIdeal.main_arg1))

def preserves_KernelPG_KernelPGIdeal : Prop :=
  True

def algebraic_KernelPGIdeal_ReferencePGIdeal [hKernelPGIdeal : Cert.KernelPGIdeal.Facts] [hReferencePGIdeal : Cert.ReferencePGIdeal.Facts] : Prop :=
  ∀ (m : (ℓ : Loc Cert.KernelPGIdeal.nD Cert.KernelPGIdeal.τ Cert.KernelPGIdeal.sig) → Buf (Elt Ideal) ℓ) (g : Dev Cert.KernelPGIdeal.nD → PrngReg)
    (m' : (ℓ : Loc Cert.ReferencePGIdeal.nD Cert.ReferencePGIdeal.τ Cert.ReferencePGIdeal.sig) → Buf (Elt Ideal) ℓ) (g' : Dev Cert.ReferencePGIdeal.nD → PrngReg), Pre_KernelPGIdeal m →
    (∀ c : Dev Cert.KernelPGIdeal.nD,
      m' ((c.tc : Thread Cert.ReferencePGIdeal.nD Cert.ReferencePGIdeal.τ).loc Cert.ReferencePGIdeal.main_arg0) = m ((c.tc : Thread Cert.KernelPGIdeal.nD Cert.KernelPGIdeal.τ).loc Cert.KernelPGIdeal.main_arg0)
      ∧ m' ((c.tc : Thread Cert.ReferencePGIdeal.nD Cert.ReferencePGIdeal.τ).loc Cert.ReferencePGIdeal.main_arg1) = m ((c.tc : Thread Cert.KernelPGIdeal.nD Cert.KernelPGIdeal.τ).loc Cert.KernelPGIdeal.main_arg1)) →
    ∃ (v0 : (c : Dev Cert.KernelPGIdeal.nD) → Buf (Elt Ideal) ((c.tc : Thread Cert.KernelPGIdeal.nD Cert.KernelPGIdeal.τ).loc Cert.KernelPGIdeal.main_v0)),
      θ_run (Cert.KernelPGIdeal.defs (F := Ideal)) (onTc (τ := Cert.KernelPGIdeal.τ) (Cert.KernelPGIdeal.main (F := Ideal))) ⟨m, fun _ => 0, g⟩ (fun r => ∀ c : Dev Cert.KernelPGIdeal.nD,
          r.2.mem ((c.tc : Thread Cert.KernelPGIdeal.nD Cert.KernelPGIdeal.τ).loc Cert.KernelPGIdeal.main_v0) = v0 c
          ∧ r.2.mem ((c.tc : Thread Cert.KernelPGIdeal.nD Cert.KernelPGIdeal.τ).loc Cert.KernelPGIdeal.main_arg0) = m ((c.tc : Thread Cert.KernelPGIdeal.nD Cert.KernelPGIdeal.τ).loc Cert.KernelPGIdeal.main_arg0)
          ∧ r.2.mem ((c.tc : Thread Cert.KernelPGIdeal.nD Cert.KernelPGIdeal.τ).loc Cert.KernelPGIdeal.main_arg1) = m ((c.tc : Thread Cert.KernelPGIdeal.nD Cert.KernelPGIdeal.τ).loc Cert.KernelPGIdeal.main_arg1))
      ∧ θ_run (Cert.ReferencePGIdeal.defs (F := Ideal)) (onTc (τ := Cert.ReferencePGIdeal.τ) (Cert.ReferencePGIdeal.main (F := Ideal))) ⟨m', fun _ => 0, g'⟩ (fun r => ∀ c : Dev Cert.ReferencePGIdeal.nD,
          r.2.mem ((c.tc : Thread Cert.ReferencePGIdeal.nD Cert.ReferencePGIdeal.τ).loc Cert.ReferencePGIdeal.main_v4) = v0 c
          ∧ r.2.mem ((c.tc : Thread Cert.ReferencePGIdeal.nD Cert.ReferencePGIdeal.τ).loc Cert.ReferencePGIdeal.main_arg0) = m' ((c.tc : Thread Cert.ReferencePGIdeal.nD Cert.ReferencePGIdeal.τ).loc Cert.ReferencePGIdeal.main_arg0)
          ∧ r.2.mem ((c.tc : Thread Cert.ReferencePGIdeal.nD Cert.ReferencePGIdeal.τ).loc Cert.ReferencePGIdeal.main_arg1) = m' ((c.tc : Thread Cert.ReferencePGIdeal.nD Cert.ReferencePGIdeal.τ).loc Cert.ReferencePGIdeal.main_arg1))

def preserves_KernelPC_KernelPCIdeal : Prop :=
  True

def algebraic_KernelPCIdeal_ReferencePCIdeal [hKernelPCIdeal : Cert.KernelPCIdeal.Facts] [hReferencePCIdeal : Cert.ReferencePCIdeal.Facts] : Prop :=
  ∀ (m : (ℓ : Loc Cert.KernelPCIdeal.nD Cert.KernelPCIdeal.τ Cert.KernelPCIdeal.sig) → Buf (Elt Ideal) ℓ) (g : Dev Cert.KernelPCIdeal.nD → PrngReg)
    (m' : (ℓ : Loc Cert.ReferencePCIdeal.nD Cert.ReferencePCIdeal.τ Cert.ReferencePCIdeal.sig) → Buf (Elt Ideal) ℓ) (g' : Dev Cert.ReferencePCIdeal.nD → PrngReg), Pre_KernelPCIdeal m →
    (∀ c : Dev Cert.KernelPCIdeal.nD,
      m' ((c.tc : Thread Cert.ReferencePCIdeal.nD Cert.ReferencePCIdeal.τ).loc Cert.ReferencePCIdeal.main_arg0) = m ((c.tc : Thread Cert.KernelPCIdeal.nD Cert.KernelPCIdeal.τ).loc Cert.KernelPCIdeal.main_arg0)
      ∧ m' ((c.tc : Thread Cert.ReferencePCIdeal.nD Cert.ReferencePCIdeal.τ).loc Cert.ReferencePCIdeal.main_arg1) = m ((c.tc : Thread Cert.KernelPCIdeal.nD Cert.KernelPCIdeal.τ).loc Cert.KernelPCIdeal.main_arg1)) →
    ∃ (v0 : (c : Dev Cert.KernelPCIdeal.nD) → Buf (Elt Ideal) ((c.tc : Thread Cert.KernelPCIdeal.nD Cert.KernelPCIdeal.τ).loc Cert.KernelPCIdeal.main_v0)),
      θ_run (Cert.KernelPCIdeal.defs (F := Ideal)) (onTc (τ := Cert.KernelPCIdeal.τ) (Cert.KernelPCIdeal.main (F := Ideal))) ⟨m, fun _ => 0, g⟩ (fun r => ∀ c : Dev Cert.KernelPCIdeal.nD,
          r.2.mem ((c.tc : Thread Cert.KernelPCIdeal.nD Cert.KernelPCIdeal.τ).loc Cert.KernelPCIdeal.main_v0) = v0 c
          ∧ r.2.mem ((c.tc : Thread Cert.KernelPCIdeal.nD Cert.KernelPCIdeal.τ).loc Cert.KernelPCIdeal.main_arg0) = m ((c.tc : Thread Cert.KernelPCIdeal.nD Cert.KernelPCIdeal.τ).loc Cert.KernelPCIdeal.main_arg0)
          ∧ r.2.mem ((c.tc : Thread Cert.KernelPCIdeal.nD Cert.KernelPCIdeal.τ).loc Cert.KernelPCIdeal.main_arg1) = m ((c.tc : Thread Cert.KernelPCIdeal.nD Cert.KernelPCIdeal.τ).loc Cert.KernelPCIdeal.main_arg1))
      ∧ θ_run (Cert.ReferencePCIdeal.defs (F := Ideal)) (onTc (τ := Cert.ReferencePCIdeal.τ) (Cert.ReferencePCIdeal.main (F := Ideal))) ⟨m', fun _ => 0, g'⟩ (fun r => ∀ c : Dev Cert.ReferencePCIdeal.nD,
          r.2.mem ((c.tc : Thread Cert.ReferencePCIdeal.nD Cert.ReferencePCIdeal.τ).loc Cert.ReferencePCIdeal.main_v4) = v0 c
          ∧ r.2.mem ((c.tc : Thread Cert.ReferencePCIdeal.nD Cert.ReferencePCIdeal.τ).loc Cert.ReferencePCIdeal.main_arg0) = m' ((c.tc : Thread Cert.ReferencePCIdeal.nD Cert.ReferencePCIdeal.τ).loc Cert.ReferencePCIdeal.main_arg0)
          ∧ r.2.mem ((c.tc : Thread Cert.ReferencePCIdeal.nD Cert.ReferencePCIdeal.τ).loc Cert.ReferencePCIdeal.main_arg1) = m' ((c.tc : Thread Cert.ReferencePCIdeal.nD Cert.ReferencePCIdeal.τ).loc Cert.ReferencePCIdeal.main_arg1))

def preserves_KernelX_KernelXIdeal : Prop :=
  True

def algebraic_KernelXIdeal_ReferenceXIdeal [hKernelXIdeal : Cert.KernelXIdeal.Facts] [hReferenceXIdeal : Cert.ReferenceXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)
      ∧ m' ((c.tc : Thread Cert.ReferenceXIdeal.nD Cert.ReferenceXIdeal.τ).loc Cert.ReferenceXIdeal.main_arg2) = m ((c.tc : Thread Cert.KernelXIdeal.nD Cert.KernelXIdeal.τ).loc Cert.KernelXIdeal.main_arg2)
      ∧ m' ((c.tc : Thread Cert.ReferenceXIdeal.nD Cert.ReferenceXIdeal.τ).loc Cert.ReferenceXIdeal.main_arg3) = m ((c.tc : Thread Cert.KernelXIdeal.nD Cert.KernelXIdeal.τ).loc Cert.KernelXIdeal.main_arg3)
      ∧ m' ((c.tc : Thread Cert.ReferenceXIdeal.nD Cert.ReferenceXIdeal.τ).loc Cert.ReferenceXIdeal.main_arg4) = m ((c.tc : Thread Cert.KernelXIdeal.nD Cert.KernelXIdeal.τ).loc Cert.KernelXIdeal.main_arg4)
      ∧ m' ((c.tc : Thread Cert.ReferenceXIdeal.nD Cert.ReferenceXIdeal.τ).loc Cert.ReferenceXIdeal.main_arg5) = m ((c.tc : Thread Cert.KernelXIdeal.nD Cert.KernelXIdeal.τ).loc Cert.KernelXIdeal.main_arg5)) →
    ∃ (v0 : (c : Dev Cert.KernelXIdeal.nD) → Buf (Elt Ideal) ((c.tc : Thread Cert.KernelXIdeal.nD Cert.KernelXIdeal.τ).loc Cert.KernelXIdeal.main_v0_0)) (v1 : (c : Dev Cert.KernelXIdeal.nD) → Buf (Elt Ideal) ((c.tc : Thread Cert.KernelXIdeal.nD Cert.KernelXIdeal.τ).loc Cert.KernelXIdeal.main_v0_1)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v0_0) = v0 c
          ∧ r.2.mem ((c.tc : Thread Cert.KernelXIdeal.nD Cert.KernelXIdeal.τ).loc Cert.KernelXIdeal.main_v0_1) = v1 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
          ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
          ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
          ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4)
          ∧ r.2.mem ((c.tc : Thread Cert.KernelXIdeal.nD Cert.KernelXIdeal.τ).loc Cert.KernelXIdeal.main_arg5) = m ((c.tc : Thread Cert.KernelXIdeal.nD Cert.KernelXIdeal.τ).loc Cert.KernelXIdeal.main_arg5))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v41) = v0 c
          ∧ r.2.mem ((c.tc : Thread Cert.ReferenceXIdeal.nD Cert.ReferenceXIdeal.τ).loc Cert.ReferenceXIdeal.main_v24) = v1 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1)
          ∧ r.2.mem ((c.tc : Thread Cert.ReferenceXIdeal.nD Cert.ReferenceXIdeal.τ).loc Cert.ReferenceXIdeal.main_arg2) = m' ((c.tc : Thread Cert.ReferenceXIdeal.nD Cert.ReferenceXIdeal.τ).loc Cert.ReferenceXIdeal.main_arg2)
          ∧ r.2.mem ((c.tc : Thread Cert.ReferenceXIdeal.nD Cert.ReferenceXIdeal.τ).loc Cert.ReferenceXIdeal.main_arg3) = m' ((c.tc : Thread Cert.ReferenceXIdeal.nD Cert.ReferenceXIdeal.τ).loc Cert.ReferenceXIdeal.main_arg3)
          ∧ r.2.mem ((c.tc : Thread Cert.ReferenceXIdeal.nD Cert.ReferenceXIdeal.τ).loc Cert.ReferenceXIdeal.main_arg4) = m' ((c.tc : Thread Cert.ReferenceXIdeal.nD Cert.ReferenceXIdeal.τ).loc Cert.ReferenceXIdeal.main_arg4)
          ∧ r.2.mem ((c.tc : Thread Cert.ReferenceXIdeal.nD Cert.ReferenceXIdeal.τ).loc Cert.ReferenceXIdeal.main_arg5) = m' ((c.tc : Thread Cert.ReferenceXIdeal.nD Cert.ReferenceXIdeal.τ).loc Cert.ReferenceXIdeal.main_arg5))

def preserves_KernelL_KernelLIdeal : Prop :=
  True

def algebraic_KernelLIdeal_ReferenceLIdeal [hKernelLIdeal : Cert.KernelLIdeal.Facts] [hReferenceLIdeal : Cert.ReferenceLIdeal.Facts] : Prop :=
  ∀ (m : (ℓ : Loc Cert.KernelLIdeal.nD Cert.KernelLIdeal.τ Cert.KernelLIdeal.sig) → Buf (Elt Ideal) ℓ) (g : Dev Cert.KernelLIdeal.nD → PrngReg)
    (m' : (ℓ : Loc Cert.ReferenceLIdeal.nD Cert.ReferenceLIdeal.τ Cert.ReferenceLIdeal.sig) → Buf (Elt Ideal) ℓ) (g' : Dev Cert.ReferenceLIdeal.nD → PrngReg), Pre_KernelLIdeal m →
    (∀ c : Dev Cert.KernelLIdeal.nD,
      m' ((c.tc : Thread Cert.ReferenceLIdeal.nD Cert.ReferenceLIdeal.τ).loc Cert.ReferenceLIdeal.main_arg0) = m ((c.tc : Thread Cert.KernelLIdeal.nD Cert.KernelLIdeal.τ).loc Cert.KernelLIdeal.main_arg0)
      ∧ m' ((c.tc : Thread Cert.ReferenceLIdeal.nD Cert.ReferenceLIdeal.τ).loc Cert.ReferenceLIdeal.main_arg1) = m ((c.tc : Thread Cert.KernelLIdeal.nD Cert.KernelLIdeal.τ).loc Cert.KernelLIdeal.main_arg1)
      ∧ m' ((c.tc : Thread Cert.ReferenceLIdeal.nD Cert.ReferenceLIdeal.τ).loc Cert.ReferenceLIdeal.main_arg2) = m ((c.tc : Thread Cert.KernelLIdeal.nD Cert.KernelLIdeal.τ).loc Cert.KernelLIdeal.main_arg2)
      ∧ m' ((c.tc : Thread Cert.ReferenceLIdeal.nD Cert.ReferenceLIdeal.τ).loc Cert.ReferenceLIdeal.main_arg3) = m ((c.tc : Thread Cert.KernelLIdeal.nD Cert.KernelLIdeal.τ).loc Cert.KernelLIdeal.main_arg3)
      ∧ m' ((c.tc : Thread Cert.ReferenceLIdeal.nD Cert.ReferenceLIdeal.τ).loc Cert.ReferenceLIdeal.main_arg4) = m ((c.tc : Thread Cert.KernelLIdeal.nD Cert.KernelLIdeal.τ).loc Cert.KernelLIdeal.main_arg4)) →
    ∃ (v0 : (c : Dev Cert.KernelLIdeal.nD) → Buf (Elt Ideal) ((c.tc : Thread Cert.KernelLIdeal.nD Cert.KernelLIdeal.τ).loc Cert.KernelLIdeal.main_v0_0)) (v1 : (c : Dev Cert.KernelLIdeal.nD) → Buf (Elt Ideal) ((c.tc : Thread Cert.KernelLIdeal.nD Cert.KernelLIdeal.τ).loc Cert.KernelLIdeal.main_v0_1)) (v2 : (c : Dev Cert.KernelLIdeal.nD) → Buf (Elt Ideal) ((c.tc : Thread Cert.KernelLIdeal.nD Cert.KernelLIdeal.τ).loc Cert.KernelLIdeal.main_v0_2)) (v3 : (c : Dev Cert.KernelLIdeal.nD) → Buf (Elt Ideal) ((c.tc : Thread Cert.KernelLIdeal.nD Cert.KernelLIdeal.τ).loc Cert.KernelLIdeal.main_v0_3)),
      θ_run (Cert.KernelLIdeal.defs (F := Ideal)) (onTc (τ := Cert.KernelLIdeal.τ) (Cert.KernelLIdeal.main (F := Ideal))) ⟨m, fun _ => 0, g⟩ (fun r => ∀ c : Dev Cert.KernelLIdeal.nD,
          r.2.mem ((c.tc : Thread Cert.KernelLIdeal.nD Cert.KernelLIdeal.τ).loc Cert.KernelLIdeal.main_v0_0) = v0 c
          ∧ r.2.mem ((c.tc : Thread Cert.KernelLIdeal.nD Cert.KernelLIdeal.τ).loc Cert.KernelLIdeal.main_v0_1) = v1 c
          ∧ r.2.mem ((c.tc : Thread Cert.KernelLIdeal.nD Cert.KernelLIdeal.τ).loc Cert.KernelLIdeal.main_v0_2) = v2 c
          ∧ r.2.mem ((c.tc : Thread Cert.KernelLIdeal.nD Cert.KernelLIdeal.τ).loc Cert.KernelLIdeal.main_v0_3) = v3 c
          ∧ r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
          ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
          ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
          ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
          ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4))
      ∧ θ_run (Cert.ReferenceLIdeal.defs (F := Ideal)) (onTc (τ := Cert.ReferenceLIdeal.τ) (Cert.ReferenceLIdeal.main (F := Ideal))) ⟨m', fun _ => 0, g'⟩ (fun r => ∀ c : Dev Cert.ReferenceLIdeal.nD,
          r.2.mem ((c.tc : Thread Cert.ReferenceLIdeal.nD Cert.ReferenceLIdeal.τ).loc Cert.ReferenceLIdeal.main_v52) = v0 c
          ∧ r.2.mem ((c.tc : Thread Cert.ReferenceLIdeal.nD Cert.ReferenceLIdeal.τ).loc Cert.ReferenceLIdeal.main_v53) = v1 c
          ∧ r.2.mem ((c.tc : Thread Cert.ReferenceLIdeal.nD Cert.ReferenceLIdeal.τ).loc Cert.ReferenceLIdeal.main_v36) = v2 c
          ∧ r.2.mem ((c.tc : Thread Cert.ReferenceLIdeal.nD Cert.ReferenceLIdeal.τ).loc Cert.ReferenceLIdeal.main_v54) = v3 c
          ∧ r.2.mem ((c.tc : Thread Cert.ReferenceLIdeal.nD Cert.ReferenceLIdeal.τ).loc Cert.ReferenceLIdeal.main_arg0) = m' ((c.tc : Thread Cert.ReferenceLIdeal.nD Cert.ReferenceLIdeal.τ).loc Cert.ReferenceLIdeal.main_arg0)
          ∧ r.2.mem ((c.tc : Thread Cert.ReferenceLIdeal.nD Cert.ReferenceLIdeal.τ).loc Cert.ReferenceLIdeal.main_arg1) = m' ((c.tc : Thread Cert.ReferenceLIdeal.nD Cert.ReferenceLIdeal.τ).loc Cert.ReferenceLIdeal.main_arg1)
          ∧ r.2.mem ((c.tc : Thread Cert.ReferenceLIdeal.nD Cert.ReferenceLIdeal.τ).loc Cert.ReferenceLIdeal.main_arg2) = m' ((c.tc : Thread Cert.ReferenceLIdeal.nD Cert.ReferenceLIdeal.τ).loc Cert.ReferenceLIdeal.main_arg2)
          ∧ r.2.mem ((c.tc : Thread Cert.ReferenceLIdeal.nD Cert.ReferenceLIdeal.τ).loc Cert.ReferenceLIdeal.main_arg3) = m' ((c.tc : Thread Cert.ReferenceLIdeal.nD Cert.ReferenceLIdeal.τ).loc Cert.ReferenceLIdeal.main_arg3)
          ∧ r.2.mem ((c.tc : Thread Cert.ReferenceLIdeal.nD Cert.ReferenceLIdeal.τ).loc Cert.ReferenceLIdeal.main_arg4) = m' ((c.tc : Thread Cert.ReferenceLIdeal.nD Cert.ReferenceLIdeal.τ).loc Cert.ReferenceLIdeal.main_arg4))

def preserves_KernelN_KernelNIdeal : Prop :=
  True

def algebraic_KernelNIdeal_ReferenceNIdeal [hKernelNIdeal : Cert.KernelNIdeal.Facts] [hReferenceNIdeal : Cert.ReferenceNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg)
    (m' : (ℓ : Loc Cert.ReferenceNIdeal.nD Cert.ReferenceNIdeal.τ Cert.ReferenceNIdeal.sig) → Buf (Elt Ideal) ℓ) (g' : Dev Cert.ReferenceNIdeal.nD → PrngReg), Pre_KernelNIdeal m →
    (∀ c : Dev Cert.KernelNIdeal.nD,
      m' ((c.tc : Thread Cert.ReferenceNIdeal.nD Cert.ReferenceNIdeal.τ).loc Cert.ReferenceNIdeal.main_arg0) = m ((c.tc : Thread Cert.KernelNIdeal.nD Cert.KernelNIdeal.τ).loc Cert.KernelNIdeal.main_arg0)
      ∧ m' ((c.tc : Thread Cert.ReferenceNIdeal.nD Cert.ReferenceNIdeal.τ).loc Cert.ReferenceNIdeal.main_arg1) = m ((c.tc : Thread Cert.KernelNIdeal.nD Cert.KernelNIdeal.τ).loc Cert.KernelNIdeal.main_arg1)) →
    ∃ (v0 : (c : Dev Cert.KernelNIdeal.nD) → Buf (Elt Ideal) ((c.tc : Thread Cert.KernelNIdeal.nD Cert.KernelNIdeal.τ).loc Cert.KernelNIdeal.main_v0)),
      θ_run (Cert.KernelNIdeal.defs (F := Ideal)) (onTc (τ := Cert.KernelNIdeal.τ) (Cert.KernelNIdeal.main (F := Ideal))) ⟨m, fun _ => 0, g⟩ (fun r => ∀ c : Dev Cert.KernelNIdeal.nD,
          r.2.mem ((c.tc : Thread Cert.KernelNIdeal.nD Cert.KernelNIdeal.τ).loc Cert.KernelNIdeal.main_v0) = v0 c
          ∧ r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
          ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1))
      ∧ θ_run (Cert.ReferenceNIdeal.defs (F := Ideal)) (onTc (τ := Cert.ReferenceNIdeal.τ) (Cert.ReferenceNIdeal.main (F := Ideal))) ⟨m', fun _ => 0, g'⟩ (fun r => ∀ c : Dev Cert.ReferenceNIdeal.nD,
          r.2.mem ((c.tc : Thread Cert.ReferenceNIdeal.nD Cert.ReferenceNIdeal.τ).loc Cert.ReferenceNIdeal.main_v12) = v0 c
          ∧ r.2.mem ((c.tc : Thread Cert.ReferenceNIdeal.nD Cert.ReferenceNIdeal.τ).loc Cert.ReferenceNIdeal.main_arg0) = m' ((c.tc : Thread Cert.ReferenceNIdeal.nD Cert.ReferenceNIdeal.τ).loc Cert.ReferenceNIdeal.main_arg0)
          ∧ r.2.mem ((c.tc : Thread Cert.ReferenceNIdeal.nD Cert.ReferenceNIdeal.τ).loc Cert.ReferenceNIdeal.main_arg1) = m' ((c.tc : Thread Cert.ReferenceNIdeal.nD Cert.ReferenceNIdeal.τ).loc Cert.ReferenceNIdeal.main_arg1))

def preserves_KernelA_KernelAIdeal : Prop :=
  IdealRules.named_const.Statement Cert.KernelAIdeal.κ "first_correction" .f32 0x3FC48605#32 ((8388608 / 5463681 : ℝ) : EReal)
  ∧ IdealRules.named_const.Statement Cert.KernelAIdeal.κ "second_correction" .f32 0x42C8E6D3#32 ((268435456 / 2672307 : ℝ) : EReal)

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)
      ∧ m' ((c.tc : Thread Cert.ReferenceAIdeal.nD Cert.ReferenceAIdeal.τ).loc Cert.ReferenceAIdeal.main_arg4) = m ((c.tc : Thread Cert.KernelAIdeal.nD Cert.KernelAIdeal.τ).loc Cert.KernelAIdeal.main_arg4)) →
    ∃ (v0 : (c : Dev Cert.KernelAIdeal.nD) → Buf (Elt Ideal) ((c.tc : Thread Cert.KernelAIdeal.nD Cert.KernelAIdeal.τ).loc Cert.KernelAIdeal.main_v0_0)) (v1 : (c : Dev Cert.KernelAIdeal.nD) → Buf (Elt Ideal) ((c.tc : Thread Cert.KernelAIdeal.nD Cert.KernelAIdeal.τ).loc Cert.KernelAIdeal.main_v0_1)) (v2 : (c : Dev Cert.KernelAIdeal.nD) → Buf (Elt Ideal) ((c.tc : Thread Cert.KernelAIdeal.nD Cert.KernelAIdeal.τ).loc Cert.KernelAIdeal.main_v0_2)) (v3 : (c : Dev Cert.KernelAIdeal.nD) → Buf (Elt Ideal) ((c.tc : Thread Cert.KernelAIdeal.nD Cert.KernelAIdeal.τ).loc Cert.KernelAIdeal.main_v0_3)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v0_0) = v0 c
          ∧ r.2.mem ((c.tc : Thread Cert.KernelAIdeal.nD Cert.KernelAIdeal.τ).loc Cert.KernelAIdeal.main_v0_1) = v1 c
          ∧ r.2.mem ((c.tc : Thread Cert.KernelAIdeal.nD Cert.KernelAIdeal.τ).loc Cert.KernelAIdeal.main_v0_2) = v2 c
          ∧ r.2.mem ((c.tc : Thread Cert.KernelAIdeal.nD Cert.KernelAIdeal.τ).loc Cert.KernelAIdeal.main_v0_3) = v3 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
          ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v0) = v0 c
          ∧ r.2.mem ((c.tc : Thread Cert.ReferenceAIdeal.nD Cert.ReferenceAIdeal.τ).loc Cert.ReferenceAIdeal.main_v24) = v1 c
          ∧ r.2.mem ((c.tc : Thread Cert.ReferenceAIdeal.nD Cert.ReferenceAIdeal.τ).loc Cert.ReferenceAIdeal.main_v5) = v2 c
          ∧ r.2.mem ((c.tc : Thread Cert.ReferenceAIdeal.nD Cert.ReferenceAIdeal.τ).loc Cert.ReferenceAIdeal.main_v11) = v3 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3)
          ∧ r.2.mem ((c.tc : Thread Cert.ReferenceAIdeal.nD Cert.ReferenceAIdeal.τ).loc Cert.ReferenceAIdeal.main_arg4) = m' ((c.tc : Thread Cert.ReferenceAIdeal.nD Cert.ReferenceAIdeal.τ).loc Cert.ReferenceAIdeal.main_arg4))

def Claim : Prop :=
  ∃ (hKernel : Cert.Kernel.Facts) (hKernelIdeal : Cert.KernelIdeal.Facts) (hReferenceIdeal : Cert.ReferenceIdeal.Facts) (hKernelG : Cert.KernelG.Facts) (hKernelGIdeal : Cert.KernelGIdeal.Facts) (hReferenceGIdeal : Cert.ReferenceGIdeal.Facts) (hKernelC : Cert.KernelC.Facts) (hKernelCIdeal : Cert.KernelCIdeal.Facts) (hReferenceCIdeal : Cert.ReferenceCIdeal.Facts) (hKernelO : Cert.KernelO.Facts) (hKernelOIdeal : Cert.KernelOIdeal.Facts) (hReferenceOIdeal : Cert.ReferenceOIdeal.Facts) (hKernelH : Cert.KernelH.Facts) (hKernelHIdeal : Cert.KernelHIdeal.Facts) (hReferenceHIdeal : Cert.ReferenceHIdeal.Facts) (hKernelPG : Cert.KernelPG.Facts) (hKernelPGIdeal : Cert.KernelPGIdeal.Facts) (hReferencePGIdeal : Cert.ReferencePGIdeal.Facts) (hKernelPC : Cert.KernelPC.Facts) (hKernelPCIdeal : Cert.KernelPCIdeal.Facts) (hReferencePCIdeal : Cert.ReferencePCIdeal.Facts) (hKernelX : Cert.KernelX.Facts) (hKernelXIdeal : Cert.KernelXIdeal.Facts) (hReferenceXIdeal : Cert.ReferenceXIdeal.Facts) (hKernelL : Cert.KernelL.Facts) (hKernelLIdeal : Cert.KernelLIdeal.Facts) (hReferenceLIdeal : Cert.ReferenceLIdeal.Facts) (hKernelN : Cert.KernelN.Facts) (hKernelNIdeal : Cert.KernelNIdeal.Facts) (hReferenceNIdeal : Cert.ReferenceNIdeal.Facts) (hKernelA : Cert.KernelA.Facts) (hKernelAIdeal : Cert.KernelAIdeal.Facts) (hReferenceAIdeal : Cert.ReferenceAIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelG (hKernelG := hKernelG)
    ∧ quiescent_KernelGIdeal (hKernelGIdeal := hKernelGIdeal)
    ∧ quiescent_ReferenceGIdeal (hReferenceGIdeal := hReferenceGIdeal)
    ∧ quiescent_KernelC (hKernelC := hKernelC)
    ∧ quiescent_KernelCIdeal (hKernelCIdeal := hKernelCIdeal)
    ∧ quiescent_ReferenceCIdeal (hReferenceCIdeal := hReferenceCIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelH (hKernelH := hKernelH)
    ∧ quiescent_KernelHIdeal (hKernelHIdeal := hKernelHIdeal)
    ∧ quiescent_ReferenceHIdeal (hReferenceHIdeal := hReferenceHIdeal)
    ∧ quiescent_KernelPG (hKernelPG := hKernelPG)
    ∧ quiescent_KernelPGIdeal (hKernelPGIdeal := hKernelPGIdeal)
    ∧ quiescent_ReferencePGIdeal (hReferencePGIdeal := hReferencePGIdeal)
    ∧ quiescent_KernelPC (hKernelPC := hKernelPC)
    ∧ quiescent_KernelPCIdeal (hKernelPCIdeal := hKernelPCIdeal)
    ∧ quiescent_ReferencePCIdeal (hReferencePCIdeal := hReferencePCIdeal)
    ∧ quiescent_KernelX (hKernelX := hKernelX)
    ∧ quiescent_KernelXIdeal (hKernelXIdeal := hKernelXIdeal)
    ∧ quiescent_ReferenceXIdeal (hReferenceXIdeal := hReferenceXIdeal)
    ∧ quiescent_KernelL (hKernelL := hKernelL)
    ∧ quiescent_KernelLIdeal (hKernelLIdeal := hKernelLIdeal)
    ∧ quiescent_ReferenceLIdeal (hReferenceLIdeal := hReferenceLIdeal)
    ∧ quiescent_KernelN (hKernelN := hKernelN)
    ∧ quiescent_KernelNIdeal (hKernelNIdeal := hKernelNIdeal)
    ∧ quiescent_ReferenceNIdeal (hReferenceNIdeal := hReferenceNIdeal)
    ∧ quiescent_KernelA (hKernelA := hKernelA)
    ∧ quiescent_KernelAIdeal (hKernelAIdeal := hKernelAIdeal)
    ∧ quiescent_ReferenceAIdeal (hReferenceAIdeal := hReferenceAIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelG_KernelGIdeal
    ∧ algebraic_KernelGIdeal_ReferenceGIdeal (hKernelGIdeal := hKernelGIdeal) (hReferenceGIdeal := hReferenceGIdeal)
    ∧ preserves_KernelC_KernelCIdeal
    ∧ algebraic_KernelCIdeal_ReferenceCIdeal (hKernelCIdeal := hKernelCIdeal) (hReferenceCIdeal := hReferenceCIdeal)
    ∧ preserves_KernelO_KernelOIdeal
    ∧ algebraic_KernelOIdeal_ReferenceOIdeal (hKernelOIdeal := hKernelOIdeal) (hReferenceOIdeal := hReferenceOIdeal)
    ∧ preserves_KernelH_KernelHIdeal
    ∧ algebraic_KernelHIdeal_ReferenceHIdeal (hKernelHIdeal := hKernelHIdeal) (hReferenceHIdeal := hReferenceHIdeal)
    ∧ preserves_KernelPG_KernelPGIdeal
    ∧ algebraic_KernelPGIdeal_ReferencePGIdeal (hKernelPGIdeal := hKernelPGIdeal) (hReferencePGIdeal := hReferencePGIdeal)
    ∧ preserves_KernelPC_KernelPCIdeal
    ∧ algebraic_KernelPCIdeal_ReferencePCIdeal (hKernelPCIdeal := hKernelPCIdeal) (hReferencePCIdeal := hReferencePCIdeal)
    ∧ preserves_KernelX_KernelXIdeal
    ∧ algebraic_KernelXIdeal_ReferenceXIdeal (hKernelXIdeal := hKernelXIdeal) (hReferenceXIdeal := hReferenceXIdeal)
    ∧ preserves_KernelL_KernelLIdeal
    ∧ algebraic_KernelLIdeal_ReferenceLIdeal (hKernelLIdeal := hKernelLIdeal) (hReferenceLIdeal := hReferenceLIdeal)
    ∧ preserves_KernelN_KernelNIdeal
    ∧ algebraic_KernelNIdeal_ReferenceNIdeal (hKernelNIdeal := hKernelNIdeal) (hReferenceNIdeal := hReferenceNIdeal)
    ∧ preserves_KernelA_KernelAIdeal
    ∧ algebraic_KernelAIdeal_ReferenceAIdeal (hKernelAIdeal := hKernelAIdeal) (hReferenceAIdeal := hReferenceAIdeal)
-- ==== Pre_finite.lean ====
abbrev S2048x1024 : Shape := ⟨2, ![2048, 1024]⟩
abbrev S2048x128 : Shape := ⟨2, ![2048, 128]⟩
abbrev S32x8x64x64 : Shape := ⟨4, ![32, 8, 64, 64]⟩
abbrev S32x128x1024 : Shape := ⟨3, ![32, 128, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  bitsLt_bf16_f32 : FTy.bits .bf16 < FTy.bits .f32
  bcast_S_S32x8x64x64 : S_.BroadcastsInDim S32x8x64x64 (![] : Fin 0 → Fin S32x8x64x64.rank)
  reducesTo_S32x8x64x64_S_d0_1_2_3 : S32x8x64x64.ReducesTo [0, 1, 2, 3] S_
  bcast_S_S32x128x1024 : S_.BroadcastsInDim S32x128x1024 (![] : Fin 0 → Fin S32x128x1024.rank)
  reducesTo_S32x128x1024_S_d0_1_2 : S32x128x1024.ReducesTo [0, 1, 2] S_

variable [Facts]

def fn_part2 {F : FTy → Type} [FloatOps F] (main_arg7 : FVec F S2048x1024 .bf16) (main_v30 : IVec S_ 1) (main_v34 : IVec S32x128x1024 1) : IVec S_ 1 :=
  let main_c_11 : IVec S_ 1 := constantI S_ 1 1#1
  let main_v35 : IVec S_ 1 := (fun x v => Host.reduce IntOp.andi x v reducesTo_S32x128x1024_S_d0_1_2 h_S_) main_v34 main_c_11
  let main_v36 : IVec S_ 1 := andi main_v30 main_v35
  let main_v37 : FVec F S2048x1024 .f32 := (extf .f32 · bitsLt_bf16_f32) main_arg7
  let main_v38 : FVec F S2048x1024 .f32 := Host.absf main_v37
  let main_cst_12 : FVec F S_ .f32 := constant S_ .f32 0x7F800000#32
  let main_v39 : FVec F S2048x1024 .f32 := broadcastInDim S2048x1024 ![] bcast_S_S2048x1024 main_cst_12
  let main_v40 : IVec S2048x1024 1 := cmpf .olt main_v38 main_v39
  let main_c_13 : IVec S_ 1 := constantI S_ 1 1#1
  let main_v41 : IVec S_ 1 := (fun x v => Host.reduce IntOp.andi x v reducesTo_S2048x1024_S_d0_1 h_S_) main_v40 main_c_13
  let main_v42 : IVec S_ 1 := andi main_v36 main_v41
  main_v42

def fn_part1 {F : FTy → Type} [FloatOps F] (main_arg4 : FVec F S32x8x64x64 .f32) (main_arg5 : FVec F S2048x1024 .bf16) (main_arg6 : FVec F S32x128x1024 .bf16) (main_arg7 : FVec F S2048x1024 .bf16) (main_v13 : IVec S_ 1) (main_v15 : FVec F S2048x1024 .f32) (main_v16 : FVec F S2048x1024 .f32) : IVec S_ 1 :=
  let main_v17 : IVec S2048x1024 1 := cmpf .olt main_v15 main_v16
  let main_c_5 : IVec S_ 1 := constantI S_ 1 1#1
  let main_v18 : IVec S_ 1 := (fun x v => Host.reduce IntOp.andi x v reducesTo_S2048x1024_S_d0_1 h_S_) main_v17 main_c_5
  let main_v19 : IVec S_ 1 := andi main_v13 main_v18
  let main_v20 : FVec F S32x8x64x64 .f32 := Host.absf main_arg4
  let main_cst_6 : FVec F S_ .f32 := constant S_ .f32 0x7F800000#32
  let main_v21 : FVec F S32x8x64x64 .f32 := broadcastInDim S32x8x64x64 ![] bcast_S_S32x8x64x64 main_cst_6
  let main_v22 : IVec S32x8x64x64 1 := cmpf .olt main_v20 main_v21
  let main_c_7 : IVec S_ 1 := constantI S_ 1 1#1
  let main_v23 : IVec S_ 1 := (fun x v => Host.reduce IntOp.andi x v reducesTo_S32x8x64x64_S_d0_1_2_3 h_S_) main_v22 main_c_7
  let main_v24 : IVec S_ 1 := andi main_v19 main_v23
  let main_v25 : FVec F S2048x1024 .f32 := (extf .f32 · bitsLt_bf16_f32) main_arg5
  let main_v26 : FVec F S2048x1024 .f32 := Host.absf main_v25
  let main_cst_8 : FVec F S_ .f32 := constant S_ .f32 0x7F800000#32
  let main_v27 : FVec F S2048x1024 .f32 := broadcastInDim S2048x1024 ![] bcast_S_S2048x1024 main_cst_8
  let main_v28 : IVec S2048x1024 1 := cmpf .olt main_v26 main_v27
  let main_c_9 : IVec S_ 1 := constantI S_ 1 1#1
  let main_v29 : IVec S_ 1 := (fun x v => Host.reduce IntOp.andi x v reducesTo_S2048x1024_S_d0_1 h_S_) main_v28 main_c_9
  let main_v30 : IVec S_ 1 := andi main_v24 main_v29
  let main_v31 : FVec F S32x128x1024 .f32 := (extf .f32 · bitsLt_bf16_f32) main_arg6
  let main_v32 : FVec F S32x128x1024 .f32 := Host.absf main_v31
  let main_cst_10 : FVec F S_ .f32 := constant S_ .f32 0x7F800000#32
  let main_v33 : FVec F S32x128x1024 .f32 := broadcastInDim S32x128x1024 ![] bcast_S_S32x128x1024 main_cst_10
  let main_v34 : IVec S32x128x1024 1 := cmpf .olt main_v32 main_v33
  fn_part2 (F := F) main_arg7 main_v30 main_v34

def fn {F : FTy → Type} [FloatOps F] (main_arg0 : FVec F S2048x1024 .f32) (main_arg1 : FVec F S2048x1024 .f32) (main_arg2 : FVec F S2048x128 .f32) (main_arg3 : FVec F S2048x1024 .bf16) (main_arg4 : FVec F S32x8x64x64 .f32) (main_arg5 : FVec F S2048x1024 .bf16) (main_arg6 : FVec F S32x128x1024 .bf16) (main_arg7 : FVec F S2048x1024 .bf16) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x128 .f32 := Host.absf main_arg2
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S2048x1024 .f32 := (extf .f32 · bitsLt_bf16_f32) main_arg3
  let main_v15 : FVec F S2048x1024 .f32 := Host.absf main_v14
  let main_cst_4 : FVec F S_ .f32 := constant S_ .f32 0x7F800000#32
  let main_v16 : FVec F S2048x1024 .f32 := broadcastInDim S2048x1024 ![] bcast_S_S2048x1024 main_cst_4
  fn_part1 (F := F) main_arg4 main_arg5 main_arg6 main_arg7 main_v13 main_v15 main_v16
-- ==== Kernel.lean ====
abbrev S2048x1024 : Shape := ⟨2, ![2048, 1024]⟩
abbrev S2048x128 : Shape := ⟨2, ![2048, 128]⟩
abbrev S32x8x64x64 : Shape := ⟨4, ![32, 8, 64, 64]⟩
abbrev S32x128x1024 : Shape := ⟨3, ![32, 128, 1024]⟩
abbrev S32x8x128 : Shape := ⟨3, ![32, 8, 128]⟩
abbrev S256x1024 : Shape := ⟨2, ![256, 1024]⟩
abbrev S256x128 : Shape := ⟨2, ![256, 128]⟩
abbrev S4x8x64x64 : Shape := ⟨4, ![4, 8, 64, 64]⟩
abbrev S4x128x1024 : Shape := ⟨3, ![4, 128, 1024]⟩
abbrev S4x8x128 : Shape := ⟨3, ![4, 8, 128]⟩
abbrev S8x128x128 : Shape := ⟨3, ![8, 128, 128]⟩
abbrev S1x128 : Shape := ⟨2, ![1, 128]⟩
abbrev S1x128x128 : Shape := ⟨3, ![1, 128, 128]⟩
abbrev S128x128 : Shape := ⟨2, ![128, 128]⟩
abbrev S64x128 : Shape := ⟨2, ![64, 128]⟩
abbrev S64x1 : Shape := ⟨2, ![64, 1]⟩
abbrev S1x1 : Shape := ⟨2, ![1, 1]⟩
abbrev S64x64 : Shape := ⟨2, ![64, 64]⟩
abbrev S1x1x64x64 : Shape := ⟨4, ![1, 1, 64, 64]⟩
abbrev S128 : Shape := ⟨1, ![128]⟩
abbrev S128x1 : Shape := ⟨2, ![128, 1]⟩
abbrev S1 : Shape := ⟨1, ![1]⟩
abbrev S8x128 : Shape := ⟨2, ![8, 128]⟩
abbrev S1x8x128 : Shape := ⟨3, ![1, 8, 128]⟩

abbrev nBuf : Space → Nat
  | .hbm => 14
  | .vmem => 29
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x128, .f32⟩
  | .hbm, ⟨3, _⟩ => ⟨S2048x1024, .bf16⟩
  | .hbm, ⟨4, _⟩ => ⟨S32x8x64x64, .f32⟩
  | .hbm, ⟨5, _⟩ => ⟨S2048x1024, .bf16⟩
  | .hbm, ⟨6, _⟩ => ⟨S32x128x1024, .bf16⟩
  | .hbm, ⟨7, _⟩ => ⟨S2048x1024, .bf16⟩
  | .hbm, ⟨8, _⟩ => ⟨S2048x1024, .f32⟩
  | .hbm, ⟨9, _⟩ => ⟨S32x8x64x64, .f32⟩
  | .hbm, ⟨10, _⟩ => ⟨S2048x1024, .bf16⟩
  | .hbm, ⟨11, _⟩ => ⟨S2048x1024, .bf16⟩
  | .hbm, ⟨12, _⟩ => ⟨S2048x1024, .f32⟩
  | .hbm, ⟨13, _⟩ => ⟨S32x8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S256x1024, .bf16⟩
  | .local _ .vmem, ⟨7, _⟩ => ⟨S256x1024, .bf16⟩
  | .local _ .vmem, ⟨8, _⟩ => ⟨S4x8x64x64, .f32⟩
  | .local _ .vmem, ⟨9, _⟩ => ⟨S4x8x64x64, .f32⟩
  | .local _ .vmem, ⟨10, _⟩ => ⟨S256x1024, .bf16⟩
  | .local _ .vmem, ⟨11, _⟩ => ⟨S256x1024, .bf16⟩
  | .local _ .vmem, ⟨12, _⟩ => ⟨S4x128x1024, .bf16⟩
  | .local _ .vmem, ⟨13, _⟩ => ⟨S4x128x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S4x8x64x64, .f32⟩
  | .local _ .vmem, ⟨19, _⟩ => ⟨S4x8x64x64, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .f32⟩
  | .local _ .vmem, ⟨25, _⟩ => ⟨S256x1024, .f32⟩
  | .local _ .vmem, ⟨26, _⟩ => ⟨S4x8x128, .f32⟩
  | .local _ .vmem, ⟨27, _⟩ => ⟨S4x8x128, .f32⟩
  | .local _ .vmem, ⟨28, _⟩ => ⟨S8x128x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x8x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2048x1024 : Shape := ⟨2, ![2048, 1024]⟩
abbrev S2048x128 : Shape := ⟨2, ![2048, 128]⟩
abbrev S32x8x64x64 : Shape := ⟨4, ![32, 8, 64, 64]⟩
abbrev S32x128x1024 : Shape := ⟨3, ![32, 128, 1024]⟩
abbrev S2048x8 : Shape := ⟨2, ![2048, 8]⟩
abbrev S32x64x8 : Shape := ⟨3, ![32, 64, 8]⟩
abbrev S32x8x64 : Shape := ⟨3, ![32, 8, 64]⟩
abbrev S32x64x8x128 : Shape := ⟨4, ![32, 64, 8, 128]⟩
abbrev S32x8x64x128 : Shape := ⟨4, ![32, 8, 64, 128]⟩
abbrev S32x8x64x1 : Shape := ⟨4, ![32, 8, 64, 1]⟩
abbrev S32x8x1 : Shape := ⟨3, ![32, 8, 1]⟩
abbrev S32x8 : Shape := ⟨2, ![32, 8]⟩
abbrev S32x128x8x128 : Shape := ⟨4, ![32, 128, 8, 128]⟩
abbrev S32x8x128x128 : Shape := ⟨4, ![32, 8, 128, 128]⟩
abbrev S_ : Shape := ⟨0, ![]⟩
abbrev S8x128x128 : Shape := ⟨3, ![8, 128, 128]⟩
abbrev S1x8x128x128 : Shape := ⟨4, ![1, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S8x128x64 : Shape := ⟨3, ![8, 128, 64]⟩
abbrev S32x128 : Shape := ⟨2, ![32, 128]⟩
abbrev S32x1x128 : Shape := ⟨3, ![32, 1, 128]⟩
abbrev S32x8x128 : Shape := ⟨3, ![32, 8, 128]⟩

abbrev nBuf : Space → Nat
  | .hbm => 198
  | .vmem => 0
  | .smem => 0
  | _ => 0

abbrev hbmTy0_0 (i : Nat) : BufTy := match i % 128 with
  | 0 => ⟨S2048x1024, .f32⟩
  | 1 => ⟨S2048x1024, .f32⟩
  | 2 => ⟨S2048x128, .f32⟩
  | 3 => ⟨S2048x1024, .bf16⟩
  | 4 => ⟨S32x8x64x64, .f32⟩
  | 5 => ⟨S2048x1024, .bf16⟩
  | 6 => ⟨S32x128x1024, .bf16⟩
  | 7 => ⟨S2048x1024, .bf16⟩
  | 8 => ⟨S2048x8, .f32⟩
  | 9 => ⟨S32x64x8, .f32⟩
  | 10 => ⟨S32x8x64, .f32⟩
  | 11 => ⟨S32x64x8x128, .f32⟩
  | 12 => ⟨S32x8x64x128, .f32⟩
  | 13 => ⟨S32x8x64, .f32⟩
  | 14 => ⟨S32x8x64x1, .f32⟩
  | 15 => ⟨S32x8x64x128, .f32⟩
  | 16 => ⟨S32x8x64x128, .f32⟩
  | 17 => ⟨S32x64x8x128, .f32⟩
  | 18 => ⟨S32x8x64x128, .f32⟩
  | 19 => ⟨S32x8x1, .f32⟩
  | 20 => ⟨S32x8x64, .f32⟩
  | 21 => ⟨S32x8x64, .f32⟩
  | 22 => ⟨S32x8x64, .f32⟩
  | 23 => ⟨S32x8x64x1, .f32⟩
  | 24 => ⟨S32x8x64x128, .f32⟩
  | 25 => ⟨S32x8x64x128, .f32⟩
  | 26 => ⟨S32x8x1, .f32⟩
  | 27 => ⟨S32x8, .f32⟩
  | 28 => ⟨S32x8, .f32⟩
  | 29 => ⟨S2048x1024, .f32⟩
  | 30 => ⟨S32x64x8x128, .f32⟩
  | 31 => ⟨S32x8x64x128, .f32⟩
  | 32 => ⟨S2048x1024, .f32⟩
  | 33 => ⟨S32x64x8x128, .f32⟩
  | 34 => ⟨S32x8x64x128, .f32⟩
  | 35 => ⟨S2048x1024, .f32⟩
  | 36 => ⟨S32x64x8x128, .f32⟩
  | 37 => ⟨S32x8x64x128, .f32⟩
  | 38 => ⟨S32x128x1024, .f32⟩
  | 39 => ⟨S32x128x8x128, .f32⟩
  | 40 => ⟨S32x8x128x128, .f32⟩
  | 41 => ⟨S32x8x64x128, .f32⟩
  | 42 => ⟨S32x8x64x128, .f32⟩
  | 43 => ⟨S_, .f32⟩
  | 44 => ⟨S8x128x128, .f32⟩
  | 45 => ⟨S_, .f32⟩
  | 46 => ⟨S32x8x64x128, .f32⟩
  | 47 => ⟨S_, .f32⟩
  | 48 => ⟨S32x8x64x128, .f32⟩
  | 49 => ⟨S_, .f32⟩
  | 50 => ⟨S32x8x64x128, .f32⟩
  | 51 => ⟨S_, .f32⟩
  | 52 => ⟨S32x8x64x64, .f32⟩
  | 53 => ⟨S_, .f32⟩
  | 54 => ⟨S32x8x64x128, .f32⟩
  | 55 => ⟨S_, .f32⟩
  | 56 => ⟨S32x8, .f32⟩
  | 57 => ⟨S_, .i32⟩
  | 58 => ⟨S32x8x128x128, .f32⟩
  | 59 => ⟨S32x8x64x128, .f32⟩
  | 60 => ⟨S32x8x64x128, .f32⟩
  | 61 => ⟨S32x8x64x128, .f32⟩
  | 62 => ⟨S32x8x64x64, .f32⟩
  | 63 => ⟨S32x8x64x128, .f32⟩
  | 64 => ⟨S32x8, .f32⟩
  | 65 => ⟨S32x8x64x128, .f32⟩
  | 66 => ⟨S_, .i32⟩
  | 67 => ⟨S8x128x128, .f32⟩
  | 68 => ⟨S32x8x64x128, .f32⟩
  | 69 => ⟨S32x8x64x128, .f32⟩
  | 70 => ⟨S32x8x64x128, .f32⟩
  | 71 => ⟨S32x8x64x64, .f32⟩
  | 72 => ⟨S32x8x64x128, .f32⟩
  | 73 => ⟨S32x8, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S1x8x128x128, .f32⟩
  | 84 => ⟨S8x128x128, .f32⟩
  | 85 => ⟨S_, .i32⟩
  | 86 => ⟨S_, .i32⟩
  | 87 => ⟨S_, .i32⟩
  | 88 => ⟨S1x8x64x128, .f32⟩
  | 89 => ⟨S8x64x128, .f32⟩
  | 90 => ⟨S_, .i32⟩
  | 91 => ⟨S_, .i32⟩
  | 92 => ⟨S_, .i32⟩
  | 93 => ⟨S1x8x64x128, .f32⟩
  | 94 => ⟨S8x64x128, .f32⟩
  | 95 => ⟨S_, .i32⟩
  | 96 => ⟨S_, .i32⟩
  | 97 => ⟨S_, .i32⟩
  | 98 => ⟨S1x8x64x128, .f32⟩
  | 99 => ⟨S8x64x128, .f32⟩
  | 100 => ⟨S_, .i32⟩
  | 101 => ⟨S_, .i32⟩
  | 102 => ⟨S_, .i32⟩
  | 103 => ⟨S1x8x64x64, .f32⟩
  | 104 => ⟨S8x64x64, .f32⟩
  | 105 => ⟨S_, .i32⟩
  | 106 => ⟨S_, .i32⟩
  | 107 => ⟨S_, .i32⟩
  | 108 => ⟨S1x8x64x128, .f32⟩
  | 109 => ⟨S8x64x128, .f32⟩
  | 110 => ⟨S_, .i32⟩
  | 111 => ⟨S1x8, .f32⟩
  | 112 => ⟨S8, .f32⟩
  | 113 => ⟨S_, .i32⟩
  | 114 => ⟨S_, .i32⟩
  | 115 => ⟨S_, .i32⟩
  | 116 => ⟨S1x8x64x128, .f32⟩
  | 117 => ⟨S8x64x128, .f32⟩
  | 118 => ⟨S8x64x128, .f32⟩
  | 119 => ⟨S8x64x128, .f32⟩
  | 120 => ⟨S8x64x128, .f32⟩
  | 121 => ⟨S8x64x128, .f32⟩
  | 122 => ⟨S8x64x128, .f32⟩
  | 123 => ⟨S8x1x1, .f32⟩
  | 124 => ⟨S8x128x128, .f32⟩
  | 125 => ⟨S8x128x128, .f32⟩
  | 126 => ⟨S8x128x128, .f32⟩
  | 127 => ⟨S8x128x128, .f32⟩
  | _ => ⟨S2048x1024, .f32⟩

abbrev hbmTy0_1 (i : Nat) : BufTy := match i % 128 with
  | 0 => ⟨S8x128x64, .f32⟩
  | 1 => ⟨S8x64x128, .f32⟩
  | 2 => ⟨S8x128x64, .f32⟩
  | 3 => ⟨S8x64x128, .f32⟩
  | 4 => ⟨S8x128x128, .f32⟩
  | 5 => ⟨S_, .f32⟩
  | 6 => ⟨S8, .f32⟩
  | 7 => ⟨S8x1x1, .f32⟩
  | 8 => ⟨S8x128x128, .f32⟩
  | 9 => ⟨S8x128x128, .f32⟩
  | 10 => ⟨S_, .f32⟩
  | 11 => ⟨S8, .f32⟩
  | 12 => ⟨S8x128x64, .f32⟩
  | 13 => ⟨S8x64x128, .f32⟩
  | 14 => ⟨S8x64x128, .f32⟩
  | 15 => ⟨S8x64x64, .f32⟩
  | 16 => ⟨S8x128x128, .f32⟩
  | 17 => ⟨S8x128x128, .f32⟩
  | 18 => ⟨S8x128x128, .f32⟩
  | 19 => ⟨S8x64x128, .f32⟩
  | 20 => ⟨S8x64x128, .f32⟩
  | 21 => ⟨S8x128x128, .f32⟩
  | 22 => ⟨S8x128x128, .f32⟩
  | 23 => ⟨S8x128x128, .f32⟩
  | 24 => ⟨S8x64x128, .f32⟩
  | 25 => ⟨S1x8x64x128, .f32⟩
  | 26 => ⟨S_, .i32⟩
  | 27 => ⟨S_, .i32⟩
  | 28 => ⟨S_, .i32⟩
  | 29 => ⟨S32x8x64x128, .f32⟩
  | 30 => ⟨S1x8x64x128, .f32⟩
  | 31 => ⟨S_, .i32⟩
  | 32 => ⟨S_, .i32⟩
  | 33 => ⟨S_, .i32⟩
  | 34 => ⟨S32x8x64x128, .f32⟩
  | 35 => ⟨S1x8x64x128, .f32⟩
  | 36 => ⟨S_, .i32⟩
  | 37 => ⟨S_, .i32⟩
  | 38 => ⟨S_, .i32⟩
  | 39 => ⟨S32x8x64x128, .f32⟩
  | 40 => ⟨S1x8x64x64, .f32⟩
  | 41 => ⟨S_, .i32⟩
  | 42 => ⟨S_, .i32⟩
  | 43 => ⟨S_, .i32⟩
  | 44 => ⟨S32x8x64x64, .f32⟩
  | 45 => ⟨S1x8x64x128, .f32⟩
  | 46 => ⟨S_, .i32⟩
  | 47 => ⟨S_, .i32⟩
  | 48 => ⟨S_, .i32⟩
  | 49 => ⟨S32x8x64x128, .f32⟩
  | 50 => ⟨S1x8, .f32⟩
  | 51 => ⟨S_, .i32⟩
  | 52 => ⟨S32x8, .f32⟩
  | 53 => ⟨S_, .i32⟩
  | 54 => ⟨S_, .i32⟩
  | 55 => ⟨S_, .i32⟩
  | 56 => ⟨S_, .f32⟩
  | 57 => ⟨S32x128, .f32⟩
  | 58 => ⟨S32x1x128, .f32⟩
  | 59 => ⟨S32x8x128, .f32⟩
  | 60 => ⟨S32x64x8x128, .f32⟩
  | 61 => ⟨S2048x1024, .f32⟩
  | 62 => ⟨S32x64x8x128, .f32⟩
  | 63 => ⟨S2048x1024, .f32⟩
  | 64 => ⟨S2048x1024, .bf16⟩
  | 65 => ⟨S32x64x8x128, .f32⟩
  | 66 => ⟨S2048x1024, .f32⟩
  | 67 => ⟨S2048x1024, .bf16⟩
  | 68 => ⟨S32x64x8x128, .f32⟩
  | 69 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst : Ref sig .tc := ⟨.hbm, 43, rfl⟩
abbrev main_v35 : Ref sig .tc := ⟨.hbm, 44, rfl⟩
abbrev main_cst_0 : Ref sig .tc := ⟨.hbm, 45, rfl⟩
abbrev main_v36 : Ref sig .tc := ⟨.hbm, 46, rfl⟩
abbrev main_cst_1 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_c : Ref sig .tc := ⟨.hbm, 57, rfl⟩
abbrev main_v42_0 : Ref sig .tc := ⟨.hbm, 58, rfl⟩
abbrev main_v42_1 : Ref sig .tc := ⟨.hbm, 59, rfl⟩
abbrev main_v42_2 : Ref sig .tc := ⟨.hbm, 60, rfl⟩
abbrev main_v42_3 : Ref sig .tc := ⟨.hbm, 61, rfl⟩
abbrev main_v42_4 : Ref sig .tc := ⟨.hbm, 62, rfl⟩
abbrev main_v42_5 : Ref sig .tc := ⟨.hbm, 63, rfl⟩
abbrev main_v42_6 : Ref sig .tc := ⟨.hbm, 64, rfl⟩
abbrev main_v42_7 : Ref sig .tc := ⟨.hbm, 65, rfl⟩
abbrev main_v42_8 : Ref sig .tc := ⟨.hbm, 66, rfl⟩
abbrev main_v42_9 : Ref sig .tc := ⟨.hbm, 67, rfl⟩
abbrev main_v42_10 : Ref sig .tc := ⟨.hbm, 68, rfl⟩
abbrev main_v42_11 : Ref sig .tc := ⟨.hbm, 69, rfl⟩
abbrev main_v42_12 : Ref sig .tc := ⟨.hbm, 70, rfl⟩
abbrev main_v42_13 : Ref sig .tc := ⟨.hbm, 71, rfl⟩
abbrev main_v42_14 : Ref sig .tc := ⟨.hbm, 72, rfl⟩
abbrev main_v42_15 : Ref sig .tc := ⟨.hbm, 73, rfl⟩
abbrev main_while0c_c_22 : Ref sig .tc := ⟨.hbm, 74, rfl⟩
abbrev main_while0c_v56 : Ref sig .tc := ⟨.hbm, 75, rfl⟩
abbrev main_while0b_c_22 : Ref sig .tc := ⟨.hbm, 76, rfl⟩
abbrev main_while0b_v56 : Ref sig .tc := ⟨.hbm, 77, rfl⟩
abbrev main_while0b_c_23 : Ref sig .tc := ⟨.hbm, 78, rfl⟩
abbrev main_while0b_v57 : Ref sig .tc := ⟨.hbm, 79, rfl⟩
abbrev main_while0b_call0_c : Ref sig .tc := ⟨.hbm, 80, rfl⟩
abbrev main_while0b_call0_c_0 : Ref sig .tc := ⟨.hbm, 81, rfl⟩
abbrev main_while0b_call0_c_1 : Ref sig .tc := ⟨.hbm, 82, rfl⟩
abbrev main_while0b_call0_v0 : Ref sig .tc := ⟨.hbm, 83, rfl⟩
abbrev main_while0b_v58 : Ref sig .tc := ⟨.hbm, 84, rfl⟩
abbrev main_while0b_call1_c : Ref sig .tc := ⟨.hbm, 85, rfl⟩
abbrev main_while0b_call1_c_0 : Ref sig .tc := ⟨.hbm, 86, rfl⟩
abbrev main_while0b_call1_c_1 : Ref sig .tc := ⟨.hbm, 87, rfl⟩
abbrev main_while0b_call1_v0 : Ref sig .tc := ⟨.hbm, 88, rfl⟩
abbrev main_while0b_v59 : Ref sig .tc := ⟨.hbm, 89, rfl⟩
abbrev main_while0b_call2_c : Ref sig .tc := ⟨.hbm, 90, rfl⟩
abbrev main_while0b_call2_c_0 : Ref sig .tc := ⟨.hbm, 91, rfl⟩
abbrev main_while0b_call2_c_1 : Ref sig .tc := ⟨.hbm, 92, rfl⟩
abbrev main_while0b_call2_v0 : Ref sig .tc := ⟨.hbm, 93, rfl⟩
abbrev main_while0b_v60 : Ref sig .tc := ⟨.hbm, 94, rfl⟩
abbrev main_while0b_call3_c : Ref sig .tc := ⟨.hbm, 95, rfl⟩
abbrev main_while0b_call3_c_0 : Ref sig .tc := ⟨.hbm, 96, rfl⟩
abbrev main_while0b_call3_c_1 : Ref sig .tc := ⟨.hbm, 97, rfl⟩
abbrev main_while0b_call3_v0 : Ref sig .tc := ⟨.hbm, 98, rfl⟩
abbrev main_while0b_v61 : Ref sig .tc := ⟨.hbm, 99, rfl⟩
abbrev main_while0b_call4_c : Ref sig .tc := ⟨.hbm, 100, rfl⟩
abbrev main_while0b_call4_c_0 : Ref sig .tc := ⟨.hbm, 101, rfl⟩
abbrev main_while0b_call4_c_1 : Ref sig .tc := ⟨.hbm, 102, rfl⟩
abbrev main_while0b_call4_v0 : Ref sig .tc := ⟨.hbm, 103, rfl⟩
abbrev main_while0b_v62 : Ref sig .tc := ⟨.hbm, 104, rfl⟩
abbrev main_while0b_call5_c : Ref sig .tc := ⟨.hbm, 105, rfl⟩
abbrev main_while0b_call5_c_0 : Ref sig .tc := ⟨.hbm, 106, rfl⟩
abbrev main_while0b_call5_c_1 : Ref sig .tc := ⟨.hbm, 107, rfl⟩
abbrev main_while0b_call5_v0 : Ref sig .tc := ⟨.hbm, 108, rfl⟩
abbrev main_while0b_v63 : Ref sig .tc := ⟨.hbm, 109, rfl⟩
abbrev main_while0b_call6_c : Ref sig .tc := ⟨.hbm, 110, rfl⟩
abbrev main_while0b_call6_v0 : Ref sig .tc := ⟨.hbm, 111, rfl⟩
abbrev main_while0b_v64 : Ref sig .tc := ⟨.hbm, 112, rfl⟩
abbrev main_while0b_call7_c : Ref sig .tc := ⟨.hbm, 113, rfl⟩
abbrev main_while0b_call7_c_0 : Ref sig .tc := ⟨.hbm, 114, rfl⟩
abbrev main_while0b_call7_c_1 : Ref sig .tc := ⟨.hbm, 115, rfl⟩
abbrev main_while0b_call7_v0 : Ref sig .tc := ⟨.hbm, 116, rfl⟩
abbrev main_while0b_v65 : Ref sig .tc := ⟨.hbm, 117, rfl⟩
abbrev main_while0b_v66 : Ref sig .tc := ⟨.hbm, 118, rfl⟩
abbrev main_while0b_v67 : Ref sig .tc := ⟨.hbm, 119, rfl⟩
abbrev main_while0b_v68 : Ref sig .tc := ⟨.hbm, 120, rfl⟩
abbrev main_while0b_v69 : Ref sig .tc := ⟨.hbm, 121, rfl⟩
abbrev main_while0b_v70 : Ref sig .tc := ⟨.hbm, 122, rfl⟩
abbrev main_while0b_v71 : Ref sig .tc := ⟨.hbm, 123, rfl⟩
abbrev main_while0b_v72 : Ref sig .tc := ⟨.hbm, 124, rfl⟩
abbrev main_while0b_v73 : Ref sig .tc := ⟨.hbm, 125, rfl⟩
abbrev main_while0b_v74 : Ref sig .tc := ⟨.hbm, 126, rfl⟩
abbrev main_while0b_v75 : Ref sig .tc := ⟨.hbm, 127, rfl⟩
abbrev main_while0b_v76 : Ref sig .tc := ⟨.hbm, 128, rfl⟩
abbrev main_while0b_v77 : Ref sig .tc := ⟨.hbm, 129, rfl⟩
abbrev main_while0b_v78 : Ref sig .tc := ⟨.hbm, 130, rfl⟩
abbrev main_while0b_v79 : Ref sig .tc := ⟨.hbm, 131, rfl⟩
abbrev main_while0b_v80 : Ref sig .tc := ⟨.hbm, 132, rfl⟩
abbrev main_while0b_cst_24 : Ref sig .tc := ⟨.hbm, 133, rfl⟩
abbrev main_while0b_v81 : Ref sig .tc := ⟨.hbm, 134, rfl⟩
abbrev main_while0b_v82 : Ref sig .tc := ⟨.hbm, 135, rfl⟩
abbrev main_while0b_v83 : Ref sig .tc := ⟨.hbm, 136, rfl⟩
abbrev main_while0b_v84 : Ref sig .tc := ⟨.hbm, 137, rfl⟩
abbrev main_while0b_cst_25 : Ref sig .tc := ⟨.hbm, 138, rfl⟩
abbrev main_while0b_v85 : Ref sig .tc := ⟨.hbm, 139, rfl⟩
abbrev main_while0b_v86 : Ref sig .tc := ⟨.hbm, 140, rfl⟩
abbrev main_while0b_v87 : Ref sig .tc := ⟨.hbm, 141, rfl⟩
abbrev main_while0b_v88 : Ref sig .tc := ⟨.hbm, 142, rfl⟩
abbrev main_while0b_v89 : Ref sig .tc := ⟨.hbm, 143, rfl⟩
abbrev main_while0b_v90 : Ref sig .tc := ⟨.hbm, 144, rfl⟩
abbrev main_while0b_v91 : Ref sig .tc := ⟨.hbm, 145, rfl⟩
abbrev main_while0b_v92 : Ref sig .tc := ⟨.hbm, 146, rfl⟩
abbrev main_while0b_v93 : Ref sig .tc := ⟨.hbm, 147, rfl⟩
abbrev main_while0b_v94 : Ref sig .tc := ⟨.hbm, 148, rfl⟩
abbrev main_while0b_v95 : Ref sig .tc := ⟨.hbm, 149, rfl⟩
abbrev main_while0b_v96 : Ref sig .tc := ⟨.hbm, 150, rfl⟩
abbrev main_while0b_v97 : Ref sig .tc := ⟨.hbm, 151, rfl⟩
abbrev main_while0b_v98 : Ref sig .tc := ⟨.hbm, 152, rfl⟩
abbrev main_while0b_call8_v0 : Ref sig .tc := ⟨.hbm, 153, rfl⟩
abbrev main_while0b_call8_c : Ref sig .tc := ⟨.hbm, 154, rfl⟩
abbrev main_while0b_call8_c_0 : Ref sig .tc := ⟨.hbm, 155, rfl⟩
abbrev main_while0b_call8_c_1 : Ref sig .tc := ⟨.hbm, 156, rfl⟩
abbrev main_while0b_v99 : Ref sig .tc := ⟨.hbm, 157, rfl⟩
abbrev main_while0b_call9_v0 : Ref sig .tc := ⟨.hbm, 158, rfl⟩
abbrev main_while0b_call9_c : Ref sig .tc := ⟨.hbm, 159, rfl⟩
abbrev main_while0b_call9_c_0 : Ref sig .tc := ⟨.hbm, 160, rfl⟩
abbrev main_while0b_call9_c_1 : Ref sig .tc := ⟨.hbm, 161, rfl⟩
abbrev main_while0b_v100 : Ref sig .tc := ⟨.hbm, 162, rfl⟩
abbrev main_while0b_call10_v0 : Ref sig .tc := ⟨.hbm, 163, rfl⟩
abbrev main_while0b_call10_c : Ref sig .tc := ⟨.hbm, 164, rfl⟩
abbrev main_while0b_call10_c_0 : Ref sig .tc := ⟨.hbm, 165, rfl⟩
abbrev main_while0b_call10_c_1 : Ref sig .tc := ⟨.hbm, 166, rfl⟩
abbrev main_while0b_v101 : Ref sig .tc := ⟨.hbm, 167, rfl⟩
abbrev main_while0b_call11_v0 : Ref sig .tc := ⟨.hbm, 168, rfl⟩
abbrev main_while0b_call11_c : Ref sig .tc := ⟨.hbm, 169, rfl⟩
abbrev main_while0b_call11_c_0 : Ref sig .tc := ⟨.hbm, 170, rfl⟩
abbrev main_while0b_call11_c_1 : Ref sig .tc := ⟨.hbm, 171, rfl⟩
abbrev main_while0b_v102 : Ref sig .tc := ⟨.hbm, 172, rfl⟩
abbrev main_while0b_call12_v0 : Ref sig .tc := ⟨.hbm, 173, rfl⟩
abbrev main_while0b_call12_c : Ref sig .tc := ⟨.hbm, 174, rfl⟩
abbrev main_while0b_call12_c_0 : Ref sig .tc := ⟨.hbm, 175, rfl⟩
abbrev main_while0b_call12_c_1 : Ref sig .tc := ⟨.hbm, 176, rfl⟩
abbrev main_while0b_v103 : Ref sig .tc := ⟨.hbm, 177, rfl⟩
abbrev main_while0b_call13_v0 : Ref sig .tc := ⟨.hbm, 178, rfl⟩
abbrev main_while0b_call13_c : Ref sig .tc := ⟨.hbm, 179, rfl⟩
abbrev main_while0b_v104 : Ref sig .tc := ⟨.hbm, 180, rfl⟩
abbrev main_while0b_c_26 : Ref sig .tc := ⟨.hbm, 181, rfl⟩
abbrev main_while0b_v105 : Ref sig .tc := ⟨.hbm, 182, rfl⟩
abbrev main_c_6 : Ref sig .tc := ⟨.hbm, 183, rfl⟩
abbrev main_call14_v0 : Ref sig .tc := ⟨.hbm, 184, rfl⟩
abbrev main_v43 : Ref sig .tc := ⟨.hbm, 185, rfl⟩
abbrev main_v44 : Ref sig .tc := ⟨.hbm, 186, rfl⟩
abbrev main_v45 : Ref sig .tc := ⟨.hbm, 187, rfl⟩
abbrev main_v46 : Ref sig .tc := ⟨.hbm, 188, rfl⟩
abbrev main_v47 : Ref sig .tc := ⟨.hbm, 189, rfl⟩
abbrev main_v48 : Ref sig .tc := ⟨.hbm, 190, rfl⟩
abbrev main_v49 : Ref sig .tc := ⟨.hbm, 191, rfl⟩
abbrev main_v50 : Ref sig .tc := ⟨.hbm, 192, rfl⟩
abbrev main_v51 : Ref sig .tc := ⟨.hbm, 193, rfl⟩
abbrev main_v52 : Ref sig .tc := ⟨.hbm, 194, rfl⟩
abbrev main_v53 : Ref sig .tc := ⟨.hbm, 195, rfl⟩
abbrev main_v54 : Ref sig .tc := ⟨.hbm, 196, rfl⟩
abbrev main_v55 : Ref sig .tc := ⟨.hbm, 197, rfl⟩

abbrev nD : Nat := 1
abbrev τ : Topo := Topo.v7x

variable {F : FTy → Type} [FloatOps F]

abbrev main_while0_count : Scf.Loop 32 := ⟨0#32, 32#32, 1#32⟩
-- ==== KernelG.lean ====
abbrev S2048x4224 : Shape := ⟨2, ![2048, 4224]⟩
abbrev S2048x1024 : Shape := ⟨2, ![2048, 1024]⟩
abbrev S4224x1024 : Shape := ⟨2, ![4224, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4224, .bf16⟩
  | .hbm, ⟨1, _⟩ => ⟨S2048x1024, .bf16⟩
  | .hbm, ⟨2, _⟩ => ⟨S4224x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S2048x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGIdeal.lean ====
abbrev S2048x4224 : Shape := ⟨2, ![2048, 4224]⟩
abbrev S2048x1024 : Shape := ⟨2, ![2048, 1024]⟩
abbrev S4224x1024 : Shape := ⟨2, ![4224, 1024]⟩
abbrev S1024x4224 : Shape := ⟨2, ![1024, 4224]⟩

abbrev nBuf : Space → Nat
  | .hbm => 8
  | .vmem => 0
  | .smem => 0
  | _ => 0

abbrev bufTy : (tb : Table) → Fin (tcTables nBuf tb) → BufTy
  | .hbm, ⟨0, _⟩ => ⟨S2048x4224, .bf16⟩
  | .hbm, ⟨1, _⟩ => ⟨S2048x1024, .bf16⟩
  | .hbm, ⟨2, _⟩ => ⟨S2048x1024, .f32⟩
  | .hbm, ⟨3, _⟩ => ⟨S2048x4224, .f32⟩
  | .hbm, ⟨4, _⟩ => ⟨S4224x1024, .f32⟩
  | .hbm, ⟨5, _⟩ => ⟨S1024x4224, .f32⟩
  | .hbm, ⟨6, _⟩ => ⟨S4224x1024, .f32⟩
  | .hbm, ⟨7, _⟩ => ⟨S4224x1024, .bf16⟩
  | _, _ => ⟨S2048x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelC.lean ====
abbrev S2048x4096 : Shape := ⟨2, ![2048, 4096]⟩
abbrev S2048x1024 : Shape := ⟨2, ![2048, 1024]⟩
abbrev S4096x1024 : Shape := ⟨2, ![4096, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCIdeal.lean ====
abbrev S2048x4096 : Shape := ⟨2, ![2048, 4096]⟩
abbrev S2048x1024 : Shape := ⟨2, ![2048, 1024]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S2048x1024, .f32⟩
  | .hbm, ⟨3, _⟩ => ⟨S2048x4096, .f32⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelO.lean ====
abbrev S2048x2048 : Shape := ⟨2, ![2048, 2048]⟩
abbrev S2048x1024 : Shape := ⟨2, ![2048, 1024]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOIdeal.lean ====
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x2048, .f32⟩
  | .hbm, ⟨3, _⟩ => ⟨S2048x1024, .f32⟩
  | .hbm, ⟨4, _⟩ => ⟨S1024x2048, .f32⟩
  | .hbm, ⟨5, _⟩ => ⟨S2048x1024, .f32⟩
  | .hbm, ⟨6, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelH.lean ====
abbrev S2048x4224 : Shape := ⟨2, ![2048, 4224]⟩
abbrev S4864x1024 : Shape := ⟨2, ![4864, 1024]⟩
abbrev S2048x1024 : Shape := ⟨2, ![2048, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4224, .bf16⟩
  | .hbm, ⟨1, _⟩ => ⟨S4864x1024, .bf16⟩
  | .hbm, ⟨2, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceHIdeal.lean ====
abbrev S2048x4224 : Shape := ⟨2, ![2048, 4224]⟩
abbrev S4864x1024 : Shape := ⟨2, ![4864, 1024]⟩
abbrev S4224x1024 : Shape := ⟨2, ![4224, 1024]⟩
abbrev S1024x4224 : Shape := ⟨2, ![1024, 4224]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x4224, .bf16⟩
  | .hbm, ⟨1, _⟩ => ⟨S4864x1024, .bf16⟩
  | .hbm, ⟨2, _⟩ => ⟨S4224x1024, .bf16⟩
  | .hbm, ⟨3, _⟩ => ⟨S4224x1024, .f32⟩
  | .hbm, ⟨4, _⟩ => ⟨S1024x4224, .f32⟩
  | .hbm, ⟨5, _⟩ => ⟨S2048x4224, .f32⟩
  | .hbm, ⟨6, _⟩ => ⟨S2048x1024, .f32⟩
  | _, _ => ⟨S2048x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelPG.lean ====
abbrev S2048x1024 : Shape := ⟨2, ![2048, 1024]⟩
abbrev S4864x1024 : Shape := ⟨2, ![4864, 1024]⟩
abbrev S2048x4224 : Shape := ⟨2, ![2048, 4224]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4864x1024, .bf16⟩
  | .hbm, ⟨2, _⟩ => ⟨S2048x4224, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferencePGIdeal.lean ====
abbrev S2048x1024 : Shape := ⟨2, ![2048, 1024]⟩
abbrev S4864x1024 : Shape := ⟨2, ![4864, 1024]⟩
abbrev S4224x1024 : Shape := ⟨2, ![4224, 1024]⟩
abbrev S1024x4224 : Shape := ⟨2, ![1024, 4224]⟩
abbrev S2048x4224 : Shape := ⟨2, ![2048, 4224]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4864x1024, .bf16⟩
  | .hbm, ⟨2, _⟩ => ⟨S4224x1024, .bf16⟩
  | .hbm, ⟨3, _⟩ => ⟨S2048x1024, .f32⟩
  | .hbm, ⟨4, _⟩ => ⟨S4224x1024, .f32⟩
  | .hbm, ⟨5, _⟩ => ⟨S1024x4224, .f32⟩
  | .hbm, ⟨6, _⟩ => ⟨S2048x4224, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelPC.lean ====
abbrev S2048x1024 : Shape := ⟨2, ![2048, 1024]⟩
abbrev S4608x1024 : Shape := ⟨2, ![4608, 1024]⟩
abbrev S2048x4096 : Shape := ⟨2, ![2048, 4096]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4608x1024, .bf16⟩
  | .hbm, ⟨2, _⟩ => ⟨S2048x4096, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferencePCIdeal.lean ====
abbrev S2048x1024 : Shape := ⟨2, ![2048, 1024]⟩
abbrev S4608x1024 : Shape := ⟨2, ![4608, 1024]⟩
abbrev S4096x1024 : Shape := ⟨2, ![4096, 1024]⟩
abbrev S1024x4096 : Shape := ⟨2, ![1024, 4096]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4608x1024, .bf16⟩
  | .hbm, ⟨2, _⟩ => ⟨S4096x1024, .bf16⟩
  | .hbm, ⟨3, _⟩ => ⟨S2048x1024, .f32⟩
  | .hbm, ⟨4, _⟩ => ⟨S4096x1024, .f32⟩
  | .hbm, ⟨5, _⟩ => ⟨S1024x4096, .f32⟩
  | .hbm, ⟨6, _⟩ => ⟨S2048x4096, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelX.lean ====
abbrev S2048x4096 : Shape := ⟨2, ![2048, 4096]⟩
abbrev S4608x1024 : Shape := ⟨2, ![4608, 1024]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S2048x4096, .bf16⟩
  | .hbm, ⟨1, _⟩ => ⟨S4608x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_9 : BitVec 32 := 0#32
  let v16 : BitVec 1 := Scalar.cmpi .ne v15 c0_i32_9
  v16

def k0_cond3 (i : grid0.Coords) : BitVec 1 :=
  let arg0 : BitVec 32 := BitVec.ofNat 32 (i 0).val
  let c0_i32_6 : BitVec 32 := 0#32
  let v9 : BitVec 1 := Scalar.cmpi .eq arg0 c0_i32_6
  let arg1 : BitVec 32 := BitVec.ofNat 32 (i 1).val
  let c0_i32_7 : BitVec 32 := 0#32
  let v10 : BitVec 1 := Scalar.cmpi .eq arg1 c0_i32_7
  let v11 : BitVec 1 := Scalar.andi v9 v10
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceXIdeal.lean ====
abbrev S2048x4096 : Shape := ⟨2, ![2048, 4096]⟩
abbrev S4608x1024 : Shape := ⟨2, ![4608, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S4096x1024 : Shape := ⟨2, ![4096, 1024]⟩
abbrev S1024x4096 : Shape := ⟨2, ![1024, 4096]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4608x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S4096x1024, .bf16⟩
  | .hbm, ⟨26, _⟩ => ⟨S4096x1024, .f32⟩
  | .hbm, ⟨27, _⟩ => ⟨S1024x4096, .f32⟩
  | .hbm, ⟨28, _⟩ => ⟨S2048x4096, .f32⟩
  | .hbm, ⟨29, _⟩ => ⟨S2048x4096, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KernelL.lean ====
abbrev S2048x2048 : Shape := ⟨2, ![2048, 2048]⟩
abbrev S2048x1024 : Shape := ⟨2, ![2048, 1024]⟩
abbrev S1x1024 : Shape := ⟨2, ![1, 1024]⟩
abbrev S1x1 : Shape := ⟨2, ![1, 1]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩

abbrev nBuf : Space → Nat
  | .hbm => 9
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S1x1, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceLIdeal.lean ====
abbrev S2048x2048 : Shape := ⟨2, ![2048, 2048]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x2048, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .bf16⟩
  | .hbm, ⟨75, _⟩ => ⟨S1x1, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== KernelN.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelA.lean ====
abbrev S512x1024 : Shape := ⟨2, ![512, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelAIdeal.lean ====
variable {F : FTy → Type} [FloatOps F] [Named F]
def κ : String → Option EReal := fun
  | "first_correction" => some ((8388608 / 5463681 : ℝ) : EReal)
  | "second_correction" => some ((268435456 / 2672307 : ℝ) : EReal)
  | _ => none
-- ==== ReferenceAIdeal.lean ====
abbrev S512x1024 : Shape := ⟨2, ![512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Same.lean ====
/-
  The kernel and its idealization have the same text, so a run of one is a run of the other at the same floats.
-/
module

public import proofs.«01_k».proof.Defs
public import proofs.«01_k».proof.Proof.Gen.Kernel
public import proofs.«01_k».proof.Proof.Gen.KernelIdeal.Frame

@[expose] public section

set_option maxRecDepth 100000

noncomputable section

namespace Cert.Same

open Idealize.ShloMosaic Idealize.SL.Sem

variable {F : FTy → Type} [FloatOps F]

set_option maxHeartbeats 4000000 in
/-- The two kernel bodies are one. -/
theorem body_eq : (Cert.Kernel.cc0_gdn_scan_bwd (F := F)) = (Cert.KernelIdeal.cc0_gdn_scan_bwd (F := F)) := rfl

set_option maxHeartbeats 4000000 in
/-- The two tables of bodies are one. -/
theorem bodies_eq : (Cert.Kernel.defs₀ (F := F)) = (Cert.KernelIdeal.defs₀ (F := F)) := by
  unfold Cert.Kernel.defs₀ Cert.KernelIdeal.defs₀
  refine congrArg Defs.onTc (funext fun l => funext fun a => ?_)
  match l, a with
  | 0, (t, s) =>
    dsimp only
    rw [body_eq]
    rfl
  | ⟨_ + 1, h⟩, _ => exact absurd h (Nat.not_lt.2 (Nat.le_add_left _ _))

/-- The two programs' definitions are one. -/
theorem defs_eq : (Cert.Kernel.defs (F := F)) = (Cert.KernelIdeal.defs (F := F)) :=
  congrArg (Pipeline.defs Cert.KernelIdeal.pcfgs) bodies_eq

/-- The kernel's frame: the run stated over any floats, read at bit patterns. -/
theorem frame_kernel : Cert.quiescent_Kernel := by
  intro m ρ _
  rw [defs_eq]
  exact Cert.KernelIdeal.Gen.frame (F := Bits) m ρ

end Cert.Same

end
-- ==== Proof.Chunk.lean ====
/-
  One chunk of one head of the backward scan: the arrays the step reads, the gradients it makes and the gradient of the
  state it hands to the chunk before it, as sums over the extended reals; and the kernel's vector operations for one
  chunk and one head, read at an index as those sums.
-/
module

public import proofs.«01_k».proof.Proof.Gen.KernelIdeal
public import Idealize.ShloMosaic.Lib.Pointwise
public import Idealize.ShloMosaic.Lib.Pipeline.Value
public import Idealize.ShloMosaic.Lib.Pipeline.ValueKit.Tiles

@[expose] public section

set_option maxRecDepth 16384

noncomputable section

open scoped BigOperators

namespace Cert.ScanBwd

open Idealize.ShloMosaic Cert.KernelIdeal Cert.KernelIdeal.Gen

/-- What one chunk of one head reads: rows of the queries, keys, correction weights, output gradients and corrected
    values, the cumulative log decay, the causal weights inside the chunk and the state before the chunk. -/
structure Chunk where
  q : Fin 64 → Fin 128 → EReal
  k : Fin 64 → Fin 128 → EReal
  w : Fin 64 → Fin 128 → EReal
  d : Fin 64 → Fin 128 → EReal
  v : Fin 64 → Fin 128 → EReal
  g : Fin 64 → EReal
  p : Fin 64 → Fin 64 → EReal
  s : Fin 128 → Fin 128 → EReal

/-- A state or its gradient: key coordinate, value coordinate. -/
abbrev Mat := Fin 128 → Fin 128 → EReal

namespace Chunk

variable (I : Chunk) (D : Mat)

/-- The keys decayed from their position to the end of the chunk. -/
def kd (c : Fin 64) (a : Fin 128) : EReal := I.k c a * Ideal.exp (I.g 63 - I.g c)
/-- The queries decayed from the start of the chunk. -/
def qd (c : Fin 64) (a : Fin 128) : EReal := I.q c a * Ideal.exp (I.g c)
/-- The gradient of the decayed queries. -/
def dqg (c : Fin 64) (a : Fin 128) : EReal := ∑ b, I.d c b * I.s a b
/-- The gradient of the causal weights. -/
def dp (i j : Fin 64) : EReal := ∑ b, I.d i b * I.v j b
/-- The gradient of the corrected values. -/
def du (c : Fin 64) (b : Fin 128) : EReal := (∑ i, I.p i c * I.d i b) + ∑ a, I.kd c a * D a b
/-- The gradient of the correction weights. -/
def dw (c : Fin 64) (a : Fin 128) : EReal := 0 - ∑ b, I.du D c b * I.s a b
/-- The gradient of the decayed keys. -/
def dks (c : Fin 64) (a : Fin 128) : EReal := ∑ b, I.v c b * D a b
/-- The gradient of the decay over the whole chunk. -/
def gam : EReal := ∑ a, ∑ b, D a b * I.s a b
/-- The gradient of the state before the chunk. -/
def next : Mat := fun a b =>
  D a b * Ideal.exp (I.g 63) + (∑ c, I.qd c a * I.d c b) - ∑ c, I.w c a * I.du D c b

end Chunk

/-- A chunk from the vectors the kernel loads. -/
def ofVec (q k : FVec Ideal S64x128 .f32) (g : FVec Ideal S64x1 .f32) (w d v : FVec Ideal S64x128 .bf16)
    (p : FVec Ideal S1x1x64x64 .f32) (s : FVec Ideal S1x128x128 .bf16) : Chunk where
  q c a := q (ix2 c a)
  k c a := k (ix2 c a)
  w c a := w (ix2 c a)
  d c a := d (ix2 c a)
  v c a := v (ix2 c a)
  g c := g (ix2 c 0)
  p i j := p (ix4 0 0 i j)
  s a b := s (ix3 0 a b)

/-- A matrix from a vector. -/
def mat (D : FVec Ideal S128x128 .f32) : Mat := fun a b => D (ix2 a b)

section Vec

variable (q k : FVec Ideal S64x128 .f32) (g : FVec Ideal S64x1 .f32) (w d v : FVec Ideal S64x128 .bf16)
    (p : FVec Ideal S1x1x64x64 .f32) (s : FVec Ideal S1x128x128 .bf16) (D : FVec Ideal S128x128 .f32)

/-- The last row of the log decay. -/
def vGl : FVec Ideal S1x1 .f32 := extractStridedSlice S1x1 ![63, 0] g slices_S64x1_o63_0_S1x1
/-- The saved state as a matrix. -/
def vS : FVec Ideal S128x128 .bf16 := shapeCast S128x128 s shapeCasts_S1x128x128_S128x128

def vDqg : FVec Ideal S64x128 .f32 :=
  matmul dot_S64x128_S128x128_S64x128_1_1_0_0_n_n none d (vS s) (constant S64x128 .f32 0x00000000#32)

def vDp : FVec Ideal S1x1x64x64 .f32 :=
  shapeCast S1x1x64x64 (matmul dot_S64x128_S64x128_S64x64_1_1_0_0_n_n none d v (constant S64x64 .f32 0x00000000#32))
    shapeCasts_S64x64_S1x1x64x64

def vDu : FVec Ideal S64x128 .f32 :=
  addf
    (matmul dot_S64x64_S64x128_S64x128_0_0_1_1_n_n none
      (truncf .bf16 (shapeCast S64x64 p shapeCasts_S1x1x64x64_S64x64) bitsLt_bf16_f32) d (constant S64x128 .f32 0x00000000#32))
    (matmul dot_S64x128_S128x128_S64x128_1_0_0_1_n_n none
      (truncf .bf16 (mulf k (broadcastTo S64x128 (exp (subf (broadcastTo S64x1 (vGl g) broadcasts_S1x1_S64x1) g))
        broadcasts_S64x1_S64x128)) bitsLt_bf16_f32)
      (truncf .bf16 D bitsLt_bf16_f32) (constant S64x128 .f32 0x00000000#32))

def vDw : FVec Ideal S64x128 .bf16 :=
  truncf .bf16 (subf (broadcast S64x128 (Scalar.ofBits .f32 0x00000000#32))
    (matmul dot_S64x128_S128x128_S64x128_1_1_0_0_n_n none (truncf .bf16 (vDu k g d p D) bitsLt_bf16_f32) (vS s)
      (constant S64x128 .f32 0x00000000#32))) bitsLt_bf16_f32

def vDks : FVec Ideal S64x128 .f32 :=
  matmul dot_S64x128_S128x128_S64x128_1_1_0_0_n_n none v (truncf .bf16 D bitsLt_bf16_f32) (constant S64x128 .f32 0x00000000#32)

def vNext : FVec Ideal S128x128 .f32 :=
  subf
    (addf (mulf D (broadcastTo S128x128 (exp (vGl g)) broadcasts_S1x1_S128x128))
      (matmul dot_S64x128_S64x128_S128x128_0_0_1_1_n_n none
        (truncf .bf16 (mulf q (broadcastTo S64x128 (exp g) broadcasts_S64x1_S64x128)) bitsLt_bf16_f32) d
        (constant S128x128 .f32 0x00000000#32)))
    (matmul dot_S64x128_S64x128_S128x128_0_0_1_1_n_n none w (truncf .bf16 (vDu k g d p D) bitsLt_bf16_f32)
      (constant S128x128 .f32 0x00000000#32))

/-- The sum of the products of the state's gradient and the state, one number. -/
def vTot : FVec Ideal S1x1 .f32 :=
  shapeCast S1x1
    (multiReduction .add [0] S1
      (shapeCast S128x1
        (multiReduction .add [1] S128 (mulf D (extf .f32 (vS s) bitsLt_bf16_f32)) 0x00000000#32 reduces_S128x128_S128
          (.inl rfl) rfl) shapeCasts_S128_S128x1) 0x00000000#32 reduces_S128x1_S1 (.inl rfl) rfl) shapeCasts_S1_S1x1

/-- The number in the lane of head `h`, zero elsewhere, added to what the lanes held. -/
def vLane (h : Nat) (x : FVec Ideal S1x128 .f32) : FVec Ideal S1x128 .f32 :=
  addf x (select (cmpi .eq (iota .tc S1x128 32 [1] iota_S1x128_d1_w32) (broadcast S1x128 (BitVec.ofNat 32 h)))
    (broadcastTo S1x128 (shapeCast S1x1 (vTot s D) shapeCasts_S1x1_S1x1) broadcasts_S1x1_S1x128)
    (broadcast S1x128 (Scalar.ofBits .f32 0x00000000#32)))

theorem vDqg_apply (c : Fin 64) (a : Fin 128) : vDqg d s (ix2 c a) = (ofVec q k g w d v p s).dqg c a := by
  pointwise [vDqg, vS, Chunk.dqg, ofVec]

theorem vDp_apply (i j : Fin 64) : vDp d v (ix4 0 0 i j) = (ofVec q k g w d v p s).dp i j := by
  pointwise [vDp, Chunk.dp, ofVec]

theorem vDu_apply (c : Fin 64) (b : Fin 128) : vDu k g d p D (ix2 c b) = (ofVec q k g w d v p s).du (mat D) c b := by
  pointwise [vDu, vGl, Chunk.du, Chunk.kd, ofVec, mat]

theorem vDw_apply (c : Fin 64) (a : Fin 128) : vDw k g d p s D (ix2 c a) = (ofVec q k g w d v p s).dw (mat D) c a := by
  unfold vDw Chunk.dw
  pointwise [vS]
  simp only [vDu_apply q k g w d v p s D]
  rfl

theorem vDks_apply (c : Fin 64) (a : Fin 128) : vDks v D (ix2 c a) = (ofVec q k g w d v p s).dks (mat D) c a := by
  pointwise [vDks, Chunk.dks, ofVec, mat]

theorem mat_vNext : mat (vNext q k g w d p D) = (ofVec q k g w d v p s).next (mat D) := by
  funext a b
  unfold vNext Chunk.next mat
  pointwise [vGl]
  simp only [vDu_apply q k g w d v p s D]
  rfl

theorem vTot_apply : vTot s D (ix2 0 0) = (ofVec q k g w d v p s).gam (mat D) := by
  pointwise [vTot, vS, Chunk.gam, ofVec, mat]

theorem vLane_apply (h : Nat) (hh : h < 128) (x : FVec Ideal S1x128 .f32) (l : Fin 128) :
    vLane s D h x (ix2 0 l) = x (ix2 0 l) + if l.val = h then (ofVec q k g w d v p s).gam (mat D) else 0 := by
  rw [← vTot_apply q k g w d v p s D]
  pointwise [vLane]
  congr 1
  by_cases e : l.val = h
  · rw [if_pos e, e]
    simp [IntOp.cmpi, Scalar.select]
  · rw [if_neg e]
    have hl := l.isLt
    have e' : ¬ BitVec.ofNat 32 l.val = BitVec.ofNat 32 h := by
      intro h'
      have := congrArg BitVec.toNat h'
      simp only [BitVec.toNat_ofNat] at this
      omega
    have e2 : (BitVec.ofNat 32 l.val == BitVec.ofNat 32 h) = false := beq_eq_false_iff_ne.mpr e'
    simp only [IntOp.cmpi, Scalar.select, e2]
    rfl

end Vec

end Cert.ScanBwd
-- ==== Proof.Whole.lean ====
/-
  The whole backward scan over the extended reals: the chunks of the eight argument arrays, the gradient of the state
  carried from the last chunk to the first, and the six result arrays.
-/
module

public import proofs.«01_k».proof.Proof.Chunk

@[expose] public section

set_option maxRecDepth 16384

noncomputable section

open scoped BigOperators

namespace Cert.ScanBwd

open Idealize.ShloMosaic

/-- The eight argument arrays: queries, keys, the log decay in columns 8 to 15 of the gate array, correction weights,
    causal weights, corrected values, states before each chunk and output gradients. -/
structure Args where
  q : (⟨2, ![2048, 1024]⟩ : Shape).Idx → EReal
  k : (⟨2, ![2048, 1024]⟩ : Shape).Idx → EReal
  g : (⟨2, ![2048, 128]⟩ : Shape).Idx → EReal
  w : (⟨2, ![2048, 1024]⟩ : Shape).Idx → EReal
  p : (⟨4, ![32, 8, 64, 64]⟩ : Shape).Idx → EReal
  v : (⟨2, ![2048, 1024]⟩ : Shape).Idx → EReal
  s : (⟨3, ![32, 128, 1024]⟩ : Shape).Idx → EReal
  d : (⟨2, ![2048, 1024]⟩ : Shape).Idx → EReal

/-- Row `c` of chunk `n`. -/
def rowOf (n : Fin 32) (c : Fin 64) : Fin 2048 := ⟨64 * n.val + c.val, by omega⟩
/-- Column `a` of head `h`. -/
def colOf (h : Fin 8) (a : Fin 128) : Fin 1024 := ⟨128 * h.val + a.val, by omega⟩

namespace Args

variable (A : Args)

/-- Chunk `n` of head `h`. -/
def chunk (n : Fin 32) (h : Fin 8) : Chunk where
  q c a := A.q (ix2 (rowOf n c) (colOf h a))
  k c a := A.k (ix2 (rowOf n c) (colOf h a))
  w c a := A.w (ix2 (rowOf n c) (colOf h a))
  d c a := A.d (ix2 (rowOf n c) (colOf h a))
  v c a := A.v (ix2 (rowOf n c) (colOf h a))
  g c := A.g (ix2 (rowOf n c) ⟨8 + h.val, by omega⟩)
  p i j := A.p (ix4 n h i j)
  s a b := A.s (ix3 n a (colOf h b))

/-- The gradient of head `h`'s state after `k` chunks, the last chunk first. -/
def acc (h : Fin 8) : ℕ → Mat
  | 0 => fun _ _ => 0
  | k + 1 => (A.chunk ⟨31 - k, by omega⟩ h).next (acc h k)

/-- The gradient of head `h`'s state after chunk `n`. -/
abbrev dS (n : Fin 32) (h : Fin 8) : Mat := A.acc h (31 - n.val)

end Args

/-- An array of thirty-two chunks of eight heads from its entries by chunk, head, row and column. -/
def allRows (f : Fin 32 → Fin 8 → Fin 64 → Fin 128 → EReal) (y : (⟨2, ![2048, 1024]⟩ : Shape).Idx) : EReal :=
  f ⟨(y 0).val / 64, Nat.div_lt_of_lt_mul (y 0).isLt⟩ ⟨(y 1).val / 128, Nat.div_lt_of_lt_mul (y 1).isLt⟩
    ⟨(y 0).val % 64, Nat.mod_lt _ (by omega)⟩ ⟨(y 1).val % 128, Nat.mod_lt _ (by omega)⟩

theorem allRows_ix2 (f : Fin 32 → Fin 8 → Fin 64 → Fin 128 → EReal) (n : Fin 32) (h : Fin 8) (c : Fin 64) (a : Fin 128) :
    allRows f (ix2 (rowOf n c) (colOf h a)) = f n h c a := by
  show f ⟨(64 * n.val + c.val) / 64, _⟩ ⟨(128 * h.val + a.val) / 128, _⟩ ⟨(64 * n.val + c.val) % 64, _⟩
    ⟨(128 * h.val + a.val) % 128, _⟩ = f n h c a
  congr 1 <;> exact Fin.ext (by dsimp only; omega)

/-- Two such arrays are equal when their entries are. -/
theorem ext_rows (X : (⟨2, ![2048, 1024]⟩ : Shape).Idx → EReal) (f : Fin 32 → Fin 8 → Fin 64 → Fin 128 → EReal)
    (H : ∀ n h c a, X (ix2 (rowOf n c) (colOf h a)) = f n h c a) : X = allRows f := by
  funext y
  have hy : y = ix2 (rowOf ⟨(y 0).val / 64, Nat.div_lt_of_lt_mul (y 0).isLt⟩ ⟨(y 0).val % 64, Nat.mod_lt _ (by omega)⟩)
      (colOf ⟨(y 1).val / 128, Nat.div_lt_of_lt_mul (y 1).isLt⟩ ⟨(y 1).val % 128, Nat.mod_lt _ (by omega)⟩) := by
    have e0 : rowOf ⟨(y 0).val / 64, Nat.div_lt_of_lt_mul (y 0).isLt⟩ ⟨(y 0).val % 64, Nat.mod_lt _ (by omega)⟩ = y 0 :=
      Fin.ext (by show 64 * ((y 0).val / 64) + (y 0).val % 64 = _; exact Nat.div_add_mod _ _)
    have e1 : colOf ⟨(y 1).val / 128, Nat.div_lt_of_lt_mul (y 1).isLt⟩ ⟨(y 1).val % 128, Nat.mod_lt _ (by omega)⟩ = y 1 :=
      Fin.ext (by show 128 * ((y 1).val / 128) + (y 1).val % 128 = _; exact Nat.div_add_mod _ _)
    rw [e0, e1]
    exact eq_ix2 y
  rw [congrArg X hy, H]
  rfl

namespace Args

variable (A : Args)

/-- The gradients of the decayed queries, the causal weights, the corrected values, the correction weights, the decayed
    keys and the decay over each chunk (lane `h` of every row for head `h`). -/
def R8 : (⟨2, ![2048, 1024]⟩ : Shape).Idx → EReal := allRows fun n h c a => (A.chunk n h).dqg c a
def R9 : (⟨4, ![32, 8, 64, 64]⟩ : Shape).Idx → EReal := fun y => (A.chunk (y 0) (y 1)).dp (y 2) (y 3)
def R10 : (⟨2, ![2048, 1024]⟩ : Shape).Idx → EReal := allRows fun n h c a => (A.chunk n h).du (A.dS n h) c a
def R11 : (⟨2, ![2048, 1024]⟩ : Shape).Idx → EReal := allRows fun n h c a => (A.chunk n h).dw (A.dS n h) c a
def R12 : (⟨2, ![2048, 1024]⟩ : Shape).Idx → EReal := allRows fun n h c a => (A.chunk n h).dks (A.dS n h) c a
def R13 : (⟨3, ![32, 8, 128]⟩ : Shape).Idx → EReal := fun y =>
  if (y 2).val < 8 then
    (A.chunk (y 0) ⟨(y 2).val % 8, Nat.mod_lt _ (by omega)⟩).gam (A.dS (y 0) ⟨(y 2).val % 8, Nat.mod_lt _ (by omega)⟩)
  else 0

end Args

end Cert.ScanBwd
-- ==== Proof.Block.lean ====
/-
  What one grid point of the backward scan reads and makes, block by block: the loads of one chunk and one head as
  entries of the point's input blocks, the gradient of the state carried through the point's four chunks, and each
  stored tile as the entries of one array per output.
-/
module

public import proofs.«01_k».proof.Proof.Chunk
public import Idealize.ShloMosaic.Lib.Pipeline.Frame
public import Idealize.ShloMosaic.Lib.Pipeline.FrameBody
public import Idealize.ShloMosaic.Lib.Pipeline.ValueKit.Geometry

@[expose] public section

set_option maxRecDepth 16384

noncomputable section

open scoped BigOperators

namespace Cert.ScanBwd

open Idealize.ShloMosaic Idealize.ShloMosaic.Pipeline Idealize.ShloMosaic.TcCoe Cert.KernelIdeal Cert.KernelIdeal.Gen

/-- The input blocks of one grid point and the staging buffers that hold them. -/
structure Ins where
  a1 : Memref sig .tc .vmem S256x1024 .f32
  h1 : a1.IsWhole
  a2 : Memref sig .tc .vmem S256x1024 .f32
  h2 : a2.IsWhole
  a3 : Memref sig .tc .vmem S256x128 .f32
  h3 : a3.IsWhole
  a4 : Memref sig .tc .vmem S256x1024 .bf16
  h4 : a4.IsWhole
  a5 : Memref sig .tc .vmem S4x8x64x64 .f32
  h5 : a5.IsWhole
  a6 : Memref sig .tc .vmem S256x1024 .bf16
  h6 : a6.IsWhole
  a7 : Memref sig .tc .vmem S4x128x1024 .bf16
  h7 : a7.IsWhole
  a8 : Memref sig .tc .vmem S256x1024 .bf16
  h8 : a8.IsWhole
  x0 : Vec Ideal S256x1024 .f32
  x1 : Vec Ideal S256x1024 .f32
  x2 : Vec Ideal S256x128 .f32
  x3 : Vec Ideal S256x1024 .bf16
  x4 : Vec Ideal S4x8x64x64 .f32
  x5 : Vec Ideal S256x1024 .bf16
  x6 : Vec Ideal S4x128x1024 .bf16
  x7 : Vec Ideal S256x1024 .bf16

theorem inbX (ci : Fin 4) (h : Fin 8) : ∀ a, ![64 * ci.val, 128 * h.val] a + S64x128.size a ≤ S256x1024.size a := by
  have := ci.isLt; have := h.isLt
  intro a; fin_cases a
  · show 64 * ci.val + 64 ≤ 256; omega
  · show 128 * h.val + 128 ≤ 1024; omega

theorem inbG (ci : Fin 4) : ∀ a, ![64 * ci.val, 0] a + S64x128.size a ≤ S256x128.size a := by
  have := ci.isLt
  intro a; fin_cases a
  · show 64 * ci.val + 64 ≤ 256; omega
  · show 0 + 128 ≤ 128; omega

theorem inbP (ci : Fin 4) (h : Fin 8) :
    ∀ a, ![ci.val, h.val, 0, 0] a + S1x1x64x64.size a ≤ S4x8x64x64.size a := by
  have := ci.isLt; have := h.isLt
  intro a; fin_cases a
  · show ci.val + 1 ≤ 4; omega
  · show h.val + 1 ≤ 8; omega
  · show 0 + 64 ≤ 64; omega
  · show 0 + 64 ≤ 64; omega

theorem inbS (ci : Fin 4) (h : Fin 8) :
    ∀ a, ![ci.val, 0, 128 * h.val] a + S1x128x128.size a ≤ S4x128x1024.size a := by
  have := ci.isLt; have := h.isLt
  intro a; fin_cases a
  · show ci.val + 1 ≤ 4; omega
  · show 0 + 128 ≤ 128; omega
  · show 128 * h.val + 128 ≤ 1024; omega

theorem inbT (h : Fin 8) : ∀ a, ![h.val, 0, 0] a + S1x128x128.size a ≤ S8x128x128.size a := by
  have := h.isLt
  intro a; fin_cases a
  · show h.val + 1 ≤ 8; omega
  · show 0 + 128 ≤ 128; omega
  · show 0 + 128 ≤ 128; omega

theorem inbL (ci : Fin 4) : ∀ a, ![ci.val, 0, 0] a + S1x8x128.size a ≤ S4x8x128.size a := by
  have := ci.isLt
  intro a; fin_cases a
  · show ci.val + 1 ≤ 4; omega
  · show 0 + 8 ≤ 8; omega
  · show 0 + 128 ≤ 128; omega

theorem slG (h : Fin 8) : S64x128.Slices ![0, 8 + h.val] S64x1 := by
  have := h.isLt
  refine ⟨rfl, fun a => ?_⟩
  fin_cases a
  · show 0 + 64 ≤ 64; omega
  · show 8 + h.val + 1 ≤ 128; omega

/-- A load of a whole buffer's contents at a unit-stride box reads the contents at the placed index. -/
theorem readAt_apply {S : Shape} {e : EltTy} (M : Memref sig .tc .vmem S e) (hM : M.IsWhole) (x : Vec Ideal S e)
    (r : Rect S) (j : r.shape.Idx) :
    View.readAt (Elt Ideal) M.view r.toLoadRect (hM.unread x) j = x (r.emb j) := by
  rw [View.readAt_eq_ld, hM.read_unread]
  rfl

theorem emb2 {n0 n1 k0 k1 : Nat} (o0 o1 : Nat)
    (inb : ∀ a, ![o0, o1] a + (⟨2, ![k0, k1]⟩ : Shape).size a ≤ (⟨2, ![n0, n1]⟩ : Shape).size a)
    (c : Fin k0) (a : Fin k1) (h0 : o0 + c.val < n0) (h1 : o1 + a.val < n1) :
    (Rect.unit (s := ⟨2, ![n0, n1]⟩) ![o0, o1] (⟨2, ![k0, k1]⟩ : Shape).size inb).emb (ix2 c a)
      = ix2 ⟨o0 + c.val, h0⟩ ⟨o1 + a.val, h1⟩ := by
  funext d
  refine Fin.ext ?_
  rw [ValueKit.rect_emb_unit_val]
  fin_cases d <;> rfl

theorem emb3 {n0 n1 n2 k0 k1 k2 : Nat} (o0 o1 o2 : Nat)
    (inb : ∀ a, ![o0, o1, o2] a + (⟨3, ![k0, k1, k2]⟩ : Shape).size a ≤ (⟨3, ![n0, n1, n2]⟩ : Shape).size a)
    (c : Fin k0) (a : Fin k1) (b : Fin k2) (h0 : o0 + c.val < n0) (h1 : o1 + a.val < n1) (h2 : o2 + b.val < n2) :
    (Rect.unit (s := ⟨3, ![n0, n1, n2]⟩) ![o0, o1, o2] (⟨3, ![k0, k1, k2]⟩ : Shape).size inb).emb (ix3 c a b)
      = ix3 ⟨o0 + c.val, h0⟩ ⟨o1 + a.val, h1⟩ ⟨o2 + b.val, h2⟩ := by
  funext d
  refine Fin.ext ?_
  rw [ValueKit.rect_emb_unit_val]
  fin_cases d <;> rfl

theorem emb4 {n0 n1 n2 n3 k0 k1 k2 k3 : Nat} (o0 o1 o2 o3 : Nat)
    (inb : ∀ a, ![o0, o1, o2, o3] a + (⟨4, ![k0, k1, k2, k3]⟩ : Shape).size a
      ≤ (⟨4, ![n0, n1, n2, n3]⟩ : Shape).size a)
    (c : Fin k0) (a : Fin k1) (b : Fin k2) (e : Fin k3) (h0 : o0 + c.val < n0) (h1 : o1 + a.val < n1)
    (h2 : o2 + b.val < n2) (h3 : o3 + e.val < n3) :
    (Rect.unit (s := ⟨4, ![n0, n1, n2, n3]⟩) ![o0, o1, o2, o3] (⟨4, ![k0, k1, k2, k3]⟩ : Shape).size inb).emb (ix4 c a b e)
      = ix4 ⟨o0 + c.val, h0⟩ ⟨o1 + a.val, h1⟩ ⟨o2 + b.val, h2⟩ ⟨o3 + e.val, h3⟩ := by
  funext d
  refine Fin.ext ?_
  rw [ValueKit.rect_emb_unit_val]
  fin_cases d <;> rfl

/-- A chunk's rows and a head's columns of a block. -/
def rdX {e : EltTy} (M : Memref sig .tc .vmem S256x1024 e) (hM : M.IsWhole) (x : Vec Ideal S256x1024 e)
    (ci : Fin 4) (h : Fin 8) : Vec Ideal S64x128 e :=
  View.readAt (Elt Ideal) M.view
    (Rect.unit (s := S256x1024) ![64 * ci.val, 128 * h.val] S64x128.size (inbX ci h)).toLoadRect (hM.unread x)

theorem rdX_apply {e : EltTy} (M : Memref sig .tc .vmem S256x1024 e) (hM : M.IsWhole) (x : Vec Ideal S256x1024 e)
    (ci : Fin 4) (h : Fin 8) (c : Fin 64) (a : Fin 128) :
    rdX M hM x ci h (ix2 c a) = x (ix2 ⟨64 * ci.val + c.val, by omega⟩ ⟨128 * h.val + a.val, by omega⟩) :=
  (readAt_apply M hM x _ _).trans (congrArg x (emb2 _ _ (inbX ci h) c a _ _))

namespace Ins

variable (I : Ins)

/-- The log decay of a chunk's rows, the column of one head. -/
def rdG (ci : Fin 4) (h : Fin 8) : FVec Ideal S64x1 .f32 :=
  extractStridedSlice (s := S64x128) S64x1 ![0, 8 + h.val]
    (View.readAt (Elt Ideal) I.a3.view (Rect.unit (s := S256x128) ![64 * ci.val, 0] S64x128.size (inbG ci)).toLoadRect
      (I.h3.unread I.x2)) (slG h)

/-- The causal weights of one chunk and head. -/
def rdP (ci : Fin 4) (h : Fin 8) : FVec Ideal S1x1x64x64 .f32 :=
  View.readAt (Elt Ideal) I.a5.view
    (Rect.unit (s := S4x8x64x64) ![ci.val, h.val, 0, 0] S1x1x64x64.size (inbP ci h)).toLoadRect (I.h5.unread I.x4)

/-- The saved state of one chunk and head. -/
def rdS (ci : Fin 4) (h : Fin 8) : FVec Ideal S1x128x128 .bf16 :=
  View.readAt (Elt Ideal) I.a7.view
    (Rect.unit (s := S4x128x1024) ![ci.val, 0, 128 * h.val] S1x128x128.size (inbS ci h)).toLoadRect (I.h7.unread I.x6)

abbrev rq (ci : Fin 4) (h : Fin 8) : FVec Ideal S64x128 .f32 := rdX I.a1 I.h1 I.x0 ci h
abbrev rk (ci : Fin 4) (h : Fin 8) : FVec Ideal S64x128 .f32 := rdX I.a2 I.h2 I.x1 ci h
abbrev rw' (ci : Fin 4) (h : Fin 8) : FVec Ideal S64x128 .bf16 := rdX I.a4 I.h4 I.x3 ci h
abbrev rv (ci : Fin 4) (h : Fin 8) : FVec Ideal S64x128 .bf16 := rdX I.a6 I.h6 I.x5 ci h
abbrev rd (ci : Fin 4) (h : Fin 8) : FVec Ideal S64x128 .bf16 := rdX I.a8 I.h8 I.x7 ci h

/-- The chunk of the point's blocks: four chunks of eight heads. -/
def chunk (ci : Fin 4) (h : Fin 8) : Chunk where
  q c a := I.x0 (ix2 ⟨64 * ci.val + c.val, by omega⟩ ⟨128 * h.val + a.val, by omega⟩)
  k c a := I.x1 (ix2 ⟨64 * ci.val + c.val, by omega⟩ ⟨128 * h.val + a.val, by omega⟩)
  w c a := I.x3 (ix2 ⟨64 * ci.val + c.val, by omega⟩ ⟨128 * h.val + a.val, by omega⟩)
  d c a := I.x7 (ix2 ⟨64 * ci.val + c.val, by omega⟩ ⟨128 * h.val + a.val, by omega⟩)
  v c a := I.x5 (ix2 ⟨64 * ci.val + c.val, by omega⟩ ⟨128 * h.val + a.val, by omega⟩)
  g c := I.x2 (ix2 ⟨64 * ci.val + c.val, by omega⟩ ⟨8 + h.val, by omega⟩)
  p i j := I.x4 (ix4 ci h i j)
  s a b := I.x6 (ix3 ci a ⟨128 * h.val + b.val, by omega⟩)

theorem rdG_apply (ci : Fin 4) (h : Fin 8) (c : Fin 64) :
    I.rdG ci h (ix2 c 0) = I.x2 (ix2 ⟨64 * ci.val + c.val, by omega⟩ ⟨8 + h.val, by omega⟩) := by
  unfold rdG
  pointwise []
  refine (readAt_apply I.a3 I.h3 I.x2 _ _).trans (congrArg I.x2 ?_)
  refine (emb2 _ _ (inbG ci) _ _ (by omega) (by omega)).trans ?_
  congr 1
  exact Fin.ext (by dsimp only; omega)

theorem rdP_apply (ci : Fin 4) (h : Fin 8) (i j : Fin 64) : I.rdP ci h (ix4 0 0 i j) = I.x4 (ix4 ci h i j) := by
  refine (readAt_apply I.a5 I.h5 I.x4 _ _).trans (congrArg I.x4 ?_)
  refine (emb4 _ _ _ _ (inbP ci h) _ _ _ _ (by simp) (by simp) (by simp) (by simp)).trans ?_
  congr 1 <;> exact Fin.ext (by simp)

theorem rdS_apply (ci : Fin 4) (h : Fin 8) (a b : Fin 128) :
    I.rdS ci h (ix3 0 a b) = I.x6 (ix3 ci a ⟨128 * h.val + b.val, by omega⟩) := by
  refine (readAt_apply I.a7 I.h7 I.x6 _ _).trans (congrArg I.x6 ?_)
  refine (emb3 _ _ _ (inbS ci h) _ _ _ (by simp) (by simp) (by omega)).trans ?_
  congr 1 <;> exact Fin.ext (by simp)

theorem ofVec_eq (ci : Fin 4) (h : Fin 8) :
    ofVec (I.rq ci h) (I.rk ci h) (I.rdG ci h) (I.rw' ci h) (I.rd ci h) (I.rv ci h) (I.rdP ci h) (I.rdS ci h)
      = I.chunk ci h := by
  unfold ofVec chunk
  simp only [rdX_apply, rdG_apply, rdP_apply, rdS_apply]

/-- The gradient of one head's state after `j` chunks of the point, the last chunk first. -/
def st (raw : Fin 8 → FVec Ideal S1x128x128 .f32) (h : Fin 8) : ℕ → FVec Ideal S128x128 .f32
  | 0 => shapeCast S128x128 (raw h) shapeCasts_S1x128x128_S128x128
  | j + 1 => vNext (I.rq ⟨3 - j, by omega⟩ h) (I.rk ⟨3 - j, by omega⟩ h) (I.rdG ⟨3 - j, by omega⟩ h)
      (I.rw' ⟨3 - j, by omega⟩ h) (I.rd ⟨3 - j, by omega⟩ h) (I.rdP ⟨3 - j, by omega⟩ h) (st raw h j)

/-- The same over the extended reals. -/
def mst (D : Fin 8 → Mat) (h : Fin 8) : ℕ → Mat
  | 0 => D h
  | j + 1 => (I.chunk ⟨3 - j, by omega⟩ h).next (mst D h j)

theorem mat_st (raw : Fin 8 → FVec Ideal S1x128x128 .f32) (D : Fin 8 → Mat)
    (hD : ∀ h a b, raw h (ix3 0 a b) = D h a b) (h : Fin 8) (j : ℕ) : mat (I.st raw h j) = I.mst D h j := by
  induction j with
  | zero =>
    funext a b
    show shapeCast S128x128 (raw h) shapeCasts_S1x128x128_S128x128 (ix2 a b) = D h a b
    rw [← hD]
    pointwise []
  | succ j ih =>
    show mat (vNext _ _ _ _ _ _ _) = (I.chunk _ h).next _
    rw [mat_vNext (v := I.rv ⟨3 - j, by omega⟩ h) (s := I.rdS ⟨3 - j, by omega⟩ h), ih, ofVec_eq]

/-- The lanes of the row of decay gradients after `n` heads. -/
def lanes (raw : Fin 8 → FVec Ideal S1x128x128 .f32) (ci : Fin 4) : ℕ → FVec Ideal S1x128 .f32
  | 0 => broadcast S1x128 (Scalar.ofBits .f32 0x00000000#32)
  | n + 1 => vLane (I.rdS ci ⟨n % 8, by omega⟩) (I.st raw ⟨n % 8, by omega⟩ (3 - ci.val)) n (lanes raw ci n)

theorem lanes_apply (raw : Fin 8 → FVec Ideal S1x128x128 .f32) (D : Fin 8 → Mat)
    (hD : ∀ h a b, raw h (ix3 0 a b) = D h a b) (ci : Fin 4) (n : ℕ) (hn : n ≤ 8) (l : Fin 128) :
    I.lanes raw ci n (ix2 0 l) =
      if l.val < n then (I.chunk ci ⟨l.val % 8, by omega⟩).gam (I.mst D ⟨l.val % 8, by omega⟩ (3 - ci.val)) else 0 := by
  induction n with
  | zero =>
    rw [if_neg (by omega)]
    show broadcast S1x128 (Scalar.ofBits (F := Ideal) .f32 0x00000000#32) (ix2 0 l) = 0
    pointwise []
  | succ n ih =>
    show vLane _ _ _ _ _ = _
    have e8 : n % 8 = n := Nat.mod_eq_of_lt (by omega)
    rw [vLane_apply (I.rq ci ⟨n % 8, by omega⟩) (I.rk ci ⟨n % 8, by omega⟩) (I.rdG ci ⟨n % 8, by omega⟩)
      (I.rw' ci ⟨n % 8, by omega⟩) (I.rd ci ⟨n % 8, by omega⟩) (I.rv ci ⟨n % 8, by omega⟩) (I.rdP ci ⟨n % 8, by omega⟩)
      _ _ n (by omega), ofVec_eq, mat_st I raw D hD, ih (by omega)]
    by_cases h1 : l.val = n
    · subst h1
      rw [if_neg (by omega), if_pos rfl, if_pos (by omega), zero_add]
    · by_cases h2 : l.val < n
      · rw [if_pos h2, if_neg h1, if_pos (by omega), add_zero]
      · rw [if_neg h2, if_neg h1, if_neg (by omega), add_zero]

/-- The tile of decay gradients: the row of lanes, in all eight rows. -/
def vGam (raw : Fin 8 → FVec Ideal S1x128x128 .f32) (ci : Fin 4) : FVec Ideal S1x8x128 .f32 :=
  shapeCast S1x8x128 (broadcastTo S8x128 (shapeCast S1x128 (I.lanes raw ci 8) shapeCasts_S1x128_S1x128)
    broadcasts_S1x128_S8x128) shapeCasts_S8x128_S1x8x128

theorem vGam_apply (raw : Fin 8 → FVec Ideal S1x128x128 .f32) (D : Fin 8 → Mat)
    (hD : ∀ h a b, raw h (ix3 0 a b) = D h a b) (ci : Fin 4) (r : Fin 8) (l : Fin 128) :
    I.vGam raw ci (ix3 0 r l) =
      if l.val < 8 then (I.chunk ci ⟨l.val % 8, by omega⟩).gam (I.mst D ⟨l.val % 8, by omega⟩ (3 - ci.val)) else 0 := by
  rw [← I.lanes_apply raw D hD ci 8 le_rfl l]
  unfold vGam
  pointwise []

end Ins

end Cert.ScanBwd

end
-- ==== Proof.Pieces.lean ====
/-
  The tiles one grid point of the backward scan stores, each as the entries of one array per output.
-/
module

public import proofs.«01_k».proof.Proof.Block

@[expose] public section

set_option maxRecDepth 16384

noncomputable section

open scoped BigOperators

namespace Cert.ScanBwd

open Idealize.ShloMosaic Idealize.ShloMosaic.Pipeline Idealize.ShloMosaic.TcCoe Cert.KernelIdeal Cert.KernelIdeal.Gen

/-- A block of four chunks of eight heads from its entries by chunk, head, row and column. -/
def rows (f : Fin 4 → Fin 8 → Fin 64 → Fin 128 → EReal) (y : S256x1024.Idx) : EReal :=
  f ⟨(y 0).val / 64, Nat.div_lt_of_lt_mul (y 0).isLt⟩ ⟨(y 1).val / 128, Nat.div_lt_of_lt_mul (y 1).isLt⟩
    ⟨(y 0).val % 64, Nat.mod_lt _ (by omega)⟩ ⟨(y 1).val % 128, Nat.mod_lt _ (by omega)⟩

theorem rows_ix2 (f : Fin 4 → Fin 8 → Fin 64 → Fin 128 → EReal) (ci : Fin 4) (h : Fin 8) (c : Fin 64) (a : Fin 128)
    (h0 : 64 * ci.val + c.val < 256) (h1 : 128 * h.val + a.val < 1024) :
    rows f (ix2 ⟨64 * ci.val + c.val, h0⟩ ⟨128 * h.val + a.val, h1⟩) = f ci h c a := by
  show f ⟨(64 * ci.val + c.val) / 64, _⟩ ⟨(128 * h.val + a.val) / 128, _⟩ ⟨(64 * ci.val + c.val) % 64, _⟩
    ⟨(128 * h.val + a.val) % 128, _⟩ = f ci h c a
  congr 1 <;> exact Fin.ext (by dsimp only; omega)

/-- A tile of a block of rows: entries that agree with the block's function. -/
theorem rows_piece (f : Fin 4 → Fin 8 → Fin 64 → Fin 128 → EReal) (ci : Fin 4) (h : Fin 8) (v : S64x128.Idx → EReal)
    (hv : ∀ c a, v (ix2 c a) = f ci h c a) (x : S64x128.Idx) :
    v x = rows f ((Rect.unit (s := S256x1024) ![64 * ci.val, 128 * h.val] S64x128.size (inbX ci h)).emb x) := by
  suffices H : ∀ (c : Fin 64) (a : Fin 128), v (ix2 c a)
      = rows f ((Rect.unit (s := S256x1024) ![64 * ci.val, 128 * h.val] S64x128.size (inbX ci h)).emb (ix2 c a)) by
    rw [eq_ix2 x]
    exact H _ _
  intro c a
  rw [hv]
  exact ((congrArg (rows f) (emb2 _ _ (inbX ci h) c a (by omega) (by omega))).trans
    (rows_ix2 f ci h c a (by omega) (by omega))).symm

namespace Ins

variable (I : Ins) (raw : Fin 8 → FVec Ideal S1x128x128 .f32) (D : Fin 8 → Mat)

/-- The gradient of the state a chunk reads. -/
abbrev dm (ci : Fin 4) (h : Fin 8) : Mat := I.mst D h (3 - ci.val)

def W8 (ci : Fin 4) (h : Fin 8) : FVec Ideal S64x128 .f32 := vDqg (I.rd ci h) (I.rdS ci h)
def W9 (ci : Fin 4) (h : Fin 8) : FVec Ideal S1x1x64x64 .f32 := vDp (I.rd ci h) (I.rv ci h)
def W10 (ci : Fin 4) (h : Fin 8) : FVec Ideal S64x128 .bf16 :=
  truncf .bf16 (vDu (I.rk ci h) (I.rdG ci h) (I.rd ci h) (I.rdP ci h) (I.st raw h (3 - ci.val))) bitsLt_bf16_f32
def W11 (ci : Fin 4) (h : Fin 8) : FVec Ideal S64x128 .bf16 :=
  vDw (I.rk ci h) (I.rdG ci h) (I.rd ci h) (I.rdP ci h) (I.rdS ci h) (I.st raw h (3 - ci.val))
def W12 (ci : Fin 4) (h : Fin 8) : FVec Ideal S64x128 .f32 := vDks (I.rv ci h) (I.st raw h (3 - ci.val))
def Ws (h : Fin 8) : FVec Ideal S1x128x128 .f32 := shapeCast S1x128x128 (I.st raw h 4) shapeCasts_S128x128_S1x128x128

/-- The arrays the point's tiles make, one per output. -/
def G8 : S256x1024.Idx → EReal := rows fun ci h c a => (I.chunk ci h).dqg c a
def G9 : S4x8x64x64.Idx → EReal := fun y => (I.chunk (y 0) (y 1)).dp (y 2) (y 3)
def G10 : S256x1024.Idx → EReal := rows fun ci h c a => (I.chunk ci h).du (I.dm D ci h) c a
def G11 : S256x1024.Idx → EReal := rows fun ci h c a => (I.chunk ci h).dw (I.dm D ci h) c a
def G12 : S256x1024.Idx → EReal := rows fun ci h c a => (I.chunk ci h).dks (I.dm D ci h) c a
def G13 : S4x8x128.Idx → EReal := fun y =>
  if (y 2).val < 8 then
    (I.chunk (y 0) ⟨(y 2).val % 8, Nat.mod_lt _ (by omega)⟩).gam (I.dm D (y 0) ⟨(y 2).val % 8, Nat.mod_lt _ (by omega)⟩)
  else 0
def Gs : S8x128x128.Idx → EReal := fun y => I.mst D (y 0) 4 (y 1) (y 2)

theorem piece8 (ci : Fin 4) (h : Fin 8) (x : S64x128.Idx) :
    I.W8 ci h x = I.G8 ((Rect.unit (s := S256x1024) ![64 * ci.val, 128 * h.val] S64x128.size (inbX ci h)).emb x) := by
  refine rows_piece _ ci h _ (fun c a => ?_) x
  unfold W8
  rw [vDqg_apply (I.rq ci h) (I.rk ci h) (I.rdG ci h) (I.rw' ci h) (I.rd ci h) (I.rv ci h) (I.rdP ci h) (I.rdS ci h),
    ofVec_eq]

theorem piece9 (ci : Fin 4) (h : Fin 8) (x : S1x1x64x64.Idx) :
    I.W9 ci h x
      = I.G9 ((Rect.unit (s := S4x8x64x64) ![ci.val, h.val, 0, 0] S1x1x64x64.size (inbP ci h)).emb x) := by
  suffices H : ∀ (o o' : Fin 1) (i j : Fin 64), I.W9 ci h (ix4 o o' i j)
      = I.G9 ((Rect.unit (s := S4x8x64x64) ![ci.val, h.val, 0, 0] S1x1x64x64.size (inbP ci h)).emb (ix4 o o' i j)) by
    rw [eq_ix4 x]
    exact H _ _ _ _
  intro o o' i j
  refine Eq.trans ?_ (congrArg I.G9 (emb4 _ _ _ _ (inbP ci h) o o' i j (by omega) (by omega) (by omega) (by omega))).symm
  rw [Fin.eq_zero o, Fin.eq_zero o']
  unfold W9
  rw [vDp_apply (I.rq ci h) (I.rk ci h) (I.rdG ci h) (I.rw' ci h) (I.rd ci h) (I.rv ci h) (I.rdP ci h) (I.rdS ci h),
    ofVec_eq]
  have e2 : (⟨0 + i.val, by omega⟩ : Fin 64) = i := Fin.ext (by simp)
  have e3 : (⟨0 + j.val, by omega⟩ : Fin 64) = j := Fin.ext (by simp)
  rw [e2, e3]
  rfl

variable (hD : ∀ h a b, raw h (ix3 0 a b) = D h a b)
include hD

theorem piece10 (ci : Fin 4) (h : Fin 8) (x : S64x128.Idx) :
    I.W10 raw ci h x
      = I.G10 D ((Rect.unit (s := S256x1024) ![64 * ci.val, 128 * h.val] S64x128.size (inbX ci h)).emb x) := by
  refine rows_piece _ ci h _ (fun c a => ?_) x
  unfold W10
  pointwise []
  rw [vDu_apply (I.rq ci h) (I.rk ci h) (I.rdG ci h) (I.rw' ci h) (I.rd ci h) (I.rv ci h) (I.rdP ci h) (I.rdS ci h),
    ofVec_eq, mat_st I raw D hD]

theorem piece11 (ci : Fin 4) (h : Fin 8) (x : S64x128.Idx) :
    I.W11 raw ci h x
      = I.G11 D ((Rect.unit (s := S256x1024) ![64 * ci.val, 128 * h.val] S64x128.size (inbX ci h)).emb x) := by
  refine rows_piece _ ci h _ (fun c a => ?_) x
  unfold W11
  rw [vDw_apply (I.rq ci h) (I.rk ci h) (I.rdG ci h) (I.rw' ci h) (I.rd ci h) (I.rv ci h) (I.rdP ci h) (I.rdS ci h),
    ofVec_eq, mat_st I raw D hD]

theorem piece12 (ci : Fin 4) (h : Fin 8) (x : S64x128.Idx) :
    I.W12 raw ci h x
      = I.G12 D ((Rect.unit (s := S256x1024) ![64 * ci.val, 128 * h.val] S64x128.size (inbX ci h)).emb x) := by
  refine rows_piece _ ci h _ (fun c a => ?_) x
  unfold W12
  rw [vDks_apply (I.rq ci h) (I.rk ci h) (I.rdG ci h) (I.rw' ci h) (I.rd ci h) (I.rv ci h) (I.rdP ci h) (I.rdS ci h),
    ofVec_eq, mat_st I raw D hD]

theorem piece13 (ci : Fin 4) (x : S1x8x128.Idx) :
    I.vGam raw ci x
      = I.G13 D ((Rect.unit (s := S4x8x128) ![ci.val, 0, 0] S1x8x128.size (inbL ci)).emb x) := by
  suffices H : ∀ (o : Fin 1) (r : Fin 8) (l : Fin 128), I.vGam raw ci (ix3 o r l)
      = I.G13 D ((Rect.unit (s := S4x8x128) ![ci.val, 0, 0] S1x8x128.size (inbL ci)).emb (ix3 o r l)) by
    rw [eq_ix3 x]
    exact H _ _ _
  intro o r l
  refine Eq.trans ?_ (congrArg (I.G13 D) (emb3 _ _ _ (inbL ci) o r l (by omega) (by omega) (by omega))).symm
  rw [Fin.eq_zero o, I.vGam_apply raw D hD ci]
  have e2 : (⟨0 + l.val, by omega⟩ : Fin 128) = l := Fin.ext (by simp)
  rw [e2]
  rfl

theorem pieceS (h : Fin 8) (x : S1x128x128.Idx) :
    I.Ws raw h x
      = I.Gs D ((Rect.unit (s := S8x128x128) ![h.val, 0, 0] S1x128x128.size (inbT h)).emb x) := by
  suffices H : ∀ (o : Fin 1) (a b : Fin 128), I.Ws raw h (ix3 o a b)
      = I.Gs D ((Rect.unit (s := S8x128x128) ![h.val, 0, 0] S1x128x128.size (inbT h)).emb (ix3 o a b)) by
    rw [eq_ix3 x]
    exact H _ _ _
  intro o a b
  refine Eq.trans ?_ (congrArg (I.Gs D) (emb3 _ _ _ (inbT h) o a b (by omega) (by omega) (by omega))).symm
  rw [Fin.eq_zero o]
  have e1 : (⟨0 + a.val, by omega⟩ : Fin 128) = a := Fin.ext (by simp)
  have e2 : (⟨0 + b.val, by omega⟩ : Fin 128) = b := Fin.ext (by simp)
  rw [e1, e2]
  show _ = I.mst D h 4 a b
  rw [← mat_st I raw D hD]
  unfold Ws mat
  pointwise []

end Ins

end Cert.ScanBwd
-- ==== Proof.PointA.lean ====
/-
  What the first grid point of the backward scan leaves in its output blocks and in the carried gradient, which it
  clears before its first chunk.
-/
module

public import proofs.«01_k».proof.Proof.Pieces
public import proofs.«01_k».proof.Proof.Gen.KernelIdeal.Frame
public import Idealize.ShloMosaic.Lib.Pipeline.CanonAppend

@[expose] public section

set_option maxRecDepth 16384
set_option maxHeartbeats 4000000

noncomputable section

namespace Cert.ScanBwd.PointA

open Idealize.ShloMosaic Idealize.ShloMosaic.Pipeline Idealize.ShloMosaic.TcCoe Cert.KernelIdeal Cert.KernelIdeal.Gen

variable (c : Dev nD) (i : grid0.Coords)
  (arg1 : Memref sig .tc .vmem S256x1024 .f32) (harg1 : arg1.IsWhole) (arg2 : Memref sig .tc .vmem S256x1024 .f32) (harg2 : arg2.IsWhole) (arg3 : Memref sig .tc .vmem S256x128 .f32) (harg3 : arg3.IsWhole)
  (arg4 : Memref sig .tc .vmem S256x1024 .bf16) (harg4 : arg4.IsWhole) (arg5 : Memref sig .tc .vmem S4x8x64x64 .f32) (harg5 : arg5.IsWhole) (arg6 : Memref sig .tc .vmem S256x1024 .bf16) (harg6 : arg6.IsWhole)
  (arg7 : Memref sig .tc .vmem S4x128x1024 .bf16) (harg7 : arg7.IsWhole) (arg8 : Memref sig .tc .vmem S256x1024 .bf16) (harg8 : arg8.IsWhole) (arg9 : Memref sig .tc .vmem S256x1024 .f32) (harg9 : arg9.IsWhole)
  (arg10 : Memref sig .tc .vmem S4x8x64x64 .f32) (harg10 : arg10.IsWhole) (arg11 : Memref sig .tc .vmem S256x1024 .bf16) (harg11 : arg11.IsWhole) (arg12 : Memref sig .tc .vmem S256x1024 .bf16) (harg12 : arg12.IsWhole)
  (arg13 : Memref sig .tc .vmem S256x1024 .f32) (harg13 : arg13.IsWhole) (arg14 : Memref sig .tc .vmem S4x8x128 .f32) (harg14 : arg14.IsWhole) (arg15 : Memref sig .tc .vmem S8x128x128 .f32) (harg15 : arg15.IsWhole)
  (hc0 : cond0_0 i)
  (x0 : Vec Ideal S256x1024 .f32) (x1 : Vec Ideal S256x1024 .f32) (x2 : Vec Ideal S256x128 .f32) (x3 : Vec Ideal S256x1024 .bf16)
  (x4 : Vec Ideal S4x8x64x64 .f32) (x5 : Vec Ideal S256x1024 .bf16) (x6 : Vec Ideal S4x128x1024 .bf16) (x7 : Vec Ideal S256x1024 .bf16)

/-- The point's input blocks, where they are staged. -/
abbrev ins : Ins :=
  ⟨arg1, harg1, arg2, harg2, arg3, harg3, arg4, harg4, arg5, harg5, arg6, harg6, arg7, harg7, arg8, harg8,
    x0, x1, x2, x3, x4, x5, x6, x7⟩

/-- What the carried gradient holds for one head after it was cleared. -/
abbrev raw (h : Fin 8) : FVec Ideal S1x128x128 .f32 :=
  View.readCov (Val := Elt Ideal) arg15.view (kernelRun0_A.sl.HS0_1 (F := Ideal))
    (Rect.unit (s := S8x128x128) ![h.val, 0, 0] S1x128x128.size (inbT h)).toLoadRect

/-- No gradient yet. -/
def carry (h : Fin 8) : Mat := fun _ _ => 0

theorem raw_eq (h : Fin 8) (a b : Fin 128) : raw arg15 h (ix3 0 a b) = carry h a b := by
  have e : View.canon (kernelRun0_A.sl.HS0_1 (F := Ideal)) = k0_pay9 (F := Ideal) := by
    unfold kernelRun0_A.sl.HS0_1
    exact View.canon_unit_zero (by funext a; fin_cases a <;> rfl) _ _
  show View.readCov (Val := Elt Ideal) _ _ _ _ = 0
  rw [View.readCov_eq_canon', e]
  unfold k0_pay9
  pointwise []

theorem pieces8 :
    ∀ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1,
      ∀ x, pc.2 x = ((ins arg1 harg1 arg2 harg2 arg3 harg3 arg4 harg4 arg5 harg5 arg6 harg6 arg7 harg7 arg8 harg8 x0 x1 x2 x3 x4 x5 x6 x7).G8) (pc.1.emb x) := by
  unfold kernelRun0_A
  dsimp only
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨0, by decide⟩), ?_⟩
  exact fun _ h => absurd h (List.not_mem_nil)

theorem out8 :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = ((ins arg1 harg1 arg2 harg2 arg3 harg3 arg4 harg4 arg5 harg5 arg6 harg6 arg7 harg7 arg8 harg8 x0 x1 x2 x3 x4 x5 x6 x7).G8) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  exact View.canon_apply_of_pieces _ _ (pieces8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) y
    (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)

theorem pieces9 :
    ∀ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1,
      ∀ x, pc.2 x = ((ins arg1 harg1 arg2 harg2 arg3 harg3 arg4 harg4 arg5 harg5 arg6 harg6 arg7 harg7 arg8 harg8 x0 x1 x2 x3 x4 x5 x6 x7).G9) (pc.1.emb x) := by
  unfold kernelRun0_A
  dsimp only
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨0, by decide⟩), ?_⟩
  exact fun _ h => absurd h (List.not_mem_nil)

theorem out9 :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = ((ins arg1 harg1 arg2 harg2 arg3 harg3 arg4 harg4 arg5 harg5 arg6 harg6 arg7 harg7 arg8 harg8 x0 x1 x2 x3 x4 x5 x6 x7).G9) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  exact View.canon_apply_of_pieces _ _ (pieces9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) y
    (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)

theorem pieces10 :
    ∀ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1,
      ∀ x, pc.2 x = ((ins arg1 harg1 arg2 harg2 arg3 harg3 arg4 harg4 arg5 harg5 arg6 harg6 arg7 harg7 arg8 harg8 x0 x1 x2 x3 x4 x5 x6 x7).G10 carry) (pc.1.emb x) := by
  unfold kernelRun0_A
  dsimp only
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨0, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨0, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨0, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨0, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨0, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨0, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨0, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨0, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨1, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨1, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨1, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨1, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨1, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨1, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨1, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨1, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨2, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨2, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨2, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨2, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨2, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨2, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨2, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨2, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨3, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨3, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨3, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨3, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨3, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨3, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨3, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15) carry (raw_eq arg15) ⟨3, by decide⟩ ⟨0, by decide⟩), ?_⟩
  exact fun _ h => absurd h (List.not_mem_nil)

theorem out10 :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = ((ins arg1 harg1 arg2 harg2 arg3 harg3 arg4 harg4 arg5 harg5 arg6 harg6 arg7 harg7 arg8 harg8 x0 x1 x2 x3 x4 x5 x6 x7).G10 carry) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  exact View.canon_apply_of_pieces _ _ (pieces10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) y
    (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)

theorem pieces11 :
    ∀ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1,
      ∀ x, pc.2 x = ((ins arg1 harg1 arg2 harg2 arg3 harg3 arg4 harg4 arg5 harg5 arg6 harg6 arg7 harg7 arg8 harg8 x0 x1 x2 x3 x4 x5 x6 x7).G11 carry) (pc.1.emb x) := by
  unfold kernelRun0_A
  dsimp only
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨0, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨0, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨0, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨0, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨0, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨0, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨0, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨0, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨1, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨1, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨1, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨1, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨1, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨1, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨1, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨1, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨2, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨2, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨2, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨2, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨2, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨2, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨2, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨2, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨3, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨3, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨3, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨3, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨3, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨3, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨3, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15) carry (raw_eq arg15) ⟨3, by decide⟩ ⟨0, by decide⟩), ?_⟩
  exact fun _ h => absurd h (List.not_mem_nil)

theorem out11 :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = ((ins arg1 harg1 arg2 harg2 arg3 harg3 arg4 harg4 arg5 harg5 arg6 harg6 arg7 harg7 arg8 harg8 x0 x1 x2 x3 x4 x5 x6 x7).G11 carry) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  exact View.canon_apply_of_pieces _ _ (pieces11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) y
    (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)

theorem pieces12 :
    ∀ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1,
      ∀ x, pc.2 x = ((ins arg1 harg1 arg2 harg2 arg3 harg3 arg4 harg4 arg5 harg5 arg6 harg6 arg7 harg7 arg8 harg8 x0 x1 x2 x3 x4 x5 x6 x7).G12 carry) (pc.1.emb x) := by
  unfold kernelRun0_A
  dsimp only
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨0, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨0, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨0, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨0, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨0, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨0, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨0, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨0, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨1, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨1, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨1, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨1, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨1, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨1, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨1, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨1, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨2, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨2, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨2, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨2, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨2, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨2, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨2, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨2, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨3, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨3, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨3, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨3, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨3, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨3, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨3, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15) carry (raw_eq arg15) ⟨3, by decide⟩ ⟨0, by decide⟩), ?_⟩
  exact fun _ h => absurd h (List.not_mem_nil)

theorem out12 :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = ((ins arg1 harg1 arg2 harg2 arg3 harg3 arg4 harg4 arg5 harg5 arg6 harg6 arg7 harg7 arg8 harg8 x0 x1 x2 x3 x4 x5 x6 x7).G12 carry) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  exact View.canon_apply_of_pieces _ _ (pieces12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) y
    (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)

theorem pieces13 :
    ∀ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1,
      ∀ x, pc.2 x = ((ins arg1 harg1 arg2 harg2 arg3 harg3 arg4 harg4 arg5 harg5 arg6 harg6 arg7 harg7 arg8 harg8 x0 x1 x2 x3 x4 x5 x6 x7).G13 carry) (pc.1.emb x) := by
  unfold kernelRun0_A
  dsimp only
  refine List.forall_mem_cons.2 ⟨((ins arg1 harg1 arg2 harg2 arg3 harg3 arg4 harg4 arg5 harg5 arg6 harg6 arg7 harg7 arg8 harg8 x0 x1 x2 x3 x4 x5 x6 x7).piece13 (raw arg15) carry (raw_eq arg15) ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece13 (raw arg15) carry (raw_eq arg15) ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece13 (raw arg15) carry (raw_eq arg15) ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece13 (raw arg15) carry (raw_eq arg15) ⟨3, by decide⟩), ?_⟩
  exact fun _ h => absurd h (List.not_mem_nil)

theorem out13 :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = ((ins arg1 harg1 arg2 harg2 arg3 harg3 arg4 harg4 arg5 harg5 arg6 harg6 arg7 harg7 arg8 harg8 x0 x1 x2 x3 x4 x5 x6 x7).G13 carry) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  exact View.canon_apply_of_pieces _ _ (pieces13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) y
    (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)

theorem piecess :
    ∀ pc ∈ ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1).take 8,
      ∀ x, pc.2 x = ((ins arg1 harg1 arg2 harg2 arg3 harg3 arg4 harg4 arg5 harg5 arg6 harg6 arg7 harg7 arg8 harg8 x0 x1 x2 x3 x4 x5 x6 x7).Gs carry) (pc.1.emb x) := by
  unfold kernelRun0_A
  dsimp only
  simp only [List.take_succ_cons, List.take_zero]
  refine List.forall_mem_cons.2 ⟨((ins arg1 harg1 arg2 harg2 arg3 harg3 arg4 harg4 arg5 harg5 arg6 harg6 arg7 harg7 arg8 harg8 x0 x1 x2 x3 x4 x5 x6 x7).pieceS (raw arg15) carry (raw_eq arg15) ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).pieceS (raw arg15) carry (raw_eq arg15) ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).pieceS (raw arg15) carry (raw_eq arg15) ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).pieceS (raw arg15) carry (raw_eq arg15) ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).pieceS (raw arg15) carry (raw_eq arg15) ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).pieceS (raw arg15) carry (raw_eq arg15) ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).pieceS (raw arg15) carry (raw_eq arg15) ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).pieceS (raw arg15) carry (raw_eq arg15) ⟨0, by decide⟩), ?_⟩
  exact fun _ h => absurd h (List.not_mem_nil)

theorem outs :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = ((ins arg1 harg1 arg2 harg2 arg3 harg3 arg4 harg4 arg5 harg5 arg6 harg6 arg7 harg7 arg8 harg8 x0 x1 x2 x3 x4 x5 x6 x7).Gs carry) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  rw [← List.take_append_drop 8 ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1)]
  exact View.canon_append_of_pieces _ _ _ (piecess c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) y
    (View.cover_of_tiledL ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1.take 8)
      S1x128x128.size (by sl_kernel_rfl) y)

end Cert.ScanBwd.PointA
-- ==== Proof.PointB.lean ====
/-
  What a later grid point of the backward scan leaves in its output blocks and in the carried gradient.
-/
module

public import proofs.«01_k».proof.Proof.Pieces
public import proofs.«01_k».proof.Proof.Gen.KernelIdeal.Frame
public import Idealize.ShloMosaic.Lib.Pipeline.CanonAppend

@[expose] public section

set_option maxRecDepth 16384
set_option maxHeartbeats 4000000

noncomputable section

namespace Cert.ScanBwd.PointB

open Idealize.ShloMosaic Idealize.ShloMosaic.Pipeline Idealize.ShloMosaic.TcCoe Cert.KernelIdeal Cert.KernelIdeal.Gen

variable (c : Dev nD) (i : grid0.Coords)
  (arg1 : Memref sig .tc .vmem S256x1024 .f32) (harg1 : arg1.IsWhole) (arg2 : Memref sig .tc .vmem S256x1024 .f32) (harg2 : arg2.IsWhole) (arg3 : Memref sig .tc .vmem S256x128 .f32) (harg3 : arg3.IsWhole)
  (arg4 : Memref sig .tc .vmem S256x1024 .bf16) (harg4 : arg4.IsWhole) (arg5 : Memref sig .tc .vmem S4x8x64x64 .f32) (harg5 : arg5.IsWhole) (arg6 : Memref sig .tc .vmem S256x1024 .bf16) (harg6 : arg6.IsWhole)
  (arg7 : Memref sig .tc .vmem S4x128x1024 .bf16) (harg7 : arg7.IsWhole) (arg8 : Memref sig .tc .vmem S256x1024 .bf16) (harg8 : arg8.IsWhole) (arg9 : Memref sig .tc .vmem S256x1024 .f32) (harg9 : arg9.IsWhole)
  (arg10 : Memref sig .tc .vmem S4x8x64x64 .f32) (harg10 : arg10.IsWhole) (arg11 : Memref sig .tc .vmem S256x1024 .bf16) (harg11 : arg11.IsWhole) (arg12 : Memref sig .tc .vmem S256x1024 .bf16) (harg12 : arg12.IsWhole)
  (arg13 : Memref sig .tc .vmem S256x1024 .f32) (harg13 : arg13.IsWhole) (arg14 : Memref sig .tc .vmem S4x8x128 .f32) (harg14 : arg14.IsWhole) (arg15 : Memref sig .tc .vmem S8x128x128 .f32) (harg15 : arg15.IsWhole)
  (hc0 : ¬cond0_0 i)
  (x0 : Vec Ideal S256x1024 .f32) (x1 : Vec Ideal S256x1024 .f32) (x2 : Vec Ideal S256x128 .f32) (x3 : Vec Ideal S256x1024 .bf16)
  (x4 : Vec Ideal S4x8x64x64 .f32) (x5 : Vec Ideal S256x1024 .bf16) (x6 : Vec Ideal S4x128x1024 .bf16) (x7 : Vec Ideal S256x1024 .bf16) (xs0 : Vec Ideal S8x128x128 .f32)

/-- The point's input blocks, where they are staged. -/
abbrev ins : Ins :=
  ⟨arg1, harg1, arg2, harg2, arg3, harg3, arg4, harg4, arg5, harg5, arg6, harg6, arg7, harg7, arg8, harg8,
    x0, x1, x2, x3, x4, x5, x6, x7⟩

/-- What the carried gradient holds for one head. -/
abbrev raw (h : Fin 8) : FVec Ideal S1x128x128 .f32 :=
  View.readAt (Elt Ideal) arg15.view (Rect.unit (s := S8x128x128) ![h.val, 0, 0] S1x128x128.size (inbT h)).toLoadRect
    (harg15.unread xs0)

/-- The carried gradient by head. -/
def carry (xs0 : Vec Ideal S8x128x128 .f32) (h : Fin 8) : Mat := fun a b => xs0 (ix3 h a b)

theorem raw_eq (h : Fin 8) (a b : Fin 128) : raw arg15 harg15 xs0 h (ix3 0 a b) = carry xs0 h a b := by
  refine (readAt_apply arg15 harg15 xs0 _ _).trans (congrArg xs0 ?_)
  refine (emb3 _ _ _ (inbT h) _ _ _ (by simp) (by omega) (by omega)).trans ?_
  congr 1 <;> exact Fin.ext (by simp)

theorem pieces8 :
    ∀ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1,
      ∀ x, pc.2 x = ((ins arg1 harg1 arg2 harg2 arg3 harg3 arg4 harg4 arg5 harg5 arg6 harg6 arg7 harg7 arg8 harg8 x0 x1 x2 x3 x4 x5 x6 x7).G8) (pc.1.emb x) := by
  unfold kernelRun0_B
  dsimp only
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨0, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨1, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨2, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece8 ⟨3, by decide⟩ ⟨0, by decide⟩), ?_⟩
  exact fun _ h => absurd h (List.not_mem_nil)

theorem out8 :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
      = ((ins arg1 harg1 arg2 harg2 arg3 harg3 arg4 harg4 arg5 harg5 arg6 harg6 arg7 harg7 arg8 harg8 x0 x1 x2 x3 x4 x5 x6 x7).G8) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  exact View.canon_apply_of_pieces _ _ (pieces8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) y
    (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)

theorem pieces9 :
    ∀ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1,
      ∀ x, pc.2 x = ((ins arg1 harg1 arg2 harg2 arg3 harg3 arg4 harg4 arg5 harg5 arg6 harg6 arg7 harg7 arg8 harg8 x0 x1 x2 x3 x4 x5 x6 x7).G9) (pc.1.emb x) := by
  unfold kernelRun0_B
  dsimp only
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨0, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨1, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨2, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece9 ⟨3, by decide⟩ ⟨0, by decide⟩), ?_⟩
  exact fun _ h => absurd h (List.not_mem_nil)

theorem out9 :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
      = ((ins arg1 harg1 arg2 harg2 arg3 harg3 arg4 harg4 arg5 harg5 arg6 harg6 arg7 harg7 arg8 harg8 x0 x1 x2 x3 x4 x5 x6 x7).G9) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  exact View.canon_apply_of_pieces _ _ (pieces9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) y
    (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)

theorem pieces10 :
    ∀ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1,
      ∀ x, pc.2 x = ((ins arg1 harg1 arg2 harg2 arg3 harg3 arg4 harg4 arg5 harg5 arg6 harg6 arg7 harg7 arg8 harg8 x0 x1 x2 x3 x4 x5 x6 x7).G10 (carry xs0)) (pc.1.emb x) := by
  unfold kernelRun0_B
  dsimp only
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨0, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨0, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨0, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨0, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨0, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨0, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨0, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨0, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨1, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨1, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨1, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨1, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨1, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨1, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨1, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨1, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨2, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨2, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨2, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨2, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨2, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨2, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨2, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨2, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨3, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨3, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨3, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨3, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨3, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨3, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨3, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece10 (raw arg15 harg15 xs0) (carry xs0) (raw_eq arg15 harg15 xs0) ⟨3, by decide⟩ ⟨0, by decide⟩), ?_⟩
  exact fun _ h => absurd h (List.not_mem_nil)

theorem out10 :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
      = ((ins arg1 harg1 arg2 harg2 arg3 harg3 arg4 harg4 arg5 harg5 arg6 harg6 arg7 harg7 arg8 harg8 x0 x1 x2 x3 x4 x5 x6 x7).G10 (carry xs0)) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  exact View.canon_apply_of_pieces _ _ (pieces10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) y
    (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)

theorem pieces11 :
    ∀ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1,
      ∀ x, pc.2 x = ((ins arg1 harg1 arg2 harg2 arg3 harg3 arg4 harg4 arg5 harg5 arg6 harg6 arg7 harg7 arg8 harg8 x0 x1 x2 x3 x4 x5 x6 x7).G11 (carry xs0)) (pc.1.emb x) := by
  unfold kernelRun0_B
  dsimp only
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨0, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨0, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨0, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨0, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨0, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨0, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨0, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨0, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨1, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨1, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨1, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨1, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨1, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨1, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨1, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨1, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨2, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨2, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨2, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨2, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨2, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨2, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨2, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨2, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨3, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨3, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨3, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨3, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨3, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨3, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨3, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece11 (raw arg15 harg15 xs0) (carry xs0) (raw_eq arg15 harg15 xs0) ⟨3, by decide⟩ ⟨0, by decide⟩), ?_⟩
  exact fun _ h => absurd h (List.not_mem_nil)

theorem out11 :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
      = ((ins arg1 harg1 arg2 harg2 arg3 harg3 arg4 harg4 arg5 harg5 arg6 harg6 arg7 harg7 arg8 harg8 x0 x1 x2 x3 x4 x5 x6 x7).G11 (carry xs0)) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  exact View.canon_apply_of_pieces _ _ (pieces11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) y
    (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)

theorem pieces12 :
    ∀ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1,
      ∀ x, pc.2 x = ((ins arg1 harg1 arg2 harg2 arg3 harg3 arg4 harg4 arg5 harg5 arg6 harg6 arg7 harg7 arg8 harg8 x0 x1 x2 x3 x4 x5 x6 x7).G12 (carry xs0)) (pc.1.emb x) := by
  unfold kernelRun0_B
  dsimp only
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨0, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨0, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨0, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨0, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨0, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨0, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨0, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨0, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨1, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨1, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨1, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨1, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨1, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨1, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨1, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨1, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨2, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨2, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨2, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨2, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨2, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨2, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨2, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨2, by decide⟩ ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨3, by decide⟩ ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨3, by decide⟩ ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨3, by decide⟩ ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨3, by decide⟩ ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨3, by decide⟩ ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨3, by decide⟩ ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨3, by decide⟩ ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece12 (raw arg15 harg15 xs0) (carry xs0) (raw_eq arg15 harg15 xs0) ⟨3, by decide⟩ ⟨0, by decide⟩), ?_⟩
  exact fun _ h => absurd h (List.not_mem_nil)

theorem out12 :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
      = ((ins arg1 harg1 arg2 harg2 arg3 harg3 arg4 harg4 arg5 harg5 arg6 harg6 arg7 harg7 arg8 harg8 x0 x1 x2 x3 x4 x5 x6 x7).G12 (carry xs0)) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  exact View.canon_apply_of_pieces _ _ (pieces12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) y
    (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)

theorem pieces13 :
    ∀ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1,
      ∀ x, pc.2 x = ((ins arg1 harg1 arg2 harg2 arg3 harg3 arg4 harg4 arg5 harg5 arg6 harg6 arg7 harg7 arg8 harg8 x0 x1 x2 x3 x4 x5 x6 x7).G13 (carry xs0)) (pc.1.emb x) := by
  unfold kernelRun0_B
  dsimp only
  refine List.forall_mem_cons.2 ⟨((ins arg1 harg1 arg2 harg2 arg3 harg3 arg4 harg4 arg5 harg5 arg6 harg6 arg7 harg7 arg8 harg8 x0 x1 x2 x3 x4 x5 x6 x7).piece13 (raw arg15 harg15 xs0) (carry xs0) (raw_eq arg15 harg15 xs0) ⟨0, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece13 (raw arg15 harg15 xs0) (carry xs0) (raw_eq arg15 harg15 xs0) ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece13 (raw arg15 harg15 xs0) (carry xs0) (raw_eq arg15 harg15 xs0) ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).piece13 (raw arg15 harg15 xs0) (carry xs0) (raw_eq arg15 harg15 xs0) ⟨3, by decide⟩), ?_⟩
  exact fun _ h => absurd h (List.not_mem_nil)

theorem out13 :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
      = ((ins arg1 harg1 arg2 harg2 arg3 harg3 arg4 harg4 arg5 harg5 arg6 harg6 arg7 harg7 arg8 harg8 x0 x1 x2 x3 x4 x5 x6 x7).G13 (carry xs0)) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  exact View.canon_apply_of_pieces _ _ (pieces13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) y
    (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)

theorem piecess :
    ∀ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1,
      ∀ x, pc.2 x = ((ins arg1 harg1 arg2 harg2 arg3 harg3 arg4 harg4 arg5 harg5 arg6 harg6 arg7 harg7 arg8 harg8 x0 x1 x2 x3 x4 x5 x6 x7).Gs (carry xs0)) (pc.1.emb x) := by
  unfold kernelRun0_B
  dsimp only
  refine List.forall_mem_cons.2 ⟨((ins arg1 harg1 arg2 harg2 arg3 harg3 arg4 harg4 arg5 harg5 arg6 harg6 arg7 harg7 arg8 harg8 x0 x1 x2 x3 x4 x5 x6 x7).pieceS (raw arg15 harg15 xs0) (carry xs0) (raw_eq arg15 harg15 xs0) ⟨7, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).pieceS (raw arg15 harg15 xs0) (carry xs0) (raw_eq arg15 harg15 xs0) ⟨6, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).pieceS (raw arg15 harg15 xs0) (carry xs0) (raw_eq arg15 harg15 xs0) ⟨5, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).pieceS (raw arg15 harg15 xs0) (carry xs0) (raw_eq arg15 harg15 xs0) ⟨4, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).pieceS (raw arg15 harg15 xs0) (carry xs0) (raw_eq arg15 harg15 xs0) ⟨3, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).pieceS (raw arg15 harg15 xs0) (carry xs0) (raw_eq arg15 harg15 xs0) ⟨2, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).pieceS (raw arg15 harg15 xs0) (carry xs0) (raw_eq arg15 harg15 xs0) ⟨1, by decide⟩), ?_⟩
  refine List.forall_mem_cons.2 ⟨((ins arg1 harg1 arg2 harg2 arg3 harg3 arg4 harg4 arg5 harg5 arg6 harg6 arg7 harg7 arg8 harg8 x0 x1 x2 x3 x4 x5 x6 x7).pieceS (raw arg15 harg15 xs0) (carry xs0) (raw_eq arg15 harg15 xs0) ⟨0, by decide⟩), ?_⟩
  exact fun _ h => absurd h (List.not_mem_nil)

theorem outs :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
      = ((ins arg1 harg1 arg2 harg2 arg3 harg3 arg4 harg4 arg5 harg5 arg6 harg6 arg7 harg7 arg8 harg8 x0 x1 x2 x3 x4 x5 x6 x7).Gs (carry xs0)) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  exact View.canon_apply_of_pieces _ _ (piecess c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) y
    (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)

end Cert.ScanBwd.PointB
-- ==== Proof.KernelValue.lean ====
/-
  What the kernel leaves in its six result arrays: the whole backward scan of the argument arrays.
-/
module

public import proofs.«01_k».proof.Proof.Whole
public import proofs.«01_k».proof.Proof.PointA
public import proofs.«01_k».proof.Proof.PointB
public import proofs.«01_k».proof.Proof.Gen.KernelIdeal.Value
public import Idealize.ShloMosaic.Lib.Pipeline.ValueKit

@[expose] public section

set_option maxRecDepth 16384
set_option maxHeartbeats 2000000

noncomputable section

namespace Cert.ScanBwd

open Idealize.ShloMosaic Idealize.ShloMosaic.Pipeline Idealize.ShloMosaic.TcCoe Idealize.SL.Sem Cert.KernelIdeal
  Cert.KernelIdeal.Gen

variable (m : (ℓ : Loc nD τ sig) → Buf (Elt Ideal) ℓ) (c : Dev nD)

/-- The argument arrays of one device. -/
def kargs : Args where
  q := m ((c : Thread nD τ).loc main_arg0)
  k := m ((c : Thread nD τ).loc main_arg1)
  g := m ((c : Thread nD τ).loc main_arg2)
  w := m ((c : Thread nD τ).loc main_arg3)
  p := m ((c : Thread nD τ).loc main_arg4)
  v := m ((c : Thread nD τ).loc main_arg5)
  s := m ((c : Thread nD τ).loc main_arg6)
  d := m ((c : Thread nD τ).loc main_arg7)

/-- The input blocks of one grid point. -/
abbrev insAt (t : Fin cfg0.N) : Ins :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
    iblk m c 0 t, iblk m c 1 t, iblk m c 2 t, iblk m c 3 t, iblk m c 4 t, iblk m c 5 t, iblk m c 6 t, iblk m c 7 t⟩

/-- What the point before left in the carried gradient. -/
abbrev prev (t : Fin cfg0.N) : Vec Ideal S8x128x128 .f32 :=
  (outsAt0 m c (t.val - 1) (Nat.lt_of_le_of_lt (Nat.sub_le _ _) t.isLt)).2.2.2.2.2.2

theorem lt8 (t : Fin cfg0.N) : t.val < 8 := Nat.lt_of_lt_of_eq t.isLt N_0

/-- The chunk of the array that is chunk `ci` of point `t`'s block: the blocks run from the last to the first. -/
def chunkOf (t : Fin cfg0.N) (ci : Fin 4) : Fin 32 := ⟨4 * (7 - t.val) + ci.val, by omega⟩

theorem index0 : ∀ t : Fin cfg0.N, win0_0.index t = ![7 - t.val, 0] := (by decide +kernel : ∀ t : Fin grid0.N, _)
theorem index1 : ∀ t : Fin cfg0.N, win0_1.index t = ![7 - t.val, 0] := (by decide +kernel : ∀ t : Fin grid0.N, _)
theorem index2 : ∀ t : Fin cfg0.N, win0_2.index t = ![7 - t.val, 0] := (by decide +kernel : ∀ t : Fin grid0.N, _)
theorem index3 : ∀ t : Fin cfg0.N, win0_3.index t = ![7 - t.val, 0] := (by decide +kernel : ∀ t : Fin grid0.N, _)
theorem index4 : ∀ t : Fin cfg0.N, win0_4.index t = ![7 - t.val, 0, 0, 0] := (by decide +kernel : ∀ t : Fin grid0.N, _)
theorem index5 : ∀ t : Fin cfg0.N, win0_5.index t = ![7 - t.val, 0] := (by decide +kernel : ∀ t : Fin grid0.N, _)
theorem index6 : ∀ t : Fin cfg0.N, win0_6.index t = ![7 - t.val, 0, 0] := (by decide +kernel : ∀ t : Fin grid0.N, _)
theorem index7 : ∀ t : Fin cfg0.N, win0_7.index t = ![7 - t.val, 0] := (by decide +kernel : ∀ t : Fin grid0.N, _)
theorem index8 : ∀ t : Fin cfg0.N, win0_8.index t = ![7 - t.val, 0] := (by decide +kernel : ∀ t : Fin grid0.N, _)
theorem index9 : ∀ t : Fin cfg0.N, win0_9.index t = ![7 - t.val, 0, 0, 0] := (by decide +kernel : ∀ t : Fin grid0.N, _)
theorem index10 : ∀ t : Fin cfg0.N, win0_10.index t = ![7 - t.val, 0] := (by decide +kernel : ∀ t : Fin grid0.N, _)
theorem index11 : ∀ t : Fin cfg0.N, win0_11.index t = ![7 - t.val, 0] := (by decide +kernel : ∀ t : Fin grid0.N, _)
theorem index12 : ∀ t : Fin cfg0.N, win0_12.index t = ![7 - t.val, 0] := (by decide +kernel : ∀ t : Fin grid0.N, _)
theorem index13 : ∀ t : Fin cfg0.N, win0_13.index t = ![7 - t.val, 0, 0] := (by decide +kernel : ∀ t : Fin grid0.N, _)

theorem blk0 (t : Fin cfg0.N) (ci : Fin 4) (h : Fin 8) (r : Fin 64) (a : Fin 128)
    (h0 : 64 * ci.val + r.val < 256) (h1 : 128 * h.val + a.val < 1024) :
    (iblk m c 0 t : Vec Ideal S256x1024 .f32) (ix2 ⟨64 * ci.val + r.val, h0⟩ ⟨128 * h.val + a.val, h1⟩)
      = (kargs m c).q (ix2 (rowOf (chunkOf t ci) r) (colOf h a)) := by
  have ht := lt8 t
  unfold kargs
  dsimp only [rowOf, colOf, chunkOf]
  blk_ext! [iblk, V, index0 t]

theorem blk1 (t : Fin cfg0.N) (ci : Fin 4) (h : Fin 8) (r : Fin 64) (a : Fin 128)
    (h0 : 64 * ci.val + r.val < 256) (h1 : 128 * h.val + a.val < 1024) :
    (iblk m c 1 t : Vec Ideal S256x1024 .f32) (ix2 ⟨64 * ci.val + r.val, h0⟩ ⟨128 * h.val + a.val, h1⟩)
      = (kargs m c).k (ix2 (rowOf (chunkOf t ci) r) (colOf h a)) := by
  have ht := lt8 t
  unfold kargs
  dsimp only [rowOf, colOf, chunkOf]
  blk_ext! [iblk, V, index1 t]

theorem blk3 (t : Fin cfg0.N) (ci : Fin 4) (h : Fin 8) (r : Fin 64) (a : Fin 128)
    (h0 : 64 * ci.val + r.val < 256) (h1 : 128 * h.val + a.val < 1024) :
    (iblk m c 3 t : Vec Ideal S256x1024 .bf16) (ix2 ⟨64 * ci.val + r.val, h0⟩ ⟨128 * h.val + a.val, h1⟩)
      = (kargs m c).w (ix2 (rowOf (chunkOf t ci) r) (colOf h a)) := by
  have ht := lt8 t
  unfold kargs
  dsimp only [rowOf, colOf, chunkOf]
  blk_ext! [iblk, V, index3 t]

theorem blk5 (t : Fin cfg0.N) (ci : Fin 4) (h : Fin 8) (r : Fin 64) (a : Fin 128)
    (h0 : 64 * ci.val + r.val < 256) (h1 : 128 * h.val + a.val < 1024) :
    (iblk m c 5 t : Vec Ideal S256x1024 .bf16) (ix2 ⟨64 * ci.val + r.val, h0⟩ ⟨128 * h.val + a.val, h1⟩)
      = (kargs m c).v (ix2 (rowOf (chunkOf t ci) r) (colOf h a)) := by
  have ht := lt8 t
  unfold kargs
  dsimp only [rowOf, colOf, chunkOf]
  blk_ext! [iblk, V, index5 t]

theorem blk7 (t : Fin cfg0.N) (ci : Fin 4) (h : Fin 8) (r : Fin 64) (a : Fin 128)
    (h0 : 64 * ci.val + r.val < 256) (h1 : 128 * h.val + a.val < 1024) :
    (iblk m c 7 t : Vec Ideal S256x1024 .bf16) (ix2 ⟨64 * ci.val + r.val, h0⟩ ⟨128 * h.val + a.val, h1⟩)
      = (kargs m c).d (ix2 (rowOf (chunkOf t ci) r) (colOf h a)) := by
  have ht := lt8 t
  unfold kargs
  dsimp only [rowOf, colOf, chunkOf]
  blk_ext! [iblk, V, index7 t]

theorem blk2 (t : Fin cfg0.N) (ci : Fin 4) (h : Fin 8) (r : Fin 64)
    (h0 : 64 * ci.val + r.val < 256) (h1 : 8 + h.val < 128) :
    (iblk m c 2 t : Vec Ideal S256x128 .f32) (ix2 ⟨64 * ci.val + r.val, h0⟩ ⟨8 + h.val, h1⟩)
      = (kargs m c).g (ix2 (rowOf (chunkOf t ci) r) ⟨8 + h.val, h1⟩) := by
  have ht := lt8 t
  unfold kargs
  dsimp only [rowOf, colOf, chunkOf]
  blk_ext! [iblk, V, index2 t]

theorem blk4 (t : Fin cfg0.N) (ci : Fin 4) (h : Fin 8) (i j : Fin 64) :
    (iblk m c 4 t : Vec Ideal S4x8x64x64 .f32) (ix4 ci h i j) = (kargs m c).p (ix4 (chunkOf t ci) h i j) := by
  have ht := lt8 t
  unfold kargs
  dsimp only [rowOf, colOf, chunkOf]
  blk_ext! [iblk, V, index4 t]

theorem blk6 (t : Fin cfg0.N) (ci : Fin 4) (h : Fin 8) (a b : Fin 128) (h1 : 128 * h.val + b.val < 1024) :
    (iblk m c 6 t : Vec Ideal S4x128x1024 .bf16) (ix3 ci a ⟨128 * h.val + b.val, h1⟩)
      = (kargs m c).s (ix3 (chunkOf t ci) a (colOf h b)) := by
  have ht := lt8 t
  unfold kargs
  dsimp only [rowOf, colOf, chunkOf]
  blk_ext! [iblk, V, index6 t]

theorem chunk_eq (t : Fin cfg0.N) (ci : Fin 4) (h : Fin 8) :
    (insAt m c t).chunk ci h = (kargs m c).chunk (chunkOf t ci) h := by
  unfold Ins.chunk Args.chunk
  simp only [blk0, blk1, blk2, blk3, blk4, blk5, blk6, blk7]

/-- The gradient through a point's chunks, from the array's gradient before them. -/
theorem mst_eq (t : Fin cfg0.N) (D : Fin 8 → Mat) (hD : ∀ h, D h = (kargs m c).acc h (4 * t.val)) (h : Fin 8) (j : ℕ)
    (hj : j ≤ 4) : (insAt m c t).mst D h j = (kargs m c).acc h (4 * t.val + j) := by
  have ht := lt8 t
  induction j with
  | zero => exact hD h
  | succ j ih =>
    show ((insAt m c t).chunk ⟨3 - j, _⟩ h).next _ = ((kargs m c).chunk ⟨31 - (4 * t.val + j), _⟩ h).next _
    rw [ih (by omega), chunk_eq]
    congr 2
    exact Fin.ext (by show 4 * (7 - t.val) + (3 - j) = 31 - (4 * t.val + j); omega)

/-- What a point leaves: the six blocks and the carried gradient. -/
structure Left (t : Fin cfg0.N) (D : Fin 8 → Mat) : Prop where
  o8 : (outsAt0 m c t.val t.isLt).1 = (insAt m c t).G8
  o9 : (outsAt0 m c t.val t.isLt).2.1 = (insAt m c t).G9
  o10 : (outsAt0 m c t.val t.isLt).2.2.1 = (insAt m c t).G10 D
  o11 : (outsAt0 m c t.val t.isLt).2.2.2.1 = (insAt m c t).G11 D
  o12 : (outsAt0 m c t.val t.isLt).2.2.2.2.1 = (insAt m c t).G12 D
  o13 : (outsAt0 m c t.val t.isLt).2.2.2.2.2.1 = (insAt m c t).G13 D
  sc : (outsAt0 m c t.val t.isLt).2.2.2.2.2.2 = (insAt m c t).Gs D

theorem left_A (t : Fin cfg0.N) (h0 : t.val % 8 = 0) : Left m c t PointA.carry := by
  constructor <;> rw [outsAt0_A m c t h0]
  · exact PointA.out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)
  · exact PointA.out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)
  · exact PointA.out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)
  · exact PointA.out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)
  · exact PointA.out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)
  · exact PointA.out13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)
  · exact PointA.outs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)

theorem left_B (t : Fin cfg0.N) (h0 : ¬t.val % 8 = 0) : Left m c t (PointB.carry (prev m c t)) := by
  constructor <;> rw [outsAt0_B m c t h0]
  · exact PointB.out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (prev m c t)
  · exact PointB.out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (prev m c t)
  · exact PointB.out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (prev m c t)
  · exact PointB.out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (prev m c t)
  · exact PointB.out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (prev m c t)
  · exact PointB.out13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (prev m c t)
  · exact PointB.outs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (prev m c t)

/-- The carried gradient after each point. -/
theorem carried (n : ℕ) (hn : n < cfg0.N) (h : Fin 8) (a b : Fin 128) :
    (outsAt0 m c n hn).2.2.2.2.2.2 (ix3 h a b) = (kargs m c).acc h (4 * n + 4) a b := by
  induction n generalizing h a b with
  | zero =>
    rw [(left_A m c ⟨0, hn⟩ rfl).sc]
    show (insAt m c ⟨0, hn⟩).mst PointA.carry h 4 a b = _
    exact congrFun (congrFun (mst_eq m c ⟨0, hn⟩ PointA.carry (fun _ => rfl) h 4 le_rfl) a) b
  | succ n ih =>
    have h8 := lt8 ⟨n + 1, hn⟩
    rw [(left_B m c ⟨n + 1, hn⟩ (by dsimp only at h8 ⊢; omega)).sc]
    show (insAt m c ⟨n + 1, hn⟩).mst (PointB.carry _) h 4 a b = _
    exact congrFun (congrFun (mst_eq m c ⟨n + 1, hn⟩ _ (fun h => funext fun a => funext fun b => ih _ h a b) h 4 le_rfl) a) b

/-- What a point leaves, over the array's gradient before its chunks. -/
theorem left (t : Fin cfg0.N) : ∃ D : Fin 8 → Mat, (∀ h, D h = (kargs m c).acc h (4 * t.val)) ∧ Left m c t D := by
  have ht := lt8 t
  by_cases h0 : t.val % 8 = 0
  · refine ⟨_, fun h => ?_, left_A m c t h0⟩
    have e : t.val = 0 := by omega
    rw [e]
    rfl
  · refine ⟨_, fun h => ?_, left_B m c t h0⟩
    funext a b
    refine (carried m c (t.val - 1) _ h a b).trans ?_
    have e : 4 * (t.val - 1) + 4 = 4 * t.val := by omega
    rw [e]

theorem dm_eq (t : Fin cfg0.N) (D : Fin 8 → Mat) (hD : ∀ h, D h = (kargs m c).acc h (4 * t.val)) (ci : Fin 4) (h : Fin 8) :
    (insAt m c t).dm D ci h = (kargs m c).dS (chunkOf t ci) h := by
  have ht := lt8 t
  show (insAt m c t).mst D h (3 - ci.val) = (kargs m c).acc h (31 - (4 * (7 - t.val) + ci.val))
  rw [mst_eq m c t D hD h _ (by omega)]
  congr 1
  omega

/-- A block of rows is the array's rows at the block's place. -/
theorem rows_eq (t : Fin cfg0.N) (f : Fin 4 → Fin 8 → Fin 64 → Fin 128 → EReal) (g : Fin 32 → Fin 8 → Fin 64 → Fin 128 → EReal)
    (hfg : ∀ ci h r a, f ci h r a = g (chunkOf t ci) h r a) (y : S256x1024.Idx) (z : S2048x1024.Idx)
    (h0 : (z 0).val = (7 - t.val) * 256 + (y 0).val) (h1 : (z 1).val = (y 1).val) : rows f y = allRows g z := by
  have ht := lt8 t
  have hy0 : (y 0).val < 256 := (y 0).isLt
  unfold rows allRows
  rw [hfg]
  congr 1
  · exact Fin.ext (by show 4 * (7 - t.val) + (y 0).val / 64 = (z 0).val / 64; omega)
  · exact Fin.ext (by show (y 1).val / 128 = (z 1).val / 128; omega)
  · exact Fin.ext (by show (y 0).val % 64 = (z 0).val % 64; omega)
  · exact Fin.ext (by show (y 1).val % 128 = (z 1).val % 128; omega)

theorem final8 : (dats m 0 c).arrAt 8 cfg0.N = (kargs m c).R8 := by
  refine (dats m 0 c).arrAt_eq_of_covers 8 _ (by decide +kernel) fun t hf y => ?_
  blk_simp
  obtain ⟨D, hD, L⟩ := left m c t
  rw [after0_8, L.o8]
  refine rows_eq t _ _ (fun ci h r a => ?_) _ _ ?_ ?_
  · rw [chunk_eq]
  · blk_simp [index8 t]
  · blk_simp [index8 t]

theorem final10 : (dats m 0 c).arrAt 10 cfg0.N = (kargs m c).R10 := by
  refine (dats m 0 c).arrAt_eq_of_covers 10 _ (by decide +kernel) fun t hf y => ?_
  blk_simp
  obtain ⟨D, hD, L⟩ := left m c t
  rw [after0_10, L.o10]
  refine rows_eq t _ _ (fun ci h r a => ?_) _ _ ?_ ?_
  · rw [chunk_eq, dm_eq m c t D hD]
  · blk_simp [index10 t]
  · blk_simp [index10 t]

theorem final11 : (dats m 0 c).arrAt 11 cfg0.N = (kargs m c).R11 := by
  refine (dats m 0 c).arrAt_eq_of_covers 11 _ (by decide +kernel) fun t hf y => ?_
  blk_simp
  obtain ⟨D, hD, L⟩ := left m c t
  rw [after0_11, L.o11]
  refine rows_eq t _ _ (fun ci h r a => ?_) _ _ ?_ ?_
  · rw [chunk_eq, dm_eq m c t D hD]
  · blk_simp [index11 t]
  · blk_simp [index11 t]

theorem final12 : (dats m 0 c).arrAt 12 cfg0.N = (kargs m c).R12 := by
  refine (dats m 0 c).arrAt_eq_of_covers 12 _ (by decide +kernel) fun t hf y => ?_
  blk_simp
  obtain ⟨D, hD, L⟩ := left m c t
  rw [after0_12, L.o12]
  refine rows_eq t _ _ (fun ci h r a => ?_) _ _ ?_ ?_
  · rw [chunk_eq, dm_eq m c t D hD]
  · blk_simp [index12 t]
  · blk_simp [index12 t]

/-- A block of causal weights' gradients at its place in the array. -/
theorem dp_eq (t : Fin cfg0.N) (y : S4x8x64x64.Idx) (z : S32x8x64x64.Idx) (h0 : (z 0).val = (7 - t.val) * 4 + (y 0).val)
    (h1 : (z 1).val = (y 1).val) (h2 : (z 2).val = (y 2).val) (h3 : (z 3).val = (y 3).val) :
    (insAt m c t).G9 y = (kargs m c).R9 z := by
  have key : ∀ (n : Fin 32) (h : Fin 8) (i j : Fin 64), chunkOf t (y 0) = n → (y 1 : Fin 8) = h → (y 2 : Fin 64) = i →
      (y 3 : Fin 64) = j → ((insAt m c t).chunk (y 0) (y 1)).dp (y 2) (y 3) = ((kargs m c).chunk n h).dp i j := by
    rintro _ _ _ _ rfl rfl rfl rfl
    exact congrArg (fun C : Chunk => C.dp (y 2) (y 3)) (chunk_eq m c t (y 0) (y 1))
  exact key _ _ _ _ (Fin.ext (by show 4 * (7 - t.val) + (y 0).val = (z 0).val; omega)) (Fin.ext h1.symm) (Fin.ext h2.symm)
    (Fin.ext h3.symm)

theorem gam_at (t : Fin cfg0.N) (D : Fin 8 → Mat) (hD : ∀ h, D h = (kargs m c).acc h (4 * t.val)) (ci : Fin 4) (h : Fin 8) :
    ((insAt m c t).chunk ci h).gam ((insAt m c t).dm D ci h)
      = ((kargs m c).chunk (chunkOf t ci) h).gam ((kargs m c).dS (chunkOf t ci) h) := by
  rw [chunk_eq, dm_eq m c t D hD]

/-- A block of decay gradients at its place in the array. -/
theorem gam_eq (t : Fin cfg0.N) (D : Fin 8 → Mat) (hD : ∀ h, D h = (kargs m c).acc h (4 * t.val)) (y : S4x8x128.Idx)
    (z : S32x8x128.Idx) (h0 : (z 0).val = (7 - t.val) * 4 + (y 0).val) (h2 : (z 2).val = (y 2).val) :
    (insAt m c t).G13 D y = (kargs m c).R13 z := by
  have key : ∀ (n : Fin 32) (l : Fin 128), chunkOf t (y 0) = n → (y 2 : Fin 128) = l →
      (insAt m c t).G13 D y = if l.val < 8 then
        ((kargs m c).chunk n ⟨l.val % 8, Nat.mod_lt _ (by omega)⟩).gam ((kargs m c).dS n ⟨l.val % 8, Nat.mod_lt _ (by omega)⟩)
        else 0 := by
    rintro _ _ rfl rfl
    exact congrArg (fun x : EReal => if (y 2).val < 8 then x else 0)
      (gam_at m c t D hD (y 0) ⟨(y 2).val % 8, Nat.mod_lt _ (by omega)⟩)
  exact key _ _ (Fin.ext (by show 4 * (7 - t.val) + (y 0).val = (z 0).val; omega)) (Fin.ext h2.symm)

theorem final9 : (dats m 0 c).arrAt 9 cfg0.N = (kargs m c).R9 := by
  refine (dats m 0 c).arrAt_eq_of_covers 9 _ (by decide +kernel) fun t hf y => ?_
  blk_simp
  obtain ⟨D, hD, L⟩ := left m c t
  rw [after0_9, L.o9]
  refine dp_eq m c t _ _ ?_ ?_ ?_ ?_ <;> blk_simp [index9 t]

theorem final13 : (dats m 0 c).arrAt 13 cfg0.N = (kargs m c).R13 := by
  refine (dats m 0 c).arrAt_eq_of_covers 13 _ (by decide +kernel) fun t hf y => ?_
  blk_simp
  obtain ⟨D, hD, L⟩ := left m c t
  rw [after0_13, L.o13]
  refine gam_eq m c t D hD _ _ ?_ ?_ <;> blk_simp [index13 t]

end Cert.ScanBwd
-- ==== Proof.RefOps.lean ====
/-
  The reference's operations at an index: products of stacks of matrices by the axes they contract, and the arrays split
  into chunks, heads, rows and columns.
-/
module

public import proofs.«01_k».proof.Proof.Whole
public import proofs.«01_k».proof.Proof.Gen.ReferenceIdeal
public import Idealize.ShloMosaic.Lib.ValueIdx
public import Idealize.ShloMosaic.Lib.Pointwise

@[expose] public section

set_option maxRecDepth 16384

noncomputable section

open scoped BigOperators

namespace Cert.ScanBwd.Ref

open Idealize.ShloMosaic Cert.ReferenceIdeal Cert.ReferenceIdeal.Gen
open Idealize.ShloMosaic.ValueIdx (contrEquiv1 contrEquiv1_symm_val)

/-- A product that contracts one axis, as a sum over that axis. -/
theorem dot_sum {sl sr so : Shape} {φ₁ φ₂ : FTy} (d : DotDims sl sr so) (n : ℕ) (hr : d.contr.rank = 1)
    (hs : d.contr.size ⟨0, by omega⟩ = n) (x : FVec Ideal sl φ₁) (y : FVec Ideal sr φ₂) (j : so.Idx)
    (l : Fin n → sl.Idx) (r : Fin n → sr.Idx)
    (hl : ∀ i, d.lhsIdx j ((contrEquiv1 d n hr hs).symm i) = l i) (hr' : ∀ i, d.rhsIdx j ((contrEquiv1 d n hr hs).symm i) = r i) :
    Host.dotGeneral d none x y j = ∑ i, x (l i) * y (r i) := by
  show FloatOps.dotGeneral d none _ x y j = _
  rw [Ideal.dotGeneral_apply, ← Equiv.sum_comp (contrEquiv1 d n hr hs).symm]
  exact Finset.sum_congr rfl fun i _ => by rw [hl, hr']

section Stack

variable {G m k n : ℕ} {φ₁ φ₂ : FTy}

theorem dot21 (w : DotDims.WF ⟨3, ![G, m, k]⟩ ⟨3, ![G, k, n]⟩ ⟨3, ![G, m, n]⟩ [2] [1] [1] [2] [0] [0])
    (x : FVec Ideal ⟨3, ![G, m, k]⟩ φ₁) (y : FVec Ideal ⟨3, ![G, k, n]⟩ φ₂) (g : Fin G) (a : Fin m) (b : Fin n) :
    Host.dotGeneral (⟨[2], [1], [1], [2], [0], [0], w⟩ : DotDims _ _ _) none x y (ix3 g a b)
      = ∑ i : Fin k, x (ix3 g a i) * y (ix3 g i b) := by
  refine dot_sum (⟨[2], [1], [1], [2], [0], [0], w⟩ : DotDims _ _ _) k rfl rfl x y _ _ _ (fun i => ?_) (fun i => ?_)
  · have c := contrEquiv1_symm_val (⟨[2], [1], [1], [2], [0], [0], w⟩ : DotDims ⟨3, ![G, m, k]⟩ ⟨3, ![G, k, n]⟩ ⟨3, ![G, m, n]⟩)
      k rfl rfl i
    funext ax; apply Fin.ext
    match ax with
    | ⟨0, _⟩ => simp [DotDims.lhsIdx]; rfl
    | ⟨1, _⟩ => simp [DotDims.lhsIdx]; rfl
    | ⟨2, _⟩ => simp [DotDims.lhsIdx]; exact c
  · have c := contrEquiv1_symm_val (⟨[2], [1], [1], [2], [0], [0], w⟩ : DotDims ⟨3, ![G, m, k]⟩ ⟨3, ![G, k, n]⟩ ⟨3, ![G, m, n]⟩)
      k rfl rfl i
    funext ax; apply Fin.ext
    match ax with
    | ⟨0, _⟩ => simp [DotDims.rhsIdx]; rfl
    | ⟨1, _⟩ => simp [DotDims.rhsIdx]; exact c
    | ⟨2, _⟩ => simp [DotDims.rhsIdx]; rfl

theorem dot12 (w : DotDims.WF ⟨3, ![G, k, m]⟩ ⟨3, ![G, n, k]⟩ ⟨3, ![G, m, n]⟩ [1] [2] [2] [1] [0] [0])
    (x : FVec Ideal ⟨3, ![G, k, m]⟩ φ₁) (y : FVec Ideal ⟨3, ![G, n, k]⟩ φ₂) (g : Fin G) (a : Fin m) (b : Fin n) :
    Host.dotGeneral (⟨[1], [2], [2], [1], [0], [0], w⟩ : DotDims _ _ _) none x y (ix3 g a b)
      = ∑ i : Fin k, x (ix3 g i a) * y (ix3 g b i) := by
  refine dot_sum (⟨[1], [2], [2], [1], [0], [0], w⟩ : DotDims _ _ _) k rfl rfl x y _ _ _ (fun i => ?_) (fun i => ?_)
  · have c := contrEquiv1_symm_val (⟨[1], [2], [2], [1], [0], [0], w⟩ : DotDims ⟨3, ![G, k, m]⟩ ⟨3, ![G, n, k]⟩ ⟨3, ![G, m, n]⟩)
      k rfl rfl i
    funext ax; apply Fin.ext
    match ax with
    | ⟨0, _⟩ => simp [DotDims.lhsIdx]; rfl
    | ⟨1, _⟩ => simp [DotDims.lhsIdx]; exact c
    | ⟨2, _⟩ => simp [DotDims.lhsIdx]; rfl
  · have c := contrEquiv1_symm_val (⟨[1], [2], [2], [1], [0], [0], w⟩ : DotDims ⟨3, ![G, k, m]⟩ ⟨3, ![G, n, k]⟩ ⟨3, ![G, m, n]⟩)
      k rfl rfl i
    funext ax; apply Fin.ext
    match ax with
    | ⟨0, _⟩ => simp [DotDims.rhsIdx]; rfl
    | ⟨1, _⟩ => simp [DotDims.rhsIdx]; rfl
    | ⟨2, _⟩ => simp [DotDims.rhsIdx]; exact c

theorem dot11 (w : DotDims.WF ⟨3, ![G, k, m]⟩ ⟨3, ![G, k, n]⟩ ⟨3, ![G, m, n]⟩ [1] [1] [2] [2] [0] [0])
    (x : FVec Ideal ⟨3, ![G, k, m]⟩ φ₁) (y : FVec Ideal ⟨3, ![G, k, n]⟩ φ₂) (g : Fin G) (a : Fin m) (b : Fin n) :
    Host.dotGeneral (⟨[1], [1], [2], [2], [0], [0], w⟩ : DotDims _ _ _) none x y (ix3 g a b)
      = ∑ i : Fin k, x (ix3 g i a) * y (ix3 g i b) := by
  refine dot_sum (⟨[1], [1], [2], [2], [0], [0], w⟩ : DotDims _ _ _) k rfl rfl x y _ _ _ (fun i => ?_) (fun i => ?_)
  · have c := contrEquiv1_symm_val (⟨[1], [1], [2], [2], [0], [0], w⟩ : DotDims ⟨3, ![G, k, m]⟩ ⟨3, ![G, k, n]⟩ ⟨3, ![G, m, n]⟩)
      k rfl rfl i
    funext ax; apply Fin.ext
    match ax with
    | ⟨0, _⟩ => simp [DotDims.lhsIdx]; rfl
    | ⟨1, _⟩ => simp [DotDims.lhsIdx]; exact c
    | ⟨2, _⟩ => simp [DotDims.lhsIdx]; rfl
  · have c := contrEquiv1_symm_val (⟨[1], [1], [2], [2], [0], [0], w⟩ : DotDims ⟨3, ![G, k, m]⟩ ⟨3, ![G, k, n]⟩ ⟨3, ![G, m, n]⟩)
      k rfl rfl i
    funext ax; apply Fin.ext
    match ax with
    | ⟨0, _⟩ => simp [DotDims.rhsIdx]; rfl
    | ⟨1, _⟩ => simp [DotDims.rhsIdx]; exact c
    | ⟨2, _⟩ => simp [DotDims.rhsIdx]; rfl

theorem dot22 (w : DotDims.WF ⟨3, ![G, m, k]⟩ ⟨3, ![G, n, k]⟩ ⟨3, ![G, m, n]⟩ [2] [2] [1] [1] [0] [0])
    (x : FVec Ideal ⟨3, ![G, m, k]⟩ φ₁) (y : FVec Ideal ⟨3, ![G, n, k]⟩ φ₂) (g : Fin G) (a : Fin m) (b : Fin n) :
    Host.dotGeneral (⟨[2], [2], [1], [1], [0], [0], w⟩ : DotDims _ _ _) none x y (ix3 g a b)
      = ∑ i : Fin k, x (ix3 g a i) * y (ix3 g b i) := by
  refine dot_sum (⟨[2], [2], [1], [1], [0], [0], w⟩ : DotDims _ _ _) k rfl rfl x y _ _ _ (fun i => ?_) (fun i => ?_)
  · have c := contrEquiv1_symm_val (⟨[2], [2], [1], [1], [0], [0], w⟩ : DotDims ⟨3, ![G, m, k]⟩ ⟨3, ![G, n, k]⟩ ⟨3, ![G, m, n]⟩)
      k rfl rfl i
    funext ax; apply Fin.ext
    match ax with
    | ⟨0, _⟩ => simp [DotDims.lhsIdx]; rfl
    | ⟨1, _⟩ => simp [DotDims.lhsIdx]; rfl
    | ⟨2, _⟩ => simp [DotDims.lhsIdx]; exact c
  · have c := contrEquiv1_symm_val (⟨[2], [2], [1], [1], [0], [0], w⟩ : DotDims ⟨3, ![G, m, k]⟩ ⟨3, ![G, n, k]⟩ ⟨3, ![G, m, n]⟩)
      k rfl rfl i
    funext ax; apply Fin.ext
    match ax with
    | ⟨0, _⟩ => simp [DotDims.rhsIdx]; rfl
    | ⟨1, _⟩ => simp [DotDims.rhsIdx]; rfl
    | ⟨2, _⟩ => simp [DotDims.rhsIdx]; exact c

theorem dot32 {B : ℕ} (w : DotDims.WF ⟨4, ![B, G, m, k]⟩ ⟨4, ![B, G, k, n]⟩ ⟨4, ![B, G, m, n]⟩ [3] [2] [2] [3] [0, 1] [0, 1])
    (x : FVec Ideal ⟨4, ![B, G, m, k]⟩ φ₁) (y : FVec Ideal ⟨4, ![B, G, k, n]⟩ φ₂) (e : Fin B) (g : Fin G) (a : Fin m) (b : Fin n) :
    Host.dotGeneral (⟨[3], [2], [2], [3], [0, 1], [0, 1], w⟩ : DotDims _ _ _) none x y (ix4 e g a b)
      = ∑ i : Fin k, x (ix4 e g a i) * y (ix4 e g i b) := by
  refine dot_sum (⟨[3], [2], [2], [3], [0, 1], [0, 1], w⟩ : DotDims _ _ _) k rfl rfl x y _ _ _ (fun i => ?_) (fun i => ?_)
  · have c := contrEquiv1_symm_val (⟨[3], [2], [2], [3], [0, 1], [0, 1], w⟩ :
      DotDims ⟨4, ![B, G, m, k]⟩ ⟨4, ![B, G, k, n]⟩ ⟨4, ![B, G, m, n]⟩) k rfl rfl i
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c
  · have c := contrEquiv1_symm_val (⟨[3], [2], [2], [3], [0, 1], [0, 1], w⟩ :
      DotDims ⟨4, ![B, G, m, k]⟩ ⟨4, ![B, G, k, n]⟩ ⟨4, ![B, G, m, n]⟩) k rfl rfl i
    funext ax; apply Fin.ext
    match ax with
    | ⟨0, _⟩ => simp [DotDims.rhsIdx]; rfl
    | ⟨1, _⟩ => simp [DotDims.rhsIdx]; rfl
    | ⟨2, _⟩ => simp [DotDims.rhsIdx]; exact c
    | ⟨3, _⟩ => simp [DotDims.rhsIdx]; rfl

end Stack

section Split

variable {α : Type}

/-- Rows and columns split into chunks and heads. -/
theorem split_rows (x : S2048x1024.Idx → α) (n : Fin 32) (c : Fin 64) (h : Fin 8) (a : Fin 128) :
    shapeCast S32x64x8x128 x shapeCasts_S2048x1024_S32x64x8x128 (ix4 n c h a) = x (ix2 (rowOf n c) (colOf h a)) := by
  refine shapeCast_apply _ _ _ _ ?_
  rw [Shape.rowMajor_val_two, Shape.rowMajor_val_four]
  show (64 * n.val + c.val) * 1024 + (128 * h.val + a.val) = ((n.val * 64 + c.val) * 8 + h.val) * 128 + a.val
  omega

theorem split_state (x : S32x128x1024.Idx → α) (n : Fin 32) (c : Fin 128) (h : Fin 8) (a : Fin 128) :
    shapeCast S32x128x8x128 x shapeCasts_S32x128x1024_S32x128x8x128 (ix4 n c h a) = x (ix3 n c (colOf h a)) := by
  refine shapeCast_apply _ _ _ _ ?_
  rw [Shape.rowMajor_val_three, Shape.rowMajor_val_four]
  show (n.val * 128 + c.val) * 1024 + (128 * h.val + a.val) = ((n.val * 128 + c.val) * 8 + h.val) * 128 + a.val
  omega

theorem split_gates (x : S2048x8.Idx → α) (n : Fin 32) (c : Fin 64) (h : Fin 8) :
    shapeCast S32x64x8 x shapeCasts_S2048x8_S32x64x8 (ix3 n c h) = x (ix2 (rowOf n c) h) := by
  refine shapeCast_apply _ _ _ _ ?_
  rw [Shape.rowMajor_val_two, Shape.rowMajor_val_three]
  show (64 * n.val + c.val) * 8 + h.val = (n.val * 64 + c.val) * 8 + h.val
  omega

theorem split_last (x : S32x8x1.Idx → α) (n : Fin 32) (h : Fin 8) :
    shapeCast S32x8 x shapeCasts_S32x8x1_S32x8 (ix2 n h) = x (ix3 n h 0) := by
  refine shapeCast_apply _ _ _ _ ?_
  rw [Shape.rowMajor_val_two, Shape.rowMajor_val_three]
  show (n.val * 8 + h.val) * 1 + 0 = n.val * 8 + h.val
  omega

/-- Chunks and heads joined back into rows and columns. -/
theorem join_rows (x : S32x64x8x128.Idx → α) (n : Fin 32) (c : Fin 64) (h : Fin 8) (a : Fin 128) :
    shapeCast S2048x1024 x shapeCasts_S32x64x8x128_S2048x1024 (ix2 (rowOf n c) (colOf h a)) = x (ix4 n c h a) := by
  refine shapeCast_apply _ _ _ _ ?_
  rw [Shape.rowMajor_val_two, Shape.rowMajor_val_four]
  show ((n.val * 64 + c.val) * 8 + h.val) * 128 + a.val = (64 * n.val + c.val) * 1024 + (128 * h.val + a.val)
  omega

end Split

section Layout

theorem heads_apply {α : Type} (x : S2048x1024.Idx → α) (n : Fin 32) (h : Fin 8) (i : Fin 64) (a : Fin 128) :
    transpose S32x8x64x128 [0, 2, 1, 3] (shapeCast S32x64x8x128 x shapeCasts_S2048x1024_S32x64x8x128)
      transposes_S32x64x8x128_S32x8x64x128_0_2_1_3 (ix4 n h i a) = x (ix2 (rowOf n i) (colOf h a)) := by
  rw [← split_rows x]
  generalize shapeCast S32x64x8x128 x shapeCasts_S2048x1024_S32x64x8x128 = y
  pointwise []

theorem states_apply {α : Type} (x : S32x128x1024.Idx → α) (n : Fin 32) (h : Fin 8) (i a : Fin 128) :
    transpose S32x8x128x128 [0, 2, 1, 3] (shapeCast S32x128x8x128 x shapeCasts_S32x128x1024_S32x128x8x128)
      transposes_S32x128x8x128_S32x8x128x128_0_2_1_3 (ix4 n h i a) = x (ix3 n i (colOf h a)) := by
  rw [← split_state x]
  generalize shapeCast S32x128x8x128 x shapeCasts_S32x128x1024_S32x128x8x128 = y
  pointwise []

theorem gates_apply {α : Type} (x : S2048x128.Idx → α) (n : Fin 32) (h : Fin 8) (i : Fin 64) :
    transpose S32x8x64 [0, 2, 1] (shapeCast S32x64x8 (extractStridedSlice S2048x8 ![0, 8] x slices_S2048x128_S2048x8_0_8)
      shapeCasts_S2048x8_S32x64x8) transposes_S32x64x8_S32x8x64_0_2_1 (ix3 n h i)
      = x (ix2 (rowOf n i) ⟨8 + h.val, by omega⟩) := by
  have e : extractStridedSlice S2048x8 ![0, 8] x slices_S2048x128_S2048x8_0_8 (ix2 (rowOf n i) h)
      = x (ix2 (rowOf n i) ⟨8 + h.val, by omega⟩) := by
    pointwise []
  rw [← e, ← split_gates (extractStridedSlice S2048x8 ![0, 8] x slices_S2048x128_S2048x8_0_8)]
  generalize shapeCast S32x64x8 _ shapeCasts_S2048x8_S32x64x8 = y
  pointwise []

theorem qd_apply (q : FVec Ideal S32x8x64x128 .f32) (g : FVec Ideal S32x8x64 .f32) (n : Fin 32) (h : Fin 8) (i : Fin 64)
    (a : Fin 128) :
    mulf q (broadcastInDim S32x8x64x128 ![0, 1, 2, 3] bcast_S32x8x64x1_S32x8x64x128_0_1_2_3
      (broadcastInDim S32x8x64x1 ![0, 1, 2] bcast_S32x8x64_S32x8x64x1_0_1_2 (Host.exp g))) (ix4 n h i a)
      = q (ix4 n h i a) * Ideal.exp (g (ix3 n h i)) := by
  pointwise []

theorem kd_apply (k : FVec Ideal S32x8x64x128 .f32) (g : FVec Ideal S32x8x64 .f32) (n : Fin 32) (h : Fin 8) (i : Fin 64)
    (a : Fin 128) :
    mulf k (broadcastInDim S32x8x64x128 ![0, 1, 2, 3] bcast_S32x8x64x1_S32x8x64x128_0_1_2_3
      (broadcastInDim S32x8x64x1 ![0, 1, 2] bcast_S32x8x64_S32x8x64x1_0_1_2
        (Host.exp (subf (broadcastInDim S32x8x64 ![0, 1, 2] bcast_S32x8x1_S32x8x64_0_1_2
          (extractStridedSlice S32x8x1 ![0, 0, 63] g slices_S32x8x64_S32x8x1_0_0_63)) g)))) (ix4 n h i a)
      = k (ix4 n h i a) * Ideal.exp (g (ix3 n h 63) - g (ix3 n h i)) := by
  pointwise []

theorem last_apply (g : FVec Ideal S32x8x64 .f32) (n : Fin 32) (h : Fin 8) :
    Host.exp (shapeCast S32x8 (extractStridedSlice S32x8x1 ![0, 0, 63] g slices_S32x8x64_S32x8x1_0_0_63)
      shapeCasts_S32x8x1_S32x8) (ix2 n h) = Ideal.exp (g (ix3 n h 63)) := by
  show Ideal.exp _ = _
  rw [split_last]
  congr 1
  pointwise []

end Layout

end Cert.ScanBwd.Ref
-- ==== Proof.RefEntry.lean ====
/-
  The arrays the reference's loop starts from, at a chunk, a head, a row and a column.
-/
module

public import proofs.«01_k».proof.Proof.RefOps
public import proofs.«01_k».proof.Proof.Gen.ReferenceIdeal.Run

@[expose] public section

set_option maxRecDepth 16384

noncomputable section

open scoped BigOperators

namespace Cert.ScanBwd.Ref

open Idealize.ShloMosaic Idealize.ShloMosaic.TcCoe Idealize.ShloMosaic.Tactic
open Cert.ReferenceIdeal Cert.ReferenceIdeal.Gen Cert.ReferenceIdeal.Value
open Idealize.SL Idealize.SL.Sem

variable (m : (ℓ : Loc nD τ sig) → Buf (Elt Ideal) ℓ) (c : Dev nD)

/-- The reference's argument arrays on a device. -/
def rargs : Args where
  q := m ((c.tc : Thread nD τ).loc main_arg0)
  k := m ((c.tc : Thread nD τ).loc main_arg1)
  g := m ((c.tc : Thread nD τ).loc main_arg2)
  w := m ((c.tc : Thread nD τ).loc main_arg3)
  p := m ((c.tc : Thread nD τ).loc main_arg4)
  v := m ((c.tc : Thread nD τ).loc main_arg5)
  s := m ((c.tc : Thread nD τ).loc main_arg6)
  d := m ((c.tc : Thread nD τ).loc main_arg7)

/-- The contents at the loop's entry. -/
abbrev E := StableHlo.entryContents (preI (F := Ideal)) m c

theorem entry0 (n : Fin 32) (h : Fin 8) (a b : Fin 128) :
    E m c (Proc.devRef .tc main_v42_0) (ix4 n h a b) = ((rargs m c).chunk n h).s a b := by
  simp only [E, StableHlo.entryContents, StableHlo.afterL_cons, StableHlo.afterL_nil]
  after_reads_simp
  exact states_apply _ n h a b

theorem entry1 (n : Fin 32) (h : Fin 8) (i : Fin 64) (a : Fin 128) :
    E m c (Proc.devRef .tc main_v42_1) (ix4 n h i a) = ((rargs m c).chunk n h).qd i a := by
  simp only [E, StableHlo.entryContents, StableHlo.afterL_cons, StableHlo.afterL_nil]
  after_reads_simp
  exact (qd_apply _ _ n h i a).trans (congrArg₂ (· * ·) (heads_apply _ n h i a) (congrArg Ideal.exp (gates_apply _ n h i)))

theorem entry2 (n : Fin 32) (h : Fin 8) (i : Fin 64) (a : Fin 128) :
    E m c (Proc.devRef .tc main_v42_2) (ix4 n h i a) = ((rargs m c).chunk n h).w i a := by
  simp only [E, StableHlo.entryContents, StableHlo.afterL_cons, StableHlo.afterL_nil]
  after_reads_simp
  exact heads_apply _ n h i a

theorem entry3 (n : Fin 32) (h : Fin 8) (i : Fin 64) (b : Fin 128) :
    E m c (Proc.devRef .tc main_v42_3) (ix4 n h i b) =
      ((rargs m c).chunk n h).v i b + ∑ x, ((rargs m c).chunk n h).w i x * ((rargs m c).chunk n h).s x b := by
  simp only [E, StableHlo.entryContents, StableHlo.afterL_cons, StableHlo.afterL_nil]
  after_reads_simp
  exact congrArg₂ (· + ·) (heads_apply _ n h i b) ((dot32 _ _ _ n h i b).trans (Finset.sum_congr rfl fun x _ =>
    congrArg₂ (· * ·) (heads_apply _ n h i x) (states_apply _ n h x b)))

theorem entry4 (n : Fin 32) (h : Fin 8) (i j : Fin 64) :
    E m c (Proc.devRef .tc main_v42_4) (ix4 n h i j) = ((rargs m c).chunk n h).p i j := by
  simp only [E, StableHlo.entryContents, StableHlo.afterL_cons, StableHlo.afterL_nil]
  after_reads_simp
  rfl

theorem entry5 (n : Fin 32) (h : Fin 8) (i : Fin 64) (a : Fin 128) :
    E m c (Proc.devRef .tc main_v42_5) (ix4 n h i a) = ((rargs m c).chunk n h).kd i a := by
  simp only [E, StableHlo.entryContents, StableHlo.afterL_cons, StableHlo.afterL_nil]
  after_reads_simp
  exact (kd_apply _ _ n h i a).trans (congrArg₂ (· * ·) (heads_apply _ n h i a) (congrArg Ideal.exp
    (congrArg₂ (· - ·) (gates_apply _ n h 63) (gates_apply _ n h i))))

theorem entry6 (n : Fin 32) (h : Fin 8) :
    E m c (Proc.devRef .tc main_v42_6) (ix2 n h) = Ideal.exp (((rargs m c).chunk n h).g 63) := by
  simp only [E, StableHlo.entryContents, StableHlo.afterL_cons, StableHlo.afterL_nil]
  after_reads_simp
  exact (last_apply _ n h).trans (congrArg Ideal.exp (gates_apply _ n h 63))

theorem entry7 (n : Fin 32) (h : Fin 8) (i : Fin 64) (a : Fin 128) :
    E m c (Proc.devRef .tc main_v42_7) (ix4 n h i a) = ((rargs m c).chunk n h).d i a := by
  simp only [E, StableHlo.entryContents, StableHlo.afterL_cons, StableHlo.afterL_nil]
  after_reads_simp
  exact heads_apply _ n h i a

theorem entry8 : E m c (Proc.devRef .tc main_v42_8) = fun _ => (0#32 : BitVec 32) := ctr_entry m c

theorem entry9 (y : S8x128x128.Idx) : E m c (Proc.devRef .tc main_v42_9) y = (0 : EReal) := by
  simp only [E, StableHlo.entryContents, StableHlo.afterL_cons, StableHlo.afterL_nil]
  after_reads_simp
  show Ideal.ofBits .f32 0x00000000#32 = 0
  simp [Ideal.ofBits, Ideal.ieee]

end Cert.ScanBwd.Ref
-- ==== Proof.RefSlice.lean ====
/-
  Reading and writing one chunk of an array by chunk, head, row and column.
-/
module

public import proofs.«01_k».proof.Proof.RefOps

@[expose] public section

set_option maxRecDepth 16384

noncomputable section

namespace Cert.ScanBwd.Ref

open Idealize.ShloMosaic Cert.ReferenceIdeal Cert.ReferenceIdeal.Gen

variable {α : Type} {R C : ℕ}

theorem inside {s k v w : ℕ} (e : s = k) (h1 : k ≤ v) (h2 : v < k + w) : s ≤ v ∧ v < s + w := by
  subst e
  exact ⟨h1, h2⟩

theorem sub_start {s k v w : ℕ} (e : s = k) (h : v - k = w) : v - s = w := by
  subst e
  exact h

/-- The start of a slice at chunk `n`. -/
structure At4 (start : Fin 4 → Int) (n : Fin 32) : Prop where
  h0 : start 0 = (n.val : Int)
  h1 : start 1 = 0
  h2 : start 2 = 0
  h3 : start 3 = 0

theorem slice4 (x : (⟨4, ![32, 8, R, C]⟩ : Shape).Idx → α) (start : Fin 4 → Int) (n : Fin 32) (H : At4 start n)
    (hf : (⟨4, ![32, 8, R, C]⟩ : Shape).Slices (fun _ => 0) (⟨4, ![1, 8, R, C]⟩ : Shape))
    (hc : (⟨4, ![1, 8, R, C]⟩ : Shape).ShapeCasts (⟨3, ![8, R, C]⟩ : Shape)) (h : Fin 8) (i : Fin R) (a : Fin C) :
    shapeCast (⟨3, ![8, R, C]⟩ : Shape) (Host.dynamicSlice (⟨4, ![1, 8, R, C]⟩ : Shape) x start hf) hc (ix3 h i a)
      = x (ix4 n h i a) := by
  refine (shapeCast_apply _ _ _ (ix4 0 h i a) ?_).trans ?_
  · rw [Shape.rowMajor_val_three, Shape.rowMajor_val_four]
    show ((0 * 8 + h.val) * R + i.val) * C + a.val = (h.val * R + i.val) * C + a.val
    rw [Nat.zero_mul, Nat.zero_add]
  · rw [Host.dynamicSlice_apply]
    refine congrArg x ?_
    funext ax
    apply Fin.ext
    match ax with
    | ⟨0, _⟩ =>
      show Host.clampedStart _ _ _ _ _ + 0 = n.val
      rw [Host.clampedStart_of_le _ _ _ n.val H.h0 (by show n.val + 1 ≤ 32; omega), Nat.add_zero]
    | ⟨1, _⟩ =>
      show Host.clampedStart _ _ _ _ _ + h.val = h.val
      rw [Host.clampedStart_of_le _ _ _ 0 H.h1 (by show 0 + 8 ≤ 8; omega), Nat.zero_add]
    | ⟨2, _⟩ =>
      show Host.clampedStart _ _ _ _ _ + i.val = i.val
      rw [Host.clampedStart_of_le _ _ _ 0 H.h2 (by show 0 + R ≤ R; omega), Nat.zero_add]
    | ⟨3, _⟩ =>
      show Host.clampedStart _ _ _ _ _ + a.val = a.val
      rw [Host.clampedStart_of_le _ _ _ 0 H.h3 (by show 0 + C ≤ C; omega), Nat.zero_add]

theorem update4 (x : (⟨4, ![32, 8, R, C]⟩ : Shape).Idx → α) (u : (⟨4, ![1, 8, R, C]⟩ : Shape).Idx → α) (start : Fin 4 → Int)
    (n : Fin 32) (H : At4 start n)
    (hf : (⟨4, ![32, 8, R, C]⟩ : Shape).Slices (fun _ => 0) (⟨4, ![1, 8, R, C]⟩ : Shape)) (p : Fin 32) (h : Fin 8) (i : Fin R)
    (a : Fin C) :
    Host.dynamicUpdateSlice x u start hf (ix4 p h i a) = if p = n then u (ix4 0 h i a) else x (ix4 p h i a) := by
  have e0 := Host.clampedStart_of_le (s := ⟨4, ![32, 8, R, C]⟩) (t := ⟨4, ![1, 8, R, C]⟩) hf.1 start 0 n.val H.h0
    (by show n.val + 1 ≤ 32; omega)
  have e1 := Host.clampedStart_of_le (s := ⟨4, ![32, 8, R, C]⟩) (t := ⟨4, ![1, 8, R, C]⟩) hf.1 start 1 0 H.h1
    (by show 0 + 8 ≤ 8; omega)
  have e2 := Host.clampedStart_of_le (s := ⟨4, ![32, 8, R, C]⟩) (t := ⟨4, ![1, 8, R, C]⟩) hf.1 start 2 0 H.h2
    (by show 0 + R ≤ R; omega)
  have e3 := Host.clampedStart_of_le (s := ⟨4, ![32, 8, R, C]⟩) (t := ⟨4, ![1, 8, R, C]⟩) hf.1 start 3 0 H.h3
    (by show 0 + C ≤ C; omega)
  rw [Host.dynamicUpdateSlice_apply]
  by_cases hp : p = n
  · subst hp
    rw [if_pos rfl, dif_pos]
    · refine congrArg u ?_
      funext ax
      apply Fin.ext
      match ax with
      | ⟨0, _⟩ =>
        exact sub_start e0 (Nat.sub_self _)
      | ⟨1, _⟩ =>
        exact sub_start e1 (Nat.sub_zero _)
      | ⟨2, _⟩ =>
        exact sub_start e2 (Nat.sub_zero _)
      | ⟨3, _⟩ =>
        exact sub_start e3 (Nat.sub_zero _)
    · intro ax
      match ax with
      | ⟨0, _⟩ => exact inside e0 le_rfl (Nat.lt_succ_self _)
      | ⟨1, _⟩ => exact inside e1 (Nat.zero_le _) (by show h.val < 0 + 8; omega)
      | ⟨2, _⟩ => exact inside e2 (Nat.zero_le _) (by show i.val < 0 + R; omega)
      | ⟨3, _⟩ => exact inside e3 (Nat.zero_le _) (by show a.val < 0 + C; omega)
  · rw [if_neg hp, dif_neg]
    intro hin
    have h0 := hin 0
    rw [e0] at h0
    exact hp (Fin.ext (by have a1 : n.val ≤ p.val := h0.1; have a2 : p.val < n.val + 1 := h0.2; omega))

/-- The start of a slice of an array by chunk and head. -/
structure At2 (start : Fin 2 → Int) (n : Fin 32) : Prop where
  h0 : start 0 = (n.val : Int)
  h1 : start 1 = 0

theorem slice2 (x : S32x8.Idx → α) (start : Fin 2 → Int) (n : Fin 32) (H : At2 start n) (h : Fin 8) :
    shapeCast S8 (Host.dynamicSlice S1x8 x start sliceFits_S32x8_S1x8) shapeCasts_S1x8_S8 (ix1 h) = x (ix2 n h) := by
  refine (shapeCast_apply _ _ _ (ix2 0 h) ?_).trans ?_
  · rw [Shape.rowMajor_val_one, Shape.rowMajor_val_two]
    show 0 * 8 + h.val = h.val
    omega
  · rw [Host.dynamicSlice_apply]
    refine congrArg x ?_
    funext ax
    apply Fin.ext
    match ax with
    | ⟨0, _⟩ =>
      show Host.clampedStart _ _ _ _ _ + 0 = n.val
      rw [Host.clampedStart_of_le _ _ _ n.val H.h0 (by show n.val + 1 ≤ 32; omega), Nat.add_zero]
    | ⟨1, _⟩ =>
      show Host.clampedStart _ _ _ _ _ + h.val = h.val
      rw [Host.clampedStart_of_le _ _ _ 0 H.h1 (by show 0 + 8 ≤ 8; omega), Nat.zero_add]

theorem update2 (x : S32x8.Idx → α) (u : S1x8.Idx → α) (start : Fin 2 → Int) (n : Fin 32) (H : At2 start n) (p : Fin 32) (h : Fin 8) :
    Host.dynamicUpdateSlice x u start updateFits_S32x8_S1x8 (ix2 p h)
      = if p = n then u (ix2 0 h) else x (ix2 p h) := by
  have e0 := Host.clampedStart_of_le (s := S32x8) (t := S1x8) updateFits_S32x8_S1x8.1 start 0 n.val H.h0
    (by show n.val + 1 ≤ 32; omega)
  have e1 := Host.clampedStart_of_le (s := S32x8) (t := S1x8) updateFits_S32x8_S1x8.1 start 1 0 H.h1
    (by show 0 + 8 ≤ 8; omega)
  rw [Host.dynamicUpdateSlice_apply]
  by_cases hp : p = n
  · subst hp
    rw [if_pos rfl, dif_pos]
    · refine congrArg u ?_
      funext ax
      apply Fin.ext
      match ax with
      | ⟨0, _⟩ =>
        exact sub_start e0 (Nat.sub_self _)
      | ⟨1, _⟩ =>
        exact sub_start e1 (Nat.sub_zero _)
    · intro ax
      match ax with
      | ⟨0, _⟩ => exact inside e0 le_rfl (Nat.lt_succ_self _)
      | ⟨1, _⟩ => exact inside e1 (Nat.zero_le _) (by show h.val < 0 + 8; omega)
  · rw [if_neg hp, dif_neg]
    intro hin
    have h0 := hin 0
    rw [e0] at h0
    exact hp (Fin.ext (by have a1 : n.val ≤ p.val := h0.1; have a2 : p.val < n.val + 1 := h0.2; omega))

theorem one_rows (u : S8x64x128.Idx → α) (h : Fin 8) (i : Fin 64) (a : Fin 128) :
    broadcastInDim S1x8x64x128 ![1, 2, 3] bcast_S8x64x128_S1x8x64x128_1_2_3 u (ix4 0 h i a) = u (ix3 h i a) := by
  pointwise []
theorem one_weights (u : S8x64x64.Idx → α) (h : Fin 8) (i j : Fin 64) :
    broadcastInDim S1x8x64x64 ![1, 2, 3] bcast_S8x64x64_S1x8x64x64_1_2_3 u (ix4 0 h i j) = u (ix3 h i j) := by
  pointwise []
theorem one_heads (u : S8.Idx → α) (h : Fin 8) : broadcastInDim S1x8 ![1] bcast_S8_S1x8_1 u (ix2 0 h) = u (ix1 h) := by
  pointwise []

end Cert.ScanBwd.Ref
-- ==== Proof.Finite.lean ====
/-
  Finite extended reals, closed under the operations of the backward scan, and what holds of a chunk whose arrays are
  finite: the gradients are finite, the corrected values are recovered exactly from what the forward step read, and a
  product with a negated factor is the negated product.
-/
module

public import proofs.«01_k».proof.Proof.Chunk

@[expose] public section

noncomputable section

open scoped BigOperators

namespace Cert.ScanBwd

open Idealize.ShloMosaic

/-- The extended real is a real number. -/
def IsFin (x : EReal) : Prop := ∃ r : ℝ, x = (r : EReal)

theorem IsFin.add {x y : EReal} : IsFin x → IsFin y → IsFin (x + y) := by
  rintro ⟨a, rfl⟩ ⟨b, rfl⟩; exact ⟨a + b, (EReal.coe_add a b).symm⟩
theorem IsFin.sub {x y : EReal} : IsFin x → IsFin y → IsFin (x - y) := by
  rintro ⟨a, rfl⟩ ⟨b, rfl⟩; exact ⟨a - b, (EReal.coe_sub a b).symm⟩
theorem IsFin.mul {x y : EReal} : IsFin x → IsFin y → IsFin (x * y) := by
  rintro ⟨a, rfl⟩ ⟨b, rfl⟩; exact ⟨a * b, (EReal.coe_mul a b).symm⟩
theorem IsFin.exp {x : EReal} : IsFin x → IsFin (Ideal.exp x) := by
  rintro ⟨a, rfl⟩; exact ⟨Real.exp a, rfl⟩
theorem IsFin.zero : IsFin 0 := ⟨0, rfl⟩
theorem coe_sum {n : Nat} (r : Fin n → ℝ) : ((∑ i, r i : ℝ) : EReal) = ∑ i, (r i : EReal) :=
  map_sum (⟨⟨Real.toEReal, EReal.coe_zero⟩, EReal.coe_add⟩ : ℝ →+ EReal) r Finset.univ
theorem IsFin.sum {n : Nat} {f : Fin n → EReal} (h : ∀ i, IsFin (f i)) : IsFin (∑ i, f i) := by
  choose r hr using h
  refine ⟨∑ i, r i, ?_⟩
  rw [coe_sum]
  exact Finset.sum_congr rfl fun i _ => hr i

theorem add_sub_cancel_fin {x y : EReal} : IsFin y → x + y - y = x := by
  rintro ⟨b, rfl⟩; exact EReal.add_sub_cancel_right

/-- A sum of products with a negated factor, over finite factors. -/
theorem sum_neg_mul {n : Nat} {f g : Fin n → EReal} (hf : ∀ i, IsFin (f i)) (hg : ∀ i, IsFin (g i)) :
    ∑ i, -f i * g i = -∑ i, f i * g i := by
  choose r hr using hf
  choose t ht using hg
  simp only [hr, ht, ← EReal.coe_neg, ← EReal.coe_mul, ← coe_sum]
  simp [Finset.sum_neg_distrib]

/-- Every array the chunk reads is finite. -/
structure Chunk.AllFin (I : Chunk) : Prop where
  q : ∀ c a, IsFin (I.q c a)
  k : ∀ c a, IsFin (I.k c a)
  w : ∀ c a, IsFin (I.w c a)
  d : ∀ c a, IsFin (I.d c a)
  v : ∀ c a, IsFin (I.v c a)
  g : ∀ c, IsFin (I.g c)
  p : ∀ i j, IsFin (I.p i j)
  s : ∀ a b, IsFin (I.s a b)

variable {I : Chunk} {D : Mat}

theorem Chunk.AllFin.du (h : I.AllFin) (hD : ∀ a b, IsFin (D a b)) (c b) : IsFin (I.du D c b) :=
  .add (.sum fun i => .mul (h.p i c) (h.d i b)) (.sum fun a => .mul (.mul (h.k c a) (.exp (.sub (h.g 63) (h.g c)))) (hD a b))

theorem Chunk.AllFin.next (h : I.AllFin) (hD : ∀ a b, IsFin (D a b)) (a b) : IsFin (I.next D a b) :=
  .sub (.add (.mul (hD a b) (.exp (h.g 63))) (.sum fun c => .mul (.mul (h.q c a) (.exp (h.g c))) (h.d c b)))
    (.sum fun c => .mul (h.w c a) (h.du hD c b))

/-- The corrected values computed again from what the forward step read: the corrected values. -/
theorem Chunk.AllFin.vnew (h : I.AllFin) (c b) :
    (I.v c b + ∑ a, I.w c a * I.s a b) - ∑ a, I.w c a * I.s a b = I.v c b :=
  add_sub_cancel_fin (.sum fun a => .mul (h.w c a) (h.s a b))

theorem Chunk.AllFin.dw (h : I.AllFin) (hD : ∀ a b, IsFin (D a b)) (c a) :
    ∑ b, -I.du D c b * I.s a b = I.dw D c a := by
  rw [sum_neg_mul (fun b => h.du hD c b) (fun b => h.s a b), Chunk.dw, zero_sub]

theorem Chunk.AllFin.next_eq (h : I.AllFin) (hD : ∀ a b, IsFin (D a b)) (a b) :
    (D a b * Ideal.exp (I.g 63) + ∑ c, I.d c b * I.qd c a) + ∑ c, -I.du D c b * I.w c a = I.next D a b := by
  rw [sum_neg_mul (fun c => h.du hD c b) (fun c => h.w c a), Chunk.next, sub_eq_add_neg]
  simp only [mul_comm]

theorem Chunk.du_eq (I : Chunk) (D : Mat) (c b) :
    (∑ a, D a b * I.kd c a) + ∑ i, I.d i b * I.p i c = I.du D c b := by
  rw [Chunk.du, add_comm]
  simp only [mul_comm]

end Cert.ScanBwd
-- ==== Proof.RefStep.lean ====
/-
  One trip of the reference's loop: the chunk it reads, the gradients it computes from the carried gradient of the state,
  and what it writes.
-/
module

public import proofs.«01_k».proof.Proof.RefSlice
public import proofs.«01_k».proof.Proof.Finite
public import proofs.«01_k».proof.Proof.Gen.ReferenceIdeal.Run

@[expose] public section

set_option maxRecDepth 16384

noncomputable section

open scoped BigOperators

namespace Cert.ScanBwd.Ref

open Idealize.ShloMosaic Idealize.ShloMosaic.TcCoe
open Cert.ReferenceIdeal Cert.ReferenceIdeal.Gen Cert.ReferenceIdeal.Value

section Ops

theorem turn_state (x : S8x128x128.Idx → EReal) (h : Fin 8) (a b : Fin 128) :
    transpose S8x128x128 [0, 2, 1] x transposes_S8x128x128_S8x128x128_0_2_1 (ix3 h a b) = x (ix3 h b a) := by
  pointwise []
theorem turn_rows (x : S8x128x64.Idx → EReal) (h : Fin 8) (i : Fin 64) (a : Fin 128) :
    transpose S8x64x128 [0, 2, 1] x transposes_S8x128x64_S8x64x128_0_2_1 (ix3 h i a) = x (ix3 h a i) := by
  pointwise []
theorem spread (x : S8.Idx → EReal) (h : Fin 8) (a b : Fin 128) :
    broadcastInDim S8x128x128 ![0, 1, 2] bcast_S8x1x1_S8x128x128_0_1_2 (broadcastInDim S8x1x1 ![0] bcast_S8_S8x1x1_0 x) (ix3 h a b)
      = x (ix1 h) := by
  pointwise []

theorem swapped {x y x' y' : EReal} (hx : x = x') (hy : y = y') : x * y = y' * x' := by
  rw [hx, hy, mul_comm]

theorem total (x : FVec Ideal S8x128x128 .f32) (h : Fin 8) :
    Host.reduceAdd (shapeCast S8x1x1 (Host.reduceAdd x (constant (F := Ideal) S_ .f32 0x00000000#32) reducesTo_S8x128x128_S8_d1_2 h_S_)
      shapeCasts_S8_S8x1x1) (constant (F := Ideal) S_ .f32 0x00000000#32) reducesTo_S8x1x1_S8_d1_2 h_S_ (ix1 h)
      = ∑ a : Fin 128, ∑ b : Fin 128, (x (ix3 h a b) : EReal) := by
  pointwise []
  simp

end Ops

/-- The contents of the loop's buffers. -/
abbrev Contents := Valuation τ sig (Elt Ideal)

/-- The arrays the trips read, unchanged by them. -/
structure Reads (A : Args) (V : Contents) : Prop where
  s : ∀ n h a b, V (Proc.devRef .tc main_v42_0) (ix4 n h a b) = (A.chunk n h).s a b
  q : ∀ n h i a, V (Proc.devRef .tc main_v42_1) (ix4 n h i a) = (A.chunk n h).qd i a
  w : ∀ n h i a, V (Proc.devRef .tc main_v42_2) (ix4 n h i a) = (A.chunk n h).w i a
  u : ∀ n h i b, V (Proc.devRef .tc main_v42_3) (ix4 n h i b) = (A.chunk n h).v i b + ∑ x, (A.chunk n h).w i x * (A.chunk n h).s x b
  p : ∀ n h i j, V (Proc.devRef .tc main_v42_4) (ix4 n h i j) = (A.chunk n h).p i j
  k : ∀ n h i a, V (Proc.devRef .tc main_v42_5) (ix4 n h i a) = (A.chunk n h).kd i a
  e : ∀ n h, V (Proc.devRef .tc main_v42_6) (ix2 n h) = Ideal.exp ((A.chunk n h).g 63)
  d : ∀ n h i a, V (Proc.devRef .tc main_v42_7) (ix4 n h i a) = (A.chunk n h).d i a

/-- The chunk of trip `k`. -/
abbrev at_ (k : ℕ) : Fin 32 := ⟨31 - k, by omega⟩

/-- What a trip finds: the arrays, the trip's number and the carried gradient. -/
structure Trip (A : Args) (k : ℕ) (V : Contents) : Prop where
  lt : k < 32
  reads : Reads A V
  ctr : V (Proc.devRef .tc main_v42_8) = fun _ => (BitVec.ofNat 32 k : BitVec 32)
  dS : ∀ h a b, V (Proc.devRef .tc main_v42_9) (ix3 h a b) = A.acc h k a b

section Trip

variable {A : Args} {k : ℕ} {V : Contents} (T : Trip A k V)
include T

theorem v57_toInt (x : S_.Idx) : ((res_main_while0b_v57 V : S_.Idx → BitVec 32) x).toInt = ((at_ k).val : Int) := by
  have hk := T.lt
  have e : (res_main_while0b_v57 V : S_.Idx → BitVec 32) x = 32#32 - BitVec.ofNat 32 k - 1#32 := by
    unfold res_main_while0b_v57
    rw [T.ctr]
    rfl
  rw [e]
  clear e T
  interval_cases k <;> rfl

theorem at4 : At4 (fun j => (((![res_main_while0b_v57 V, constantI S_ 32 0#32, constantI S_ 32 0#32, constantI S_ 32 0#32] :
    Fin 4 → (⟨S_, .i32⟩ : BufTy).Contents (Elt Ideal))) j (Shape.Idx.first h_S_)).toInt) (at_ k) :=
  ⟨v57_toInt T _, rfl, rfl, rfl⟩

theorem at2 : At2 (fun j => (((![res_main_while0b_v57 V, constantI S_ 32 0#32] :
    Fin 2 → (⟨S_, .i32⟩ : BufTy).Contents (Elt Ideal))) j (Shape.Idx.first h_S_)).toInt) (at_ k) :=
  ⟨v57_toInt T _, rfl⟩

theorem v58 (h : Fin 8) (a b : Fin 128) : res_main_while0b_v58 V (ix3 h a b) = (A.chunk (at_ k) h).s a b :=
  (slice4 _ _ _ (at4 T) _ _ h a b).trans (T.reads.s _ h a b)
theorem v59 (h : Fin 8) (i : Fin 64) (a : Fin 128) : res_main_while0b_v59 V (ix3 h i a) = (A.chunk (at_ k) h).qd i a :=
  (slice4 _ _ _ (at4 T) _ _ h i a).trans (T.reads.q _ h i a)
theorem v60 (h : Fin 8) (i : Fin 64) (a : Fin 128) : res_main_while0b_v60 V (ix3 h i a) = (A.chunk (at_ k) h).w i a :=
  (slice4 _ _ _ (at4 T) _ _ h i a).trans (T.reads.w _ h i a)
theorem v62 (h : Fin 8) (i j : Fin 64) : res_main_while0b_v62 V (ix3 h i j) = (A.chunk (at_ k) h).p i j :=
  (slice4 _ _ _ (at4 T) _ _ h i j).trans (T.reads.p _ h i j)
theorem v63 (h : Fin 8) (i : Fin 64) (a : Fin 128) : res_main_while0b_v63 V (ix3 h i a) = (A.chunk (at_ k) h).kd i a :=
  (slice4 _ _ _ (at4 T) _ _ h i a).trans (T.reads.k _ h i a)
theorem v65 (h : Fin 8) (i : Fin 64) (a : Fin 128) : res_main_while0b_v65 V (ix3 h i a) = (A.chunk (at_ k) h).d i a :=
  (slice4 _ _ _ (at4 T) _ _ h i a).trans (T.reads.d _ h i a)

variable (hA : ∀ n h, (A.chunk n h).AllFin) (hD : ∀ h a b, IsFin (A.acc h k a b))

include hA in
/-- The corrected values computed again. -/
theorem v67 (h : Fin 8) (i : Fin 64) (b : Fin 128) : res_main_while0b_v67 V (ix3 h i b) = (A.chunk (at_ k) h).v i b := by
  refine Eq.trans ?_ ((hA (at_ k) h).vnew i b)
  refine congrArg₂ (· - ·) ((slice4 _ _ _ (at4 T) _ _ h i b).trans (T.reads.u _ h i b)) ?_
  exact (dot21 _ _ _ h i b).trans (Finset.sum_congr rfl fun x _ => congrArg₂ (· * ·) (v60 T h i x) (v58 T h x b))

/-- The gradient of the corrected values. -/
theorem v88 (h : Fin 8) (i : Fin 64) (b : Fin 128) :
    res_main_while0b_v88 V (ix3 h i b) = (A.chunk (at_ k) h).du (A.acc h k) i b := by
  refine Eq.trans ?_ (Chunk.du_eq _ _ i b)
  refine congrArg₂ (· + ·) ((turn_rows _ h i b).trans ?_) ((turn_rows _ h i b).trans ?_)
  · exact (dot12 _ _ _ h b i).trans (Finset.sum_congr rfl fun x _ => congrArg₂ (· * ·) (T.dS h x b) (v63 T h i x))
  · exact (dot11 _ _ _ h b i).trans (Finset.sum_congr rfl fun x _ => congrArg₂ (· * ·) (v65 T h x b) (v62 T h x i))

theorem v94 (h : Fin 8) (i : Fin 64) (b : Fin 128) :
    res_main_while0b_v94 V (ix3 h i b) = -(A.chunk (at_ k) h).du (A.acc h k) i b :=
  congrArg (fun x : EReal => -x) (v88 T h i b)

include hA hD in
theorem next9 (h : Fin 8) (a b : Fin 128) : step_main_v42_9 V (ix3 h a b) = A.acc h (k + 1) a b := by
  refine Eq.trans ?_ ((hA (at_ k) h).next_eq (hD h) a b)
  refine congrArg₂ (· + ·) (congrArg₂ (· + ·) (congrArg₂ (· * ·) (T.dS h a b) ?_) ((turn_state _ h a b).trans ?_))
    ((turn_state _ h a b).trans ?_)
  · exact (spread _ h a b).trans ((slice2 _ _ _ (at2 T) h).trans (T.reads.e _ h))
  · exact (dot11 _ _ _ h b a).trans (Finset.sum_congr rfl fun x _ => congrArg₂ (· * ·) (v65 T h x b) (v59 T h x a))
  · exact (dot11 _ _ _ h b a).trans (Finset.sum_congr rfl fun x _ => congrArg₂ (· * ·) (v94 T h x b) (v60 T h x a))

theorem next10 (p : Fin 32) (h : Fin 8) (i : Fin 64) (a : Fin 128) : step_main_v42_10 V (ix4 p h i a)
    = if p = at_ k then (A.chunk (at_ k) h).dqg i a else V (Proc.devRef .tc main_v42_10) (ix4 p h i a) := by
  refine (update4 _ _ _ _ (at4 T) updateFits_S32x8x64x128_S1x8x64x128 p h i a).trans ?_
  congr 1
  refine (one_rows _ h i a).trans ?_
  exact (dot22 _ _ _ h i a).trans (Finset.sum_congr rfl fun x _ => congrArg₂ (· * ·) (v65 T h i x) (v58 T h a x))

include hA hD in
theorem next11 (p : Fin 32) (h : Fin 8) (i : Fin 64) (a : Fin 128) : step_main_v42_11 V (ix4 p h i a)
    = if p = at_ k then (A.chunk (at_ k) h).dw (A.acc h k) i a else V (Proc.devRef .tc main_v42_11) (ix4 p h i a) := by
  refine (update4 _ _ _ _ (at4 T) updateFits_S32x8x64x128_S1x8x64x128 p h i a).trans ?_
  congr 1
  refine (one_rows _ h i a).trans (Eq.trans ?_ ((hA (at_ k) h).dw (hD h) i a))
  exact (dot22 _ _ _ h i a).trans (Finset.sum_congr rfl fun x _ => congrArg₂ (· * ·) (v94 T h i x) (v58 T h a x))

theorem next12 (p : Fin 32) (h : Fin 8) (i : Fin 64) (a : Fin 128) : step_main_v42_12 V (ix4 p h i a)
    = if p = at_ k then (A.chunk (at_ k) h).du (A.acc h k) i a else V (Proc.devRef .tc main_v42_12) (ix4 p h i a) := by
  refine (update4 _ _ _ _ (at4 T) updateFits_S32x8x64x128_S1x8x64x128 p h i a).trans ?_
  congr 1
  exact (one_rows _ h i a).trans (v88 T h i a)

include hA in
theorem next13 (p : Fin 32) (h : Fin 8) (i j : Fin 64) : step_main_v42_13 V (ix4 p h i j)
    = if p = at_ k then (A.chunk (at_ k) h).dp i j else V (Proc.devRef .tc main_v42_13) (ix4 p h i j) := by
  refine (update4 _ _ _ _ (at4 T) updateFits_S32x8x64x64_S1x8x64x64 p h i j).trans ?_
  congr 1
  refine (one_weights _ h i j).trans ?_
  exact (dot22 _ _ _ h i j).trans (Finset.sum_congr rfl fun x _ => congrArg₂ (· * ·) (v65 T h i x) (v67 T hA h j x))

include hA in
theorem next14 (p : Fin 32) (h : Fin 8) (i : Fin 64) (a : Fin 128) : step_main_v42_14 V (ix4 p h i a)
    = if p = at_ k then (A.chunk (at_ k) h).dks (A.acc h k) i a else V (Proc.devRef .tc main_v42_14) (ix4 p h i a) := by
  refine (update4 _ _ _ _ (at4 T) updateFits_S32x8x64x128_S1x8x64x128 p h i a).trans ?_
  congr 1
  refine (one_rows _ h i a).trans ((turn_rows _ h i a).trans ?_)
  refine (dot22 _ _ _ h a i).trans (Finset.sum_congr rfl fun x _ => ?_)
  exact swapped (T.dS h a x) (v67 T hA h i x)

theorem next15 (p : Fin 32) (h : Fin 8) : step_main_v42_15 V (ix2 p h)
    = if p = at_ k then (A.chunk (at_ k) h).gam (A.acc h k) else V (Proc.devRef .tc main_v42_15) (ix2 p h) := by
  refine (update2 _ _ _ _ (at2 T) p h).trans ?_
  congr 1
  refine (one_heads _ h).trans ((total _ h).trans ?_)
  refine Finset.sum_congr rfl fun a _ => Finset.sum_congr rfl fun b _ => ?_
  exact swapped (v58 T h a b) (T.dS h a b)

end Trip

/-- After `k` trips: the carried gradient, and the gradients of the last `k` chunks. -/
structure Holds (A : Args) (k : ℕ) (V : Contents) : Prop where
  reads : Reads A V
  ctr : V (Proc.devRef .tc main_v42_8) = fun _ => (BitVec.ofNat 32 k : BitVec 32)
  dS : ∀ h a b, V (Proc.devRef .tc main_v42_9) (ix3 h a b) = A.acc h k a b
  fin : ∀ h a b, IsFin (A.acc h k a b)
  o10 : ∀ n : Fin 32, 31 - n.val < k → ∀ h i a, V (Proc.devRef .tc main_v42_10) (ix4 n h i a) = (A.chunk n h).dqg i a
  o11 : ∀ n : Fin 32, 31 - n.val < k → ∀ h i a, V (Proc.devRef .tc main_v42_11) (ix4 n h i a) = (A.chunk n h).dw (A.dS n h) i a
  o12 : ∀ n : Fin 32, 31 - n.val < k → ∀ h i a, V (Proc.devRef .tc main_v42_12) (ix4 n h i a) = (A.chunk n h).du (A.dS n h) i a
  o13 : ∀ n : Fin 32, 31 - n.val < k → ∀ h i j, V (Proc.devRef .tc main_v42_13) (ix4 n h i j) = (A.chunk n h).dp i j
  o14 : ∀ n : Fin 32, 31 - n.val < k → ∀ h i a, V (Proc.devRef .tc main_v42_14) (ix4 n h i a) = (A.chunk n h).dks (A.dS n h) i a
  o15 : ∀ n : Fin 32, 31 - n.val < k → ∀ h, V (Proc.devRef .tc main_v42_15) (ix2 n h) = (A.chunk n h).gam (A.dS n h)

section Holds

variable {A : Args} (hA : ∀ n h, (A.chunk n h).AllFin)

omit A in
/-- A written array after one more trip. -/
theorem stays {n : Fin 32} {k : ℕ} (hk : k < 32) (hn : 31 - n.val < k + 1) {x y : EReal} (P : Fin 32 → EReal)
    (hx : x = if n = at_ k then P (at_ k) else y) (hy : 31 - n.val < k → y = P n) : x = P n := by
  rw [hx]
  split
  · next h => rw [h]
  · next h => exact hy (by
      have : n.val ≠ 31 - k := fun e => h (Fin.ext e)
      have := n.isLt
      omega)

theorem dS_at {k : ℕ} (hk : k < 32) (h : Fin 8) : A.dS (at_ k) h = A.acc h k := by
  show A.acc h (31 - (31 - k)) = _
  rw [show 31 - (31 - k) = k by omega]

include hA in
theorem Holds.step {k : ℕ} (hk : k < 32) {V : Contents} (H : Holds A k V) : Holds A (k + 1) (STEP V) := by
  have T : Trip A k V := ⟨hk, H.reads, H.ctr, H.dS⟩
  refine ⟨⟨?_, ?_, ?_, ?_, ?_, ?_, ?_, ?_⟩, ?_, ?_, ?_, ?_, ?_, ?_, ?_, ?_, ?_⟩
  · rw [STEP_main_v42_0]; exact H.reads.s
  · rw [STEP_main_v42_1]; exact H.reads.q
  · rw [STEP_main_v42_2]; exact H.reads.w
  · rw [STEP_main_v42_3]; exact H.reads.u
  · rw [STEP_main_v42_4]; exact H.reads.p
  · rw [STEP_main_v42_5]; exact H.reads.k
  · rw [STEP_main_v42_6]; exact H.reads.e
  · rw [STEP_main_v42_7]; exact H.reads.d
  · rw [STEP_main_v42_8]
    have e : step_main_v42_8 V = addi (V (Proc.devRef .tc main_v42_8)) (constantI S_ 32 1#32) := rfl
    rw [e, H.ctr]
    funext x
    show BitVec.ofNat 32 k + 1#32 = _
    rw [BitVec.ofNat_add]
  · rw [STEP_main_v42_9]
    exact next9 T hA H.fin
  · exact fun h a b => (hA (at_ k) h).next (H.fin h) a b
  · intro n hn h i a
    rw [STEP_main_v42_10]
    exact stays hk hn (fun n => (A.chunk n h).dqg i a) (next10 T n h i a) fun hn => H.o10 n hn h i a
  · intro n hn h i a
    rw [STEP_main_v42_11]
    refine stays hk hn (fun n => (A.chunk n h).dw (A.dS n h) i a) ?_ fun hn => H.o11 n hn h i a
    rw [dS_at hk]
    exact next11 T hA H.fin n h i a
  · intro n hn h i a
    rw [STEP_main_v42_12]
    refine stays hk hn (fun n => (A.chunk n h).du (A.dS n h) i a) ?_ fun hn => H.o12 n hn h i a
    rw [dS_at hk]
    exact next12 T n h i a
  · intro n hn h i j
    rw [STEP_main_v42_13]
    exact stays hk hn (fun n => (A.chunk n h).dp i j) (next13 T hA n h i j) fun hn => H.o13 n hn h i j
  · intro n hn h i a
    rw [STEP_main_v42_14]
    refine stays hk hn (fun n => (A.chunk n h).dks (A.dS n h) i a) ?_ fun hn => H.o14 n hn h i a
    rw [dS_at hk]
    exact next14 T hA n h i a
  · intro n hn h
    rw [STEP_main_v42_15]
    refine stays hk hn (fun n => (A.chunk n h).gam (A.dS n h)) ?_ fun hn => H.o15 n hn h
    rw [dS_at hk]
    exact next15 T n h

include hA in
theorem Holds.run {V : Contents} (H : Holds A 0 V) : ∀ k ≤ 32, Holds A k (STEP^[k] V)
  | 0, _ => H
  | k + 1, hk => by
    rw [Function.iterate_succ_apply']
    exact (Holds.run H k (by omega)).step hA (by omega)

end Holds

end Cert.ScanBwd.Ref
-- ==== Proof.RefValue.lean ====
/-
  The reference's results: the six gradients of the backward scan.
-/
module

public import proofs.«01_k».proof.Proof.RefEntry
public import proofs.«01_k».proof.Proof.RefStep

@[expose] public section

set_option maxRecDepth 16384

noncomputable section

open scoped BigOperators

namespace Cert.ScanBwd.Ref

open Idealize.ShloMosaic Idealize.ShloMosaic.TcCoe
open Cert.ReferenceIdeal Cert.ReferenceIdeal.Gen Cert.ReferenceIdeal.Value

section Ops

theorem heads_back (x : S32x8x64x128.Idx → EReal) (n : Fin 32) (c : Fin 64) (h : Fin 8) (a : Fin 128) :
    transpose S32x64x8x128 [0, 2, 1, 3] x transposes_S32x8x64x128_S32x64x8x128_0_2_1_3 (ix4 n c h a) = x (ix4 n h c a) := by
  pointwise []

theorem lanes (x : FVec Ideal S32x8 .f32) (n : Fin 32) (r : Fin 8) (l : Fin 128) :
    broadcastInDim S32x8x128 ![0, 1, 2] bcast_S32x1x128_S32x8x128_0_1_2 (broadcastInDim S32x1x128 ![0, 2] bcast_S32x128_S32x1x128_0_2
      (pad S32x128 ![0, 0] ![0, 120] ![0, 0] x (sitofp (F := Ideal) .f32 (constantI S_ 32 0#32)) pads_S32x8_S32x128_000_01200 h_S_)) (ix3 n r l)
      = if hl : l.val < 8 then (x (ix2 n ⟨l.val, hl⟩) : EReal) else 0 := by
  have e : (FloatOps.sitofp (F := Ideal) .f32 (0#32) : EReal) = 0 := by
    show (((0#32 : BitVec 32).toInt : ℝ) : EReal) = 0
    simp
  pointwise []
  rw [e]

end Ops

section Whole

variable {A : Args} {V : Contents} (H : Holds A 32 V)
include H

theorem out8 : out_main_v47 V = A.R8 :=
  ext_rows _ _ fun n h i a => (join_rows _ n i h a).trans ((heads_back _ n i h a).trans (H.o10 n (by omega) h i a))

theorem out9 : V (Proc.devRef .tc main_v42_13) = A.R9 :=
  funext fun y => (congrArg (V (Proc.devRef .tc main_v42_13)) (eq_ix4 y)).trans (H.o13 (y 0) (by omega) (y 1) (y 2) (y 3))

theorem out10 : out_main_v50 V = A.R10 :=
  ext_rows _ _ fun n h i a => (join_rows _ n i h a).trans ((heads_back _ n i h a).trans (H.o12 n (by omega) h i a))

theorem out11 : out_main_v53 V = A.R11 :=
  ext_rows _ _ fun n h i a => (join_rows _ n i h a).trans ((heads_back _ n i h a).trans (H.o11 n (by omega) h i a))

theorem out12 : out_main_v55 V = A.R12 :=
  ext_rows _ _ fun n h i a => (join_rows _ n i h a).trans ((heads_back _ n i h a).trans (H.o14 n (by omega) h i a))

theorem out13 : out_main_v45 V = A.R13 := by
  suffices K : ∀ n r l, (out_main_v45 V : S32x8x128.Idx → EReal) (ix3 n r l) = A.R13 (ix3 n r l) from
    funext fun y => (congrArg (out_main_v45 V) (eq_ix3 y)).trans ((K (y 0) (y 1) (y 2)).trans (congrArg A.R13 (eq_ix3 y).symm))
  intro n r l
  refine (lanes _ n r l).trans ?_
  show _ = if l.val < 8 then (A.chunk n ⟨l.val % 8, Nat.mod_lt _ (by omega)⟩).gam (A.dS n ⟨l.val % 8, Nat.mod_lt _ (by omega)⟩) else 0
  by_cases hl : l.val < 8
  · have e : (⟨l.val, hl⟩ : Fin 8) = ⟨l.val % 8, Nat.mod_lt _ (by omega)⟩ := Fin.ext (Nat.mod_eq_of_lt hl).symm
    rw [dif_pos hl, if_pos hl, ← e]
    exact H.o15 n (by omega) ⟨l.val, hl⟩
  · rw [dif_neg hl, if_neg hl]

end Whole

variable (m : (ℓ : Loc nD τ sig) → Buf (Elt Ideal) ℓ) (c : Dev nD)

theorem started : Holds (rargs m c) 0 (E m c) :=
  ⟨⟨entry0 m c, entry1 m c, entry2 m c, entry3 m c, entry4 m c, entry5 m c, entry6 m c, entry7 m c⟩,
    entry8 m c, fun h a b => entry9 m c _, fun _ _ _ => IsFin.zero, fun _ hn => absurd hn (by omega), fun _ hn => absurd hn (by omega),
    fun _ hn => absurd hn (by omega), fun _ hn => absurd hn (by omega), fun _ hn => absurd hn (by omega),
    fun _ hn => absurd hn (by omega)⟩

/-- After the loop. -/
theorem held (hA : ∀ n h, ((rargs m c).chunk n h).AllFin) : Holds (rargs m c) 32 (STEP^[32] (E m c)) :=
  (started m c).run hA 32 (le_refl _)

end Cert.ScanBwd.Ref
-- ==== Proof.PreFinite.lean ====
/-
  What the precondition says: every entry of the eight argument arrays is a real number.
-/
module

public import proofs.«01_k».proof.Proof.Finite
public import proofs.«01_k».proof.Proof.Gen.Pre_finite
public import proofs.«01_k».proof.Defs
public import Idealize.ShloMosaic.Lib.ReduceAll
public import Idealize.ShloMosaic.Lib.Pointwise

@[expose] public section

set_option maxRecDepth 16384

noncomputable section

namespace Cert.ScanBwd

open Idealize.ShloMosaic
open Cert.Pre_finite Cert.Pre_finite.Gen

/-- An extended real whose magnitude is below the infinity is real. -/
theorem isFin_of_abs_lt (x : Ideal .f32)
    (h : FloatOps.cmpf .olt (FloatOps.absf x) (FloatOps.ofBits (F := Ideal) .f32 0x7F800000#32) = 1#1) : IsFin x := by
  have e : (FloatOps.ofBits (F := Ideal) .f32 0x7F800000#32 : EReal) = ⊤ := by
    show Ideal.ofBits .f32 0x7F800000#32 = ⊤
    simp [Ideal.ofBits, Ideal.ieee]
  rw [e] at h
  have h1 : (max (x : EReal) (-x)) < ⊤ := by
    have h2 : BitVec.ofBool (decide ((max (x : EReal) (-x)) < ⊤)) = 1#1 := h
    by_contra hn
    rw [decide_eq_false hn] at h2
    exact absurd h2 (by decide)
  rw [max_lt_iff] at h1
  revert h1
  induction (x : EReal) using EReal.rec with
  | bot => intro h1; exact absurd h1.2 (by simp)
  | coe r => intro _; exact ⟨r, rfl⟩
  | top => intro h1; exact absurd h1.1 (by simp)

/-- An array all of whose entries pass the comparison has real entries. -/
theorem isFin_of_all {s : Shape} {axes : List (Fin s.rank)} (x : FVec Ideal s .f32) (hb : S_.BroadcastsInDim s (![] : Fin 0 → Fin s.rank))
    (hr : s.ReducesTo axes S_)
    (h : Host.reduce IntOp.andi (cmpf .olt (Host.absf x) (broadcastInDim s ![] hb (constant (F := Ideal) S_ .f32 0x7F800000#32)))
      (constantI S_ 1 1#1) hr h_S_ (Shape.Idx.first h_S_) = 1#1) (i : s.Idx) : IsFin (x i) := by
  haveI : Subsingleton S_.Idx := ⟨fun a b => funext fun k => k.elim0⟩
  exact isFin_of_abs_lt (x i) (Host.reduce_andi_all _ _ _ _ _ h i)

/-- A conjunction of two truth values that came out true. -/
theorem andi_true (a b : IVec S_ 1) (h : andi a b (Shape.Idx.first h_S_) = 1#1) :
    a (Shape.Idx.first h_S_) = 1#1 ∧ b (Shape.Idx.first h_S_) = 1#1 := IntOp.andi_eq_one.1 h

/-- The eight argument arrays of device `c` have real entries. -/
theorem finite_args (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ i, IsFin (m ((c.tc : Thread Cert.KernelIdeal.nD Cert.KernelIdeal.τ).loc Cert.KernelIdeal.main_arg0) i))
    ∧ (∀ i, IsFin (m ((c.tc : Thread Cert.KernelIdeal.nD Cert.KernelIdeal.τ).loc Cert.KernelIdeal.main_arg1) i))
    ∧ (∀ i, IsFin (m ((c.tc : Thread Cert.KernelIdeal.nD Cert.KernelIdeal.τ).loc Cert.KernelIdeal.main_arg2) i))
    ∧ (∀ i, IsFin (m ((c.tc : Thread Cert.KernelIdeal.nD Cert.KernelIdeal.τ).loc Cert.KernelIdeal.main_arg3) i))
    ∧ (∀ i, IsFin (m ((c.tc : Thread Cert.KernelIdeal.nD Cert.KernelIdeal.τ).loc Cert.KernelIdeal.main_arg4) i))
    ∧ (∀ i, IsFin (m ((c.tc : Thread Cert.KernelIdeal.nD Cert.KernelIdeal.τ).loc Cert.KernelIdeal.main_arg5) i))
    ∧ (∀ i, IsFin (m ((c.tc : Thread Cert.KernelIdeal.nD Cert.KernelIdeal.τ).loc Cert.KernelIdeal.main_arg6) i))
    ∧ (∀ i, IsFin (m ((c.tc : Thread Cert.KernelIdeal.nD Cert.KernelIdeal.τ).loc Cert.KernelIdeal.main_arg7) i)) := by
  have h0 := congrFun (h c) (Shape.Idx.first h_S_)
  unfold Cert.Pre_finite.fn Cert.Pre_finite.fn_part1 Cert.Pre_finite.fn_part2 at h0
  dsimp only at h0
  obtain ⟨h0, k7⟩ := andi_true _ _ h0
  obtain ⟨h0, k6⟩ := andi_true _ _ h0
  obtain ⟨h0, k5⟩ := andi_true _ _ h0
  obtain ⟨h0, k4⟩ := andi_true _ _ h0
  obtain ⟨h0, k3⟩ := andi_true _ _ h0
  obtain ⟨h0, k2⟩ := andi_true _ _ h0
  obtain ⟨k0, k1⟩ := andi_true _ _ h0
  have r0 := isFin_of_all _ _ _ k0
  have r1 := isFin_of_all _ _ _ k1
  have r2 := isFin_of_all _ _ _ k2
  have r3 := isFin_of_all _ _ _ k3
  have r4 := isFin_of_all _ _ _ k4
  have r5 := isFin_of_all _ _ _ k5
  have r6 := isFin_of_all _ _ _ k6
  have r7 := isFin_of_all _ _ _ k7
  exact ⟨r0, r1, r2, fun i => r3 i, r4, fun i => r5 i, fun i => r6 i, fun i => r7 i⟩

end Cert.ScanBwd
-- ==== Proof.Values.lean ====
/-
  The kernel and the reference end with equal results, element by element, when every argument is finite.
-/
module

public import proofs.«01_k».proof.Defs
public import proofs.«01_k».proof.Proof.KernelValue
public import proofs.«01_k».proof.Proof.RefValue
public import proofs.«01_k».proof.Proof.PreFinite

@[expose] public section

noncomputable section

namespace Cert.ScanBwd

open Idealize.ShloMosaic Idealize.SL.Sem

/-- Finite arrays have finite chunks. -/
theorem Args.finite (A : Args) (hq : ∀ i, IsFin (A.q i)) (hk : ∀ i, IsFin (A.k i)) (hg : ∀ i, IsFin (A.g i)) (hw : ∀ i, IsFin (A.w i))
    (hp : ∀ i, IsFin (A.p i)) (hv : ∀ i, IsFin (A.v i)) (hs : ∀ i, IsFin (A.s i)) (hd : ∀ i, IsFin (A.d i)) (n : Fin 32) (h : Fin 8) :
    (A.chunk n h).AllFin :=
  ⟨fun _ _ => hq _, fun _ _ => hk _, fun _ _ => hw _, fun _ _ => hd _, fun _ _ => hv _, fun _ => hg _, fun _ _ => hp _, fun _ _ => hs _⟩

theorem values : Cert.algebraic_KernelIdeal_ReferenceIdeal_pre_finite := by
  intro m g m' g' hpre hargs
  have hR : ∀ c, Ref.rargs m' c = kargs m c := fun c => by
    obtain ⟨h0, h1, h2, h3, h4, h5, h6, h7⟩ := hargs c
    unfold Ref.rargs kargs
    congr 1
  have hA : ∀ c n h, ((Ref.rargs m' c).chunk n h).AllFin := fun c n h => by
    obtain ⟨f0, f1, f2, f3, f4, f5, f6, f7⟩ := finite_args m hpre c
    rw [hR c]
    exact Args.finite _ f0 f1 f2 f3 f4 f5 f6 f7 n h
  refine ⟨fun c => (kargs m c).R8, fun c => (kargs m c).R9, fun c => (kargs m c).R10, fun c => (kargs m c).R11,
    fun c => (kargs m c).R12, fun c => (kargs m c).R13, ?_, ?_⟩
  · refine (θ_run Cert.KernelIdeal.defs _ _).mono (fun r h c => ?_) (Cert.KernelIdeal.Value.run_blocks m g)
    obtain ⟨h0, h1, h2, h3, h4, h5, h6⟩ := h c
    exact ⟨h0.trans (final8 m c), h1.trans (final9 m c), h2.trans (final10 m c), h3.trans (final11 m c), h4.trans (final12 m c),
      h5.trans (final13 m c), h6⟩
  · refine (θ_run Cert.ReferenceIdeal.defs _ _).mono (fun r h c => ?_) (Cert.ReferenceIdeal.Value.run m' g')
    obtain ⟨h0, h1, h2, h3, h4, h5, h6⟩ := h c
    exact ⟨h0.trans ((Ref.out8 (Ref.held m' c (hA c))).trans (congrArg Args.R8 (hR c))), h1.trans ((Ref.out9 (Ref.held m' c (hA c))).trans (congrArg Args.R9 (hR c))),
      h2.trans ((Ref.out10 (Ref.held m' c (hA c))).trans (congrArg Args.R10 (hR c))), h3.trans ((Ref.out11 (Ref.held m' c (hA c))).trans (congrArg Args.R11 (hR c))),
      h4.trans ((Ref.out12 (Ref.held m' c (hA c))).trans (congrArg Args.R12 (hR c))), h5.trans ((Ref.out13 (Ref.held m' c (hA c))).trans (congrArg Args.R13 (hR c))), h6⟩

end Cert.ScanBwd
-- ==== Proof.ProductOps.lean ====
/-
  A product of two matrices at an index, by the axes it contracts: the kernel's product into a zero splat, and the host's.
-/
module

public import Idealize.ShloMosaic.Lib.ValueIdx
public import Idealize.ShloMosaic.Lib.Pointwise
public import Idealize.ShloMosaic.Lib.KernelVsHost

@[expose] public section

noncomputable section

open scoped BigOperators

namespace Cert.Products

open Idealize.ShloMosaic
open Idealize.ShloMosaic.ValueIdx (contrEquiv1 contrEquiv1_symm_val)

/-- A host product that contracts one axis, as a sum over that axis. -/
theorem host_sum {sl sr so : Shape} {φ₁ φ₂ : FTy} (d : DotDims sl sr so) (n : ℕ) (hr : d.contr.rank = 1)
    (hs : d.contr.size ⟨0, by omega⟩ = n) (x : FVec Ideal sl φ₁) (y : FVec Ideal sr φ₂) (j : so.Idx)
    (l : Fin n → sl.Idx) (r : Fin n → sr.Idx)
    (hl : ∀ i, d.lhsIdx j ((contrEquiv1 d n hr hs).symm i) = l i) (hr' : ∀ i, d.rhsIdx j ((contrEquiv1 d n hr hs).symm i) = r i) :
    Host.dotGeneral d none x y j = ∑ i, x (l i) * y (r i) := by
  show FloatOps.dotGeneral d none _ x y j = _
  rw [Ideal.dotGeneral_apply, ← Equiv.sum_comp (contrEquiv1 d n hr hs).symm]
  exact Finset.sum_congr rfl fun i _ => by rw [hl, hr']

variable {m k n : ℕ} {φ₁ φ₂ : FTy}

/-- The transpose of the left matrix times the right one. -/
theorem host_tn (w : DotDims.WF ⟨2, ![k, m]⟩ ⟨2, ![k, n]⟩ ⟨2, ![m, n]⟩ [0] [0] [1] [1] [] [])
    (x : FVec Ideal ⟨2, ![k, m]⟩ φ₁) (y : FVec Ideal ⟨2, ![k, n]⟩ φ₂) (a : Fin m) (b : Fin n) :
    Host.dotGeneral (⟨[0], [0], [1], [1], [], [], w⟩ : DotDims _ _ _) none x y (ix2 a b) = ∑ i : Fin k, x (ix2 i a) * y (ix2 i b) := by
  refine host_sum (⟨[0], [0], [1], [1], [], [], w⟩ : DotDims _ _ _) k rfl rfl x y _ _ _ (fun i => ?_) (fun i => ?_)
  all_goals
    have c := contrEquiv1_symm_val (⟨[0], [0], [1], [1], [], [], w⟩ : DotDims ⟨2, ![k, m]⟩ ⟨2, ![k, n]⟩ ⟨2, ![m, n]⟩) k rfl rfl i
    funext ax; apply Fin.ext
    match ax with
    | ⟨0, _⟩ => simp [DotDims.lhsIdx, DotDims.rhsIdx]; exact c
    | ⟨1, _⟩ => simp [DotDims.lhsIdx, DotDims.rhsIdx]; rfl

/-- The left matrix times the right one. -/
theorem host_nn (w : DotDims.WF ⟨2, ![m, k]⟩ ⟨2, ![k, n]⟩ ⟨2, ![m, n]⟩ [1] [0] [0] [1] [] [])
    (x : FVec Ideal ⟨2, ![m, k]⟩ φ₁) (y : FVec Ideal ⟨2, ![k, n]⟩ φ₂) (a : Fin m) (b : Fin n) :
    Host.dotGeneral (⟨[1], [0], [0], [1], [], [], w⟩ : DotDims _ _ _) none x y (ix2 a b) = ∑ i : Fin k, x (ix2 a i) * y (ix2 i b) := by
  refine host_sum (⟨[1], [0], [0], [1], [], [], w⟩ : DotDims _ _ _) k rfl rfl x y _ _ _ (fun i => ?_) (fun i => ?_)
  all_goals
    have c := contrEquiv1_symm_val (⟨[1], [0], [0], [1], [], [], w⟩ : DotDims ⟨2, ![m, k]⟩ ⟨2, ![k, n]⟩ ⟨2, ![m, n]⟩) k rfl rfl i
    funext ax; apply Fin.ext
    match ax with
    | ⟨0, _⟩ => simp [DotDims.lhsIdx, DotDims.rhsIdx]; first | exact c | rfl
    | ⟨1, _⟩ => simp [DotDims.lhsIdx, DotDims.rhsIdx]; first | exact c | rfl

/-- The left matrix times the transpose of the right one. -/
theorem host_nt (w : DotDims.WF ⟨2, ![m, k]⟩ ⟨2, ![n, k]⟩ ⟨2, ![m, n]⟩ [1] [1] [0] [0] [] [])
    (x : FVec Ideal ⟨2, ![m, k]⟩ φ₁) (y : FVec Ideal ⟨2, ![n, k]⟩ φ₂) (a : Fin m) (b : Fin n) :
    Host.dotGeneral (⟨[1], [1], [0], [0], [], [], w⟩ : DotDims _ _ _) none x y (ix2 a b) = ∑ i : Fin k, x (ix2 a i) * y (ix2 b i) := by
  refine host_sum (⟨[1], [1], [0], [0], [], [], w⟩ : DotDims _ _ _) k rfl rfl x y _ _ _ (fun i => ?_) (fun i => ?_)
  all_goals
    have c := contrEquiv1_symm_val (⟨[1], [1], [0], [0], [], [], w⟩ : DotDims ⟨2, ![m, k]⟩ ⟨2, ![n, k]⟩ ⟨2, ![m, n]⟩) k rfl rfl i
    funext ax; apply Fin.ext
    match ax with
    | ⟨0, _⟩ => simp [DotDims.lhsIdx, DotDims.rhsIdx]; rfl
    | ⟨1, _⟩ => simp [DotDims.lhsIdx, DotDims.rhsIdx]; exact c

/-- The same three products in a kernel, accumulated into zeros. -/
theorem mm_tn (w : DotDims.WF ⟨2, ![k, m]⟩ ⟨2, ![k, n]⟩ ⟨2, ![m, n]⟩ [0] [0] [1] [1] [] [])
    (x : FVec Ideal ⟨2, ![k, m]⟩ φ₁) (y : FVec Ideal ⟨2, ![k, n]⟩ φ₂) (a : Fin m) (b : Fin n) :
    matmul (⟨[0], [0], [1], [1], [], [], w⟩ : DotDims _ _ _) none x y (constant _ .f32 0x00000000#32) (ix2 a b)
      = ∑ i : Fin k, x (ix2 i a) * y (ix2 i b) := by
  rw [matmul_zero_eq_dotGeneral]
  exact host_tn w x y a b

theorem mm_nn (w : DotDims.WF ⟨2, ![m, k]⟩ ⟨2, ![k, n]⟩ ⟨2, ![m, n]⟩ [1] [0] [0] [1] [] [])
    (x : FVec Ideal ⟨2, ![m, k]⟩ φ₁) (y : FVec Ideal ⟨2, ![k, n]⟩ φ₂) (a : Fin m) (b : Fin n) :
    matmul (⟨[1], [0], [0], [1], [], [], w⟩ : DotDims _ _ _) none x y (constant _ .f32 0x00000000#32) (ix2 a b)
      = ∑ i : Fin k, x (ix2 a i) * y (ix2 i b) := by
  rw [matmul_zero_eq_dotGeneral]
  exact host_nn w x y a b

theorem mm_nt (w : DotDims.WF ⟨2, ![m, k]⟩ ⟨2, ![n, k]⟩ ⟨2, ![m, n]⟩ [1] [1] [0] [0] [] [])
    (x : FVec Ideal ⟨2, ![m, k]⟩ φ₁) (y : FVec Ideal ⟨2, ![n, k]⟩ φ₂) (a : Fin m) (b : Fin n) :
    matmul (⟨[1], [1], [0], [0], [], [], w⟩ : DotDims _ _ _) none x y (constant _ .f32 0x00000000#32) (ix2 a b)
      = ∑ i : Fin k, x (ix2 a i) * y (ix2 b i) := by
  rw [matmul_zero_eq_dotGeneral]
  exact host_nt w x y a b

/-- The three products of whole matrices, entry by entry. -/
def tn (X : (⟨2, ![k, m]⟩ : Shape).Idx → EReal) (Y : (⟨2, ![k, n]⟩ : Shape).Idx → EReal) : (⟨2, ![m, n]⟩ : Shape).Idx → EReal :=
  fun z => ∑ i : Fin k, X (ix2 i (z 0)) * Y (ix2 i (z 1))
def nn (X : (⟨2, ![m, k]⟩ : Shape).Idx → EReal) (Y : (⟨2, ![k, n]⟩ : Shape).Idx → EReal) : (⟨2, ![m, n]⟩ : Shape).Idx → EReal :=
  fun z => ∑ i : Fin k, X (ix2 (z 0) i) * Y (ix2 i (z 1))
def nt (X : (⟨2, ![m, k]⟩ : Shape).Idx → EReal) (Y : (⟨2, ![n, k]⟩ : Shape).Idx → EReal) : (⟨2, ![m, n]⟩ : Shape).Idx → EReal :=
  fun z => ∑ i : Fin k, X (ix2 (z 0) i) * Y (ix2 (z 1) i)

/-- The product of two extended reals, for elements of buffers. -/
abbrev times (x y : EReal) : EReal := x * y

/-- A sum in three equal runs. -/
theorem split3 (f : Fin (n + n + n) → EReal) : ∑ k, f k = ∑ k, f (Fin.castAdd n (Fin.castAdd n k))
    + ∑ k, f (Fin.castAdd n (Fin.natAdd n k)) + ∑ k, f (Fin.natAdd (n + n) k) := by
  rw [Fin.sum_univ_add, Fin.sum_univ_add]

/-- The first rows of a matrix. -/
def top {p : ℕ} (h : n ≤ p) (X : (⟨2, ![p, k]⟩ : Shape).Idx → EReal) : (⟨2, ![n, k]⟩ : Shape).Idx → EReal :=
  fun z => X (ix2 ((z 0).castLE h) (z 1))

theorem sliced {p : ℕ} (h : n ≤ p) (X : (⟨2, ![p, k]⟩ : Shape).Idx → EReal) (hs : (⟨2, ![p, k]⟩ : Shape).Slices ![0, 0] ⟨2, ![n, k]⟩)
    (a : Fin n) (b : Fin k) : extractStridedSlice ⟨2, ![n, k]⟩ ![0, 0] X hs (ix2 a b) = top h X (ix2 a b) := by
  refine congrArg X (funext fun ax => Fin.ext ?_)
  match ax with
  | ⟨0, _⟩ => exact Nat.zero_add _
  | ⟨1, _⟩ => exact Nat.zero_add _

/-- Two matrices with the same entries. -/
theorem ext_ix2 {α : Type} (X Y : (⟨2, ![m, n]⟩ : Shape).Idx → α) (h : ∀ a b, X (ix2 a b) = Y (ix2 a b)) : X = Y :=
  funext fun y => (congrArg X (eq_ix2 y)).trans ((h (y 0) (y 1)).trans (congrArg Y (eq_ix2 y).symm))

/-- A matrix turned. -/
theorem turned {α : Type} (x : (⟨2, ![m, n]⟩ : Shape).Idx → α) (h : (⟨2, ![m, n]⟩ : Shape).Transposes [1, 0] ⟨2, ![n, m]⟩) (a : Fin n) (b : Fin m) :
    transpose ⟨2, ![n, m]⟩ [1, 0] x h (ix2 a b) = x (ix2 b a) := by
  refine congrArg x (funext fun ax => Fin.ext ?_)
  match ax with
  | ⟨0, _⟩ => rfl
  | ⟨1, _⟩ => rfl

end Cert.Products
-- ==== Proof.ProductG.lean ====
/-
  The gradient of the first group of the projection's columns: the kernel's tiles of the product against one product.
-/
module

public import proofs.«01_k».proof.Defs
public import proofs.«01_k».proof.Proof.ProductOps
public import proofs.«01_k».proof.Proof.Gen.KernelG
public import proofs.«01_k».proof.Proof.Gen.KernelGIdeal.Value
public import proofs.«01_k».proof.Proof.Gen.ReferenceGIdeal.Run
public import Idealize.ShloMosaic.Lib.Pipeline.ValueKit
public import Idealize.ShloMosaic.Adequacy
public import Idealize.ShloMosaic.Init

@[expose] public section

set_option maxRecDepth 16384

noncomputable section

open scoped BigOperators

namespace Cert.Products.G

open Idealize.ShloMosaic Idealize.ShloMosaic.TcCoe Idealize.ShloMosaic.ValueKit Idealize.SL.Sem

section Kernel

open Cert.KernelGIdeal Cert.KernelGIdeal.Gen

/-- One tile of the product. -/
theorem tile (x : Vec Ideal S2048x1408 .bf16) (y : Vec Ideal S2048x512 .bf16) (a : Fin 1408) (b : Fin 512) :
    out0_2 x y (ix2 a b) = ∑ k : Fin 2048, (x (ix2 k a) * y (ix2 k b) : EReal) := by
  unfold out0_2
  rw [View.canon_unit_zero (by funext a; fin_cases a <;> rfl), View.ld_unit_zero (by funext a; fin_cases a <;> rfl),
    View.ld_unit_zero (by funext a; fin_cases a <;> rfl)]
  exact mm_tn (φ₁ := .bf16) (φ₂ := .bf16) _ x y a b

variable (m : (ℓ : Loc nD τ sig) → Buf (Elt Ideal) ℓ) (c : Dev nD)

theorem index0 : ∀ t : Fin cfg0.N, win0_0.index t = ![0, t.val / 2] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

/-- The product of the whole arrays. -/
abbrev whole : S4224x1024.Idx → EReal :=
  tn (k := 2048) (m := 4224) (n := 1024) (m ((c : Thread nD τ).loc main_arg0)) (m ((c : Thread nD τ).loc main_arg1))

theorem blk0 (t : Fin cfg0.N) (k : Fin 2048) (a : Fin 1408) (z : Fin 4224) (hz : z.val = t.val / 2 * 1408 + a.val) :
    (iblk m c 0 t : Vec Ideal S2048x1408 .bf16) (ix2 k a) = m ((c : Thread nD τ).loc main_arg0) (ix2 k z) := by
  blk_ext! [iblk, V, index0 t]

theorem blk1 (t : Fin cfg0.N) (k : Fin 2048) (b : Fin 512) (z : Fin 1024) (hz : z.val = t.val % 2 * 512 + b.val) :
    (iblk m c 1 t : Vec Ideal S2048x512 .bf16) (ix2 k b) = m ((c : Thread nD τ).loc main_arg1) (ix2 k z) := by
  blk_ext! [iblk, V, index1 t]

theorem at_ (t : Fin cfg0.N) (y : S1408x512.Idx) (z : S4224x1024.Idx) (h0 : (z 0).val = t.val / 2 * 1408 + (y 0).val)
    (h1 : (z 1).val = t.val % 2 * 512 + (y 1).val) : out0_2 (iblk m c 0 t) (iblk m c 1 t) y = whole m c z := by
  refine (congrArg _ (eq_ix2 y)).trans ((tile _ _ (y 0) (y 1)).trans (Finset.sum_congr rfl fun k _ => ?_))
  exact congrArg₂ (· * ·) (blk0 m c t k (y 0) (z 0) h0) (blk1 m c t k (y 1) (z 1) h1)

theorem final : (dats m 0 c).arrAt 2 cfg0.N = whole m c := by
  refine (dats m 0 c).arrAt_eq_of_covers 2 _ (by decide +kernel) fun t hf y => ?_
  blk_simp
  rw [after0_2]
  refine at_ m c t _ _ ?_ ?_ <;> blk_simp [index2 t]

end Kernel

theorem values : Cert.algebraic_KernelGIdeal_ReferenceGIdeal := by
  intro m g m' g' _ hargs
  refine ⟨fun c => whole m c, ?_, ?_⟩
  · refine (θ_run Cert.KernelGIdeal.defs _ _).mono (fun r h c => ?_) (Cert.KernelGIdeal.Value.run_blocks m g)
    exact ⟨(h c).1.trans (final m c), (h c).2⟩
  · refine (θ_run Cert.ReferenceGIdeal.defs _ _).mono (fun r h c => ?_) (Cert.ReferenceGIdeal.Value.run m' g')
    refine ⟨(h c).1.trans ?_, (h c).2⟩
    obtain ⟨h0, h1⟩ := hargs c
    rw [h0, h1]
    refine ext_ix2 _ _ fun a b => ?_
    exact (turned _ _ a b).trans ((turned _ _ b a).trans (host_tn (φ₁ := .f32) (φ₂ := .f32) _ _ _ a b))

section Frame

variable {F : FTy → Type} [FloatOps F]

/-- The kernel and its idealization have the same text. -/
theorem body_eq : (Cert.KernelG.cc0_mm_gwin_g (F := F)) = (Cert.KernelGIdeal.cc0_mm_gwin_g (F := F)) := rfl

theorem bodies_eq : (Cert.KernelG.defs₀ (F := F)) = (Cert.KernelGIdeal.defs₀ (F := F)) := by
  unfold Cert.KernelG.defs₀ Cert.KernelGIdeal.defs₀
  refine congrArg Defs.onTc (funext fun l => funext fun a => ?_)
  match l, a with
  | 0, (t, s) =>
    dsimp only
    rw [body_eq]
    rfl
  | ⟨_ + 1, h⟩, _ => exact absurd h (Nat.not_lt.2 (Nat.le_add_left _ _))

theorem defs_eq : (Cert.KernelG.defs (F := F)) = (Cert.KernelGIdeal.defs (F := F)) :=
  congrArg (Pipeline.defs Cert.KernelGIdeal.pcfgs) bodies_eq

end Frame

/-- The kernel's frame: the run stated over any floats, read at bit patterns. -/
theorem frame_kernel : Cert.quiescent_KernelG := by
  intro m ρ _
  rw [defs_eq]
  exact Cert.KernelGIdeal.Gen.frame (F := Bits) m ρ

theorem frame_ideal : Cert.quiescent_KernelGIdeal := fun m ρ _ => Cert.KernelGIdeal.Gen.frame m ρ

theorem frame_reference : Cert.quiescent_ReferenceGIdeal := fun m ρ _ =>
  (θ_run Cert.ReferenceGIdeal.defs _ _).mono (fun r h => ⟨fun c => (h c).2, sem_eq_zero_of_no_sems (by decide) r.2⟩)
    (Cert.ReferenceGIdeal.Value.run m ρ)

end Cert.Products.G
-- ==== Proof.ProductC.lean ====
/-
  The gradient of the second group of the projection's columns: the kernel's tiles of the product against one product.
-/
module

public import proofs.«01_k».proof.Defs
public import proofs.«01_k».proof.Proof.ProductOps
public import proofs.«01_k».proof.Proof.Gen.KernelC
public import proofs.«01_k».proof.Proof.Gen.KernelCIdeal.Value
public import proofs.«01_k».proof.Proof.Gen.ReferenceCIdeal.Run
public import Idealize.ShloMosaic.Lib.Pipeline.ValueKit
public import Idealize.ShloMosaic.Adequacy
public import Idealize.ShloMosaic.Init

@[expose] public section

set_option maxRecDepth 16384

noncomputable section

open scoped BigOperators

namespace Cert.Products.C

open Idealize.ShloMosaic Idealize.ShloMosaic.TcCoe Idealize.ShloMosaic.ValueKit Idealize.SL.Sem

section Kernel

open Cert.KernelCIdeal Cert.KernelCIdeal.Gen

/-- One tile of the product. -/
theorem tile (x : Vec Ideal S2048x1024 .bf16) (y : Vec Ideal S2048x512 .bf16) (a : Fin 1024) (b : Fin 512) :
    out0_2 x y (ix2 a b) = ∑ k : Fin 2048, (x (ix2 k a) * y (ix2 k b) : EReal) := by
  unfold out0_2
  rw [View.canon_unit_zero (by funext a; fin_cases a <;> rfl), View.ld_unit_zero (by funext a; fin_cases a <;> rfl),
    View.ld_unit_zero (by funext a; fin_cases a <;> rfl)]
  exact mm_tn (φ₁ := .bf16) (φ₂ := .bf16) _ x y a b

variable (m : (ℓ : Loc nD τ sig) → Buf (Elt Ideal) ℓ) (c : Dev nD)

theorem index0 : ∀ t : Fin cfg0.N, win0_0.index t = ![0, t.val / 2] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

/-- The product of the whole arrays. -/
abbrev whole : S4096x1024.Idx → EReal :=
  tn (k := 2048) (m := 4096) (n := 1024) (m ((c : Thread nD τ).loc main_arg0)) (m ((c : Thread nD τ).loc main_arg1))

theorem blk0 (t : Fin cfg0.N) (k : Fin 2048) (a : Fin 1024) (z : Fin 4096) (hz : z.val = t.val / 2 * 1024 + a.val) :
    (iblk m c 0 t : Vec Ideal S2048x1024 .bf16) (ix2 k a) = m ((c : Thread nD τ).loc main_arg0) (ix2 k z) := by
  blk_ext! [iblk, V, index0 t]

theorem blk1 (t : Fin cfg0.N) (k : Fin 2048) (b : Fin 512) (z : Fin 1024) (hz : z.val = t.val % 2 * 512 + b.val) :
    (iblk m c 1 t : Vec Ideal S2048x512 .bf16) (ix2 k b) = m ((c : Thread nD τ).loc main_arg1) (ix2 k z) := by
  blk_ext! [iblk, V, index1 t]

theorem at_ (t : Fin cfg0.N) (y : S1024x512.Idx) (z : S4096x1024.Idx) (h0 : (z 0).val = t.val / 2 * 1024 + (y 0).val)
    (h1 : (z 1).val = t.val % 2 * 512 + (y 1).val) : out0_2 (iblk m c 0 t) (iblk m c 1 t) y = whole m c z := by
  refine (congrArg _ (eq_ix2 y)).trans ((tile _ _ (y 0) (y 1)).trans (Finset.sum_congr rfl fun k _ => ?_))
  exact congrArg₂ (· * ·) (blk0 m c t k (y 0) (z 0) h0) (blk1 m c t k (y 1) (z 1) h1)

theorem final : (dats m 0 c).arrAt 2 cfg0.N = whole m c := by
  refine (dats m 0 c).arrAt_eq_of_covers 2 _ (by decide +kernel) fun t hf y => ?_
  blk_simp
  rw [after0_2]
  refine at_ m c t _ _ ?_ ?_ <;> blk_simp [index2 t]

end Kernel

theorem values : Cert.algebraic_KernelCIdeal_ReferenceCIdeal := by
  intro m g m' g' _ hargs
  refine ⟨fun c => whole m c, ?_, ?_⟩
  · refine (θ_run Cert.KernelCIdeal.defs _ _).mono (fun r h c => ?_) (Cert.KernelCIdeal.Value.run_blocks m g)
    exact ⟨(h c).1.trans (final m c), (h c).2⟩
  · refine (θ_run Cert.ReferenceCIdeal.defs _ _).mono (fun r h c => ?_) (Cert.ReferenceCIdeal.Value.run m' g')
    refine ⟨(h c).1.trans ?_, (h c).2⟩
    obtain ⟨h0, h1⟩ := hargs c
    rw [h0, h1]
    refine ext_ix2 _ _ fun a b => ?_
    exact (turned _ _ a b).trans ((turned _ _ b a).trans (host_tn (φ₁ := .f32) (φ₂ := .f32) _ _ _ a b))

section Frame

variable {F : FTy → Type} [FloatOps F]

/-- The kernel and its idealization have the same text. -/
theorem body_eq : (Cert.KernelC.cc0_mm_gwin_c (F := F)) = (Cert.KernelCIdeal.cc0_mm_gwin_c (F := F)) := rfl

theorem bodies_eq : (Cert.KernelC.defs₀ (F := F)) = (Cert.KernelCIdeal.defs₀ (F := F)) := by
  unfold Cert.KernelC.defs₀ Cert.KernelCIdeal.defs₀
  refine congrArg Defs.onTc (funext fun l => funext fun a => ?_)
  match l, a with
  | 0, (t, s) =>
    dsimp only
    rw [body_eq]
    rfl
  | ⟨_ + 1, h⟩, _ => exact absurd h (Nat.not_lt.2 (Nat.le_add_left _ _))

theorem defs_eq : (Cert.KernelC.defs (F := F)) = (Cert.KernelCIdeal.defs (F := F)) :=
  congrArg (Pipeline.defs Cert.KernelCIdeal.pcfgs) bodies_eq

end Frame

/-- The kernel's frame: the run stated over any floats, read at bit patterns. -/
theorem frame_kernel : Cert.quiescent_KernelC := by
  intro m ρ _
  rw [defs_eq]
  exact Cert.KernelCIdeal.Gen.frame (F := Bits) m ρ

theorem frame_ideal : Cert.quiescent_KernelCIdeal := fun m ρ _ => Cert.KernelCIdeal.Gen.frame m ρ

theorem frame_reference : Cert.quiescent_ReferenceCIdeal := fun m ρ _ =>
  (θ_run Cert.ReferenceCIdeal.defs _ _).mono (fun r h => ⟨fun c => (h c).2, sem_eq_zero_of_no_sems (by decide) r.2⟩)
    (Cert.ReferenceCIdeal.Value.run m ρ)

end Cert.Products.C
-- ==== Proof.ProductO.lean ====
/-
  The gradient of the projection out: the kernel's tiles of the product against one product.
-/
module

public import proofs.«01_k».proof.Defs
public import proofs.«01_k».proof.Proof.ProductOps
public import proofs.«01_k».proof.Proof.Gen.KernelO
public import proofs.«01_k».proof.Proof.Gen.KernelOIdeal.Value
public import proofs.«01_k».proof.Proof.Gen.ReferenceOIdeal.Run
public import Idealize.ShloMosaic.Lib.Pipeline.ValueKit
public import Idealize.ShloMosaic.Adequacy
public import Idealize.ShloMosaic.Init

@[expose] public section

set_option maxRecDepth 16384

noncomputable section

open scoped BigOperators

namespace Cert.Products.O

open Idealize.ShloMosaic Idealize.ShloMosaic.TcCoe Idealize.ShloMosaic.ValueKit Idealize.SL.Sem

section Kernel

open Cert.KernelOIdeal Cert.KernelOIdeal.Gen

/-- One tile of the product. -/
theorem tile (x : Vec Ideal S2048x512 .bf16) (y : Vec Ideal S2048x512 .bf16) (a : Fin 512) (b : Fin 512) :
    out0_2 x y (ix2 a b) = ∑ k : Fin 2048, (x (ix2 k a) * y (ix2 k b) : EReal) := by
  unfold out0_2
  rw [View.canon_unit_zero (by funext a; fin_cases a <;> rfl), View.ld_unit_zero (by funext a; fin_cases a <;> rfl),
    View.ld_unit_zero (by funext a; fin_cases a <;> rfl)]
  exact mm_tn (φ₁ := .bf16) (φ₂ := .bf16) _ x y a b

variable (m : (ℓ : Loc nD τ sig) → Buf (Elt Ideal) ℓ) (c : Dev nD)

theorem index0 : ∀ t : Fin cfg0.N, win0_0.index t = ![0, t.val / 2] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

/-- The product of the whole arrays. -/
abbrev whole : S2048x1024.Idx → EReal :=
  tn (k := 2048) (m := 2048) (n := 1024) (m ((c : Thread nD τ).loc main_arg0)) (m ((c : Thread nD τ).loc main_arg1))

theorem blk0 (t : Fin cfg0.N) (k : Fin 2048) (a : Fin 512) (z : Fin 2048) (hz : z.val = t.val / 2 * 512 + a.val) :
    (iblk m c 0 t : Vec Ideal S2048x512 .bf16) (ix2 k a) = m ((c : Thread nD τ).loc main_arg0) (ix2 k z) := by
  blk_ext! [iblk, V, index0 t]

theorem blk1 (t : Fin cfg0.N) (k : Fin 2048) (b : Fin 512) (z : Fin 1024) (hz : z.val = t.val % 2 * 512 + b.val) :
    (iblk m c 1 t : Vec Ideal S2048x512 .bf16) (ix2 k b) = m ((c : Thread nD τ).loc main_arg1) (ix2 k z) := by
  blk_ext! [iblk, V, index1 t]

theorem at_ (t : Fin cfg0.N) (y : S512x512.Idx) (z : S2048x1024.Idx) (h0 : (z 0).val = t.val / 2 * 512 + (y 0).val)
    (h1 : (z 1).val = t.val % 2 * 512 + (y 1).val) : out0_2 (iblk m c 0 t) (iblk m c 1 t) y = whole m c z := by
  refine (congrArg _ (eq_ix2 y)).trans ((tile _ _ (y 0) (y 1)).trans (Finset.sum_congr rfl fun k _ => ?_))
  exact congrArg₂ (· * ·) (blk0 m c t k (y 0) (z 0) h0) (blk1 m c t k (y 1) (z 1) h1)

theorem final : (dats m 0 c).arrAt 2 cfg0.N = whole m c := by
  refine (dats m 0 c).arrAt_eq_of_covers 2 _ (by decide +kernel) fun t hf y => ?_
  blk_simp
  rw [after0_2]
  refine at_ m c t _ _ ?_ ?_ <;> blk_simp [index2 t]

end Kernel

theorem values : Cert.algebraic_KernelOIdeal_ReferenceOIdeal := by
  intro m g m' g' _ hargs
  refine ⟨fun c => whole m c, ?_, ?_⟩
  · refine (θ_run Cert.KernelOIdeal.defs _ _).mono (fun r h c => ?_) (Cert.KernelOIdeal.Value.run_blocks m g)
    exact ⟨(h c).1.trans (final m c), (h c).2⟩
  · refine (θ_run Cert.ReferenceOIdeal.defs _ _).mono (fun r h c => ?_) (Cert.ReferenceOIdeal.Value.run m' g')
    refine ⟨(h c).1.trans ?_, (h c).2⟩
    obtain ⟨h0, h1⟩ := hargs c
    rw [h0, h1]
    refine ext_ix2 _ _ fun a b => ?_
    refine (turned _ _ a b).trans ((host_tn (φ₁ := .f32) (φ₂ := .f32) _ _ _ b a).trans (Finset.sum_congr rfl fun k _ => ?_))
    exact mul_comm (G := EReal) _ _

section Frame

variable {F : FTy → Type} [FloatOps F]

/-- The kernel and its idealization have the same text. -/
theorem body_eq : (Cert.KernelO.cc0_mm_gwout (F := F)) = (Cert.KernelOIdeal.cc0_mm_gwout (F := F)) := rfl

theorem bodies_eq : (Cert.KernelO.defs₀ (F := F)) = (Cert.KernelOIdeal.defs₀ (F := F)) := by
  unfold Cert.KernelO.defs₀ Cert.KernelOIdeal.defs₀
  refine congrArg Defs.onTc (funext fun l => funext fun a => ?_)
  match l, a with
  | 0, (t, s) =>
    dsimp only
    rw [body_eq]
    rfl
  | ⟨_ + 1, h⟩, _ => exact absurd h (Nat.not_lt.2 (Nat.le_add_left _ _))

theorem defs_eq : (Cert.KernelO.defs (F := F)) = (Cert.KernelOIdeal.defs (F := F)) :=
  congrArg (Pipeline.defs Cert.KernelOIdeal.pcfgs) bodies_eq

end Frame

/-- The kernel's frame: the run stated over any floats, read at bit patterns. -/
theorem frame_kernel : Cert.quiescent_KernelO := by
  intro m ρ _
  rw [defs_eq]
  exact Cert.KernelOIdeal.Gen.frame (F := Bits) m ρ

theorem frame_ideal : Cert.quiescent_KernelOIdeal := fun m ρ _ => Cert.KernelOIdeal.Gen.frame m ρ

theorem frame_reference : Cert.quiescent_ReferenceOIdeal := fun m ρ _ =>
  (θ_run Cert.ReferenceOIdeal.defs _ _).mono (fun r h => ⟨fun c => (h c).2, sem_eq_zero_of_no_sems (by decide) r.2⟩)
    (Cert.ReferenceOIdeal.Value.run m ρ)

end Cert.Products.O
-- ==== Proof.ProductH.lean ====
/-
  The gradient of the normed input from the first group of the projection's columns: the kernel's tiles of the product against one product.
-/
module

public import proofs.«01_k».proof.Defs
public import proofs.«01_k».proof.Proof.ProductOps
public import proofs.«01_k».proof.Proof.Gen.KernelH
public import proofs.«01_k».proof.Proof.Gen.KernelHIdeal.Value
public import proofs.«01_k».proof.Proof.Gen.ReferenceHIdeal.Run
public import Idealize.ShloMosaic.Lib.Pipeline.ValueKit
public import Idealize.ShloMosaic.Adequacy
public import Idealize.ShloMosaic.Init

@[expose] public section

set_option maxRecDepth 16384

noncomputable section

open scoped BigOperators

namespace Cert.Products.H

open Idealize.ShloMosaic Idealize.ShloMosaic.TcCoe Idealize.ShloMosaic.ValueKit Idealize.SL.Sem

section Kernel

open Cert.KernelHIdeal Cert.KernelHIdeal.Gen

/-- One tile of the product, over one run of the summed index. -/
theorem tile (x : Vec Ideal S1024x1408 .bf16) (y : Vec Ideal S1408x1024 .bf16) (a : Fin 1024) (b : Fin 1024) :
    k0_pay1 x y (ix2 a b) = ∑ k : Fin 1408, (x (ix2 a k) * y (ix2 k b) : EReal) :=
  mm_nn (φ₁ := .bf16) (φ₂ := .bf16) _ x y a b

section Body

variable (c : Dev nD) (i : grid0.Coords) (p : Memref sig .tc .vmem S1024x1408 .bf16) (hp : p.IsWhole)
  (q : Memref sig .tc .vmem S1408x1024 .bf16) (hq : q.IsWhole) (r : Memref sig .tc .vmem S1024x1024 .f32) (hr : r.IsWhole)
  (s : Memref sig .tc .vmem S1024x1024 .f32) (hs : s.IsWhole)
  (x : Vec Ideal S1024x1408 .bf16) (y : Vec Ideal S1408x1024 .bf16) (z : Vec Ideal S1024x1024 .f32)

/-- The first run leaves its tile in the accumulator. -/
theorem first (h0 : cond0_0 i) (h1 : ¬cond0_1 i) (h2 : ¬cond0_2 i) : sout0_A_0 c i p hp q hq r hr s hs h0 h1 h2 x y = k0_pay1 x y := by
  unfold sout0_A_0
  rw [View.read_writes_eq_canon _ _ _ (scover0_A_0 c i p hp q hq r hr s hs h0 h1 h2 x y)]
  unfold kernelRun0_A
  dsimp only
  rw [View.canon_unit_zero (by funext a; fin_cases a <;> rfl), View.readAt_eq_ld, View.readAt_eq_ld, hp.read_unread, hq.read_unread,
    View.ld_unit_zero (by funext a; fin_cases a <;> rfl), View.ld_unit_zero (by funext a; fin_cases a <;> rfl)]
  exact shapeCast_self _ _

/-- A later run adds its tile. -/
theorem added (h0 : ¬cond0_0 i) (h1 : cond0_1 i) (h2 : ¬cond0_2 i) :
    sout0_B_0 c i p hp q hq r hr s hs h0 h1 h2 x y z = addf z (k0_pay1 x y) := by
  unfold sout0_B_0
  rw [View.read_writes_eq_canon _ _ _ (scover0_B_0 c i p hp q hq r hr s hs h0 h1 h2 x y z)]
  unfold kernelRun0_B
  dsimp only
  rw [View.canon_unit_zero (by funext a; fin_cases a <;> rfl), View.readAt_eq_ld, View.readAt_eq_ld, View.readAt_eq_ld, hp.read_unread,
    hq.read_unread, hs.read_unread, View.ld_unit_zero (by funext a; fin_cases a <;> rfl), View.ld_unit_zero (by funext a; fin_cases a <;> rfl),
    View.ld_unit_zero (by funext a; fin_cases a <;> rfl)]
  exact shapeCast_self _ _

/-- The last run adds its tile and hands the sum out. -/
theorem last (h0 : ¬cond0_0 i) (h1 : cond0_1 i) (h2 : cond0_2 i) :
    out0_C_2 c i p hp q hq r hr s hs h0 h1 h2 x y z = addf z (k0_pay1 x y) := by
  unfold out0_C_2
  rw [View.read_writes_eq_canon _ _ _ (cover0_C_2 c i p hp q hq r hr s hs h0 h1 h2 x y z)]
  unfold kernelRun0_C
  dsimp only
  rw [View.canon_unit_zero (by funext a; fin_cases a <;> rfl)]
  unfold kernelRun0_C.sl.v12
  rw [View.readCov_eq_canon']
  unfold kernelRun0_C.sl.HS0_1
  show View.ld (View.canon _) (Rect.unit (s := S1024x1024) ![0, 0] S1024x1024.size inb_S1024x1024_S1024x1024_0_0) = _
  rw [View.ld_unit_zero (by funext a; fin_cases a <;> rfl), View.canon_unit_zero (by funext a; fin_cases a <;> rfl), View.readAt_eq_ld, View.readAt_eq_ld, View.readAt_eq_ld, hp.read_unread,
    hq.read_unread, hs.read_unread, View.ld_unit_zero (by funext a; fin_cases a <;> rfl), View.ld_unit_zero (by funext a; fin_cases a <;> rfl),
    View.ld_unit_zero (by funext a; fin_cases a <;> rfl)]
  exact shapeCast_self _ _

end Body

variable (m : (ℓ : Loc nD τ sig) → Buf (Elt Ideal) ℓ) (c : Dev nD)

theorem index0 : ∀ t : Fin cfg0.N, win0_0.index t = ![t.val / 3, t.val % 3] := (by decide +kernel : ∀ t : Fin grid0.N, _)
theorem index1 : ∀ t : Fin cfg0.N, win0_1.index t = ![t.val % 3, 0] := (by decide +kernel : ∀ t : Fin grid0.N, _)
theorem index2 : ∀ t : Fin cfg0.N, win0_2.index t = ![t.val / 3, 0] := (by decide +kernel : ∀ t : Fin grid0.N, _)

/-- The product of the whole arrays; of the weights the first 4224 rows. -/
abbrev whole : S2048x1024.Idx → EReal :=
  nn (m := 2048) (k := 4224) (n := 1024) (m ((c : Thread nD τ).loc main_arg0)) (top (p := 4864) (by omega) (m ((c : Thread nD τ).loc main_arg1)))

/-- One term of the sum the whole product has at one place. -/
abbrev term (z : S2048x1024.Idx) (u : Fin 4224) : EReal :=
  times (m ((c : Thread nD τ).loc main_arg0) (ix2 (z 0) u)) (m ((c : Thread nD τ).loc main_arg1) (ix2 (u.castLE (by decide)) (z 1)))

theorem blk0 (t : Fin cfg0.N) (k : Fin 1408) (a : Fin 1024) (z : Fin 2048) (u : Fin 4224) (hz : z.val = t.val / 3 * 1024 + a.val)
    (hu : u.val = t.val % 3 * 1408 + k.val) :
    (iblk m c 0 t : Vec Ideal S1024x1408 .bf16) (ix2 a k) = m ((c : Thread nD τ).loc main_arg0) (ix2 z u) := by
  blk_ext! [iblk, V, index0 t]

theorem blk1 (t : Fin cfg0.N) (k : Fin 1408) (b : Fin 1024) (u : Fin 4864) (hu : u.val = t.val % 3 * 1408 + k.val) :
    (X0_1 m c t : Vec Ideal S1408x1024 .bf16) (ix2 k b) = m ((c : Thread nD τ).loc main_arg1) (ix2 u b) := by
  unfold X0_1 Pipeline.Window.fill
  rw [dif_pos (moved0_1 t _)]
  blk_ext! [iblk, V, index1 t]

/-- The tile at one point is that run of the whole sum. -/
theorem run_at (t : Fin cfg0.N) (z : S2048x1024.Idx) (a b : Fin 1024) (h0 : (z 0).val = t.val / 3 * 1024 + a.val) (h1 : (z 1).val = b.val)
    (e : Fin 1408 → Fin 4224) (he : ∀ k, (e k).val = t.val % 3 * 1408 + k.val) :
    k0_pay1 (iblk m c 0 t : Vec Ideal S1024x1408 .bf16) (X0_1 m c t) (ix2 a b) = ∑ k, term m c z (e k) := by
  refine (tile _ _ a b).trans (Finset.sum_congr rfl fun k _ => ?_)
  obtain rfl : b = z 1 := Fin.ext h1.symm
  exact congrArg₂ (· * ·) (blk0 m c t k a (z 0) (e k) h0 (he k)) (blk1 m c t k (z 1) ((e k).castLE (by decide)) (he k))

theorem at_ (t : Fin cfg0.N) (ht : t.val % 3 = 2) (y : S1024x1024.Idx) (z : S2048x1024.Idx) (h0 : (z 0).val = t.val / 3 * 1024 + (y 0).val)
    (h1 : (z 1).val = (y 1).val) : (outsAt0 m c t.val t.isLt).1 y = whole m c z := by
  have l1 : t.val - 1 < cfg0.N := by omega
  have l2 : t.val - 1 - 1 < cfg0.N := by omega
  have ec := congrArg Prod.fst (outsAt0_C m c t (by omega) (by omega) ht)
  have eb := congrArg Prod.snd (outsAt0_B m c ⟨t.val - 1, l1⟩ (by dsimp only; omega) (by dsimp only; omega) (by dsimp only; omega))
  have ea := congrArg Prod.snd (outsAt0_A m c ⟨t.val - 1 - 1, l2⟩ (by dsimp only; omega) (by dsimp only; omega) (by dsimp only; omega))
  dsimp only at ec eb ea
  rw [last] at ec
  rw [added] at eb
  rw [first] at ea
  rw [ec, eb, ea, eq_ix2 y]
  refine Eq.trans ?_ (split3 (n := 1408) (term m c z)).symm
  refine congrArg₂ (· + ·) (congrArg₂ (· + ·) ?_ ?_) ?_
  · exact run_at m c ⟨t.val - 1 - 1, l2⟩ z (y 0) (y 1) (by dsimp only; omega) h1 _ fun k => by dsimp only; simp; omega
  · exact run_at m c ⟨t.val - 1, l1⟩ z (y 0) (y 1) (by dsimp only; omega) h1 _ fun k => by dsimp only; simp; omega
  · exact run_at m c t z (y 0) (y 1) h0 h1 _ fun k => by simp; omega

theorem final : (dats m 0 c).arrAt 2 cfg0.N = whole m c := by
  refine (dats m 0 c).arrAt_eq_of_covers 2 _ (by decide +kernel) fun t hf y => ?_
  blk_simp
  rw [after0_2]
  refine at_ m c t ((flush0_2 t).mp hf) _ _ ?_ ?_ <;> blk_simp [index2 t]

end Kernel

theorem values : Cert.algebraic_KernelHIdeal_ReferenceHIdeal := by
  intro m g m' g' _ hargs
  refine ⟨fun c => whole m c, ?_, ?_⟩
  · refine (θ_run Cert.KernelHIdeal.defs _ _).mono (fun r h c => ?_) (Cert.KernelHIdeal.Value.run_blocks m g)
    exact ⟨(h c).1.trans (final m c), (h c).2⟩
  · refine (θ_run Cert.ReferenceHIdeal.defs _ _).mono (fun r h c => ?_) (Cert.ReferenceHIdeal.Value.run m' g')
    refine ⟨(h c).1.trans ?_, (h c).2⟩
    obtain ⟨h0, h1⟩ := hargs c
    rw [h0, h1]
    refine ext_ix2 _ _ fun a b => ?_
    refine (host_nt (φ₁ := .f32) (φ₂ := .f32) _ _ _ a b).trans (Finset.sum_congr rfl fun k _ => ?_)
    exact congrArg₂ (· * ·) rfl ((turned _ _ b k).trans (sliced (by omega) _ (Cert.ReferenceHIdeal.Gen.slices_S4864x1024_S4224x1024_0_0) k b))

section Frame

variable {F : FTy → Type} [FloatOps F]

/-- The kernel and its idealization have the same text. -/
theorem body_eq : (Cert.KernelH.cc0_mm_dh_g (F := F)) = (Cert.KernelHIdeal.cc0_mm_dh_g (F := F)) := rfl

theorem bodies_eq : (Cert.KernelH.defs₀ (F := F)) = (Cert.KernelHIdeal.defs₀ (F := F)) := by
  unfold Cert.KernelH.defs₀ Cert.KernelHIdeal.defs₀
  refine congrArg Defs.onTc (funext fun l => funext fun a => ?_)
  match l, a with
  | 0, (t, s) =>
    dsimp only
    rw [body_eq]
    rfl
  | ⟨_ + 1, h⟩, _ => exact absurd h (Nat.not_lt.2 (Nat.le_add_left _ _))

theorem defs_eq : (Cert.KernelH.defs (F := F)) = (Cert.KernelHIdeal.defs (F := F)) :=
  congrArg (Pipeline.defs Cert.KernelHIdeal.pcfgs) bodies_eq

end Frame

/-- The kernel's frame: the run stated over any floats, read at bit patterns. -/
theorem frame_kernel : Cert.quiescent_KernelH := by
  intro m ρ _
  rw [defs_eq]
  exact Cert.KernelHIdeal.Gen.frame (F := Bits) m ρ

theorem frame_ideal : Cert.quiescent_KernelHIdeal := fun m ρ _ => Cert.KernelHIdeal.Gen.frame m ρ

theorem frame_reference : Cert.quiescent_ReferenceHIdeal := fun m ρ _ =>
  (θ_run Cert.ReferenceHIdeal.defs _ _).mono (fun r h => ⟨fun c => (h c).2, sem_eq_zero_of_no_sems (by decide) r.2⟩)
    (Cert.ReferenceHIdeal.Value.run m ρ)

end Cert.Products.H
-- ==== Proof.ProductPG.lean ====
/-
  The first group of the projection's columns: the kernel's tiles of the product against one product.
-/
module

public import proofs.«01_k».proof.Defs
public import proofs.«01_k».proof.Proof.ProductOps
public import proofs.«01_k».proof.Proof.Gen.KernelPG
public import proofs.«01_k».proof.Proof.Gen.KernelPGIdeal.Value
public import proofs.«01_k».proof.Proof.Gen.ReferencePGIdeal.Run
public import Idealize.ShloMosaic.Lib.Pipeline.ValueKit
public import Idealize.ShloMosaic.Adequacy
public import Idealize.ShloMosaic.Init

@[expose] public section

set_option maxRecDepth 16384

noncomputable section

open scoped BigOperators

namespace Cert.Products.PG

open Idealize.ShloMosaic Idealize.ShloMosaic.TcCoe Idealize.ShloMosaic.ValueKit Idealize.SL.Sem

section Kernel

open Cert.KernelPGIdeal Cert.KernelPGIdeal.Gen

/-- One tile of the product. -/
theorem tile (c : Dev nD) (i : grid0.Coords) (p : Memref sig .tc .vmem S512x1024 .bf16) (hp : p.IsWhole)
    (q : Memref sig .tc .vmem S1408x1024 .bf16) (hq : q.IsWhole) (r : Memref sig .tc .vmem S512x1408 .f32) (hr : r.IsWhole)
    (x : Vec Ideal S512x1024 .bf16) (y : Vec Ideal S1408x1024 .bf16) (a : Fin 512) (b : Fin 1408) :
    out0_A_2 c i p hp q hq r hr x y (ix2 a b) = ∑ k : Fin 1024, (x (ix2 a k) * y (ix2 b k) : EReal) := by
  unfold out0_A_2
  rw [View.read_writes_eq_canon _ _ _ (cover0_A_2 c i p hp q hq r hr x y)]
  unfold kernelRun0_A
  dsimp only
  rw [View.canon_unit_zero (by funext a; fin_cases a <;> rfl)]
  rw [View.readAt_eq_ld, View.readAt_eq_ld, hp.read_unread, hq.read_unread, View.ld_unit_zero (by funext a; fin_cases a <;> rfl),
    View.ld_unit_zero (by funext a; fin_cases a <;> rfl)]
  exact mm_nt (φ₁ := .bf16) (φ₂ := .bf16) _ x y a b

variable (m : (ℓ : Loc nD τ sig) → Buf (Elt Ideal) ℓ) (c : Dev nD)

theorem index0 : ∀ t : Fin cfg0.N, win0_0.index t = ![t.val % 4, 0] := (by decide +kernel : ∀ t : Fin grid0.N, _)
theorem index1 : ∀ t : Fin cfg0.N, win0_1.index t = ![t.val / 4, 0] := (by decide +kernel : ∀ t : Fin grid0.N, _)
theorem index2 : ∀ t : Fin cfg0.N, win0_2.index t = ![t.val % 4, t.val / 4] := (by decide +kernel : ∀ t : Fin grid0.N, _)

/-- The product of the whole arrays; of the weights the first 4224 rows. -/
abbrev whole : S2048x4224.Idx → EReal :=
  nt (m := 2048) (k := 1024) (n := 4224) (m ((c : Thread nD τ).loc main_arg0)) (top (p := 4864) (by omega) (m ((c : Thread nD τ).loc main_arg1)))

theorem blk0 (t : Fin cfg0.N) (k : Fin 1024) (a : Fin 512) (z : Fin 2048) (hz : z.val = t.val % 4 * 512 + a.val) :
    (iblk m c 0 t : Vec Ideal S512x1024 .bf16) (ix2 a k) = m ((c : Thread nD τ).loc main_arg0) (ix2 z k) := by
  blk_ext! [iblk, V, index0 t]

theorem blk1 (t : Fin cfg0.N) (k : Fin 1024) (b : Fin 1408) (z : Fin 4864) (hz : z.val = t.val / 4 * 1408 + b.val) :
    (X0_1 m c t : Vec Ideal S1408x1024 .bf16) (ix2 b k) = m ((c : Thread nD τ).loc main_arg1) (ix2 z k) := by
  unfold X0_1 Pipeline.Window.fill
  rw [dif_pos (moved0_1 t _)]
  blk_ext! [iblk, V, index1 t]

theorem at_ (t : Fin cfg0.N) (y : S512x1408.Idx) (z : S2048x4224.Idx) (h0 : (z 0).val = t.val % 4 * 512 + (y 0).val)
    (h1 : (z 1).val = t.val / 4 * 1408 + (y 1).val) : outsAt0 m c t y = whole m c z := by
  refine (congrArg _ (eq_ix2 y)).trans ((tile _ _ _ _ _ _ _ _ _ _ (y 0) (y 1)).trans (Finset.sum_congr rfl fun k _ => ?_))
  exact congrArg₂ (· * ·) (blk0 m c t k (y 0) (z 0) h0) (blk1 m c t k (y 1) ((z 1).castLE (by decide)) h1)

theorem final : (dats m 0 c).arrAt 2 cfg0.N = whole m c := by
  refine (dats m 0 c).arrAt_eq_of_covers 2 _ (by decide +kernel) fun t hf y => ?_
  blk_simp
  rw [after0_2]
  refine at_ m c t _ _ ?_ ?_ <;> blk_simp [index2 t]

end Kernel

theorem values : Cert.algebraic_KernelPGIdeal_ReferencePGIdeal := by
  intro m g m' g' _ hargs
  refine ⟨fun c => whole m c, ?_, ?_⟩
  · refine (θ_run Cert.KernelPGIdeal.defs _ _).mono (fun r h c => ?_) (Cert.KernelPGIdeal.Value.run_blocks m g)
    exact ⟨(h c).1.trans (final m c), (h c).2⟩
  · refine (θ_run Cert.ReferencePGIdeal.defs _ _).mono (fun r h c => ?_) (Cert.ReferencePGIdeal.Value.run m' g')
    refine ⟨(h c).1.trans ?_, (h c).2⟩
    obtain ⟨h0, h1⟩ := hargs c
    rw [h0, h1]
    refine ext_ix2 _ _ fun a b => ?_
    refine (host_nn (φ₁ := .f32) (φ₂ := .f32) _ _ _ a b).trans (Finset.sum_congr rfl fun k _ => ?_)
    exact congrArg₂ (· * ·) rfl ((turned _ _ k b).trans (sliced (by omega) _ (Cert.ReferencePGIdeal.Gen.slices_S4864x1024_S4224x1024_0_0) b k))

section Frame

variable {F : FTy → Type} [FloatOps F]

/-- The kernel and its idealization have the same text. -/
theorem body_eq : (Cert.KernelPG.cc0_mm_proj_g (F := F)) = (Cert.KernelPGIdeal.cc0_mm_proj_g (F := F)) := rfl

theorem bodies_eq : (Cert.KernelPG.defs₀ (F := F)) = (Cert.KernelPGIdeal.defs₀ (F := F)) := by
  unfold Cert.KernelPG.defs₀ Cert.KernelPGIdeal.defs₀
  refine congrArg Defs.onTc (funext fun l => funext fun a => ?_)
  match l, a with
  | 0, (t, s) =>
    dsimp only
    rw [body_eq]
    rfl
  | ⟨_ + 1, h⟩, _ => exact absurd h (Nat.not_lt.2 (Nat.le_add_left _ _))

theorem defs_eq : (Cert.KernelPG.defs (F := F)) = (Cert.KernelPGIdeal.defs (F := F)) :=
  congrArg (Pipeline.defs Cert.KernelPGIdeal.pcfgs) bodies_eq

end Frame

/-- The kernel's frame: the run stated over any floats, read at bit patterns. -/
theorem frame_kernel : Cert.quiescent_KernelPG := by
  intro m ρ _
  rw [defs_eq]
  exact Cert.KernelPGIdeal.Gen.frame (F := Bits) m ρ

theorem frame_ideal : Cert.quiescent_KernelPGIdeal := fun m ρ _ => Cert.KernelPGIdeal.Gen.frame m ρ

theorem frame_reference : Cert.quiescent_ReferencePGIdeal := fun m ρ _ =>
  (θ_run Cert.ReferencePGIdeal.defs _ _).mono (fun r h => ⟨fun c => (h c).2, sem_eq_zero_of_no_sems (by decide) r.2⟩)
    (Cert.ReferencePGIdeal.Value.run m ρ)

end Cert.Products.PG
-- ==== Proof.ProductPC.lean ====
/-
  The second group of the projection's columns: the kernel's tiles of the product against one product.
-/
module

public import proofs.«01_k».proof.Defs
public import proofs.«01_k».proof.Proof.ProductOps
public import proofs.«01_k».proof.Proof.Gen.KernelPC
public import proofs.«01_k».proof.Proof.Gen.KernelPCIdeal.Value
public import proofs.«01_k».proof.Proof.Gen.ReferencePCIdeal.Run
public import Idealize.ShloMosaic.Lib.Pipeline.ValueKit
public import Idealize.ShloMosaic.Adequacy
public import Idealize.ShloMosaic.Init

@[expose] public section

set_option maxRecDepth 16384

noncomputable section

open scoped BigOperators

namespace Cert.Products.PC

open Idealize.ShloMosaic Idealize.ShloMosaic.TcCoe Idealize.ShloMosaic.ValueKit Idealize.SL.Sem

section Kernel

open Cert.KernelPCIdeal Cert.KernelPCIdeal.Gen

/-- One tile of the product. -/
theorem tile (c : Dev nD) (i : grid0.Coords) (p : Memref sig .tc .vmem S512x1024 .bf16) (hp : p.IsWhole)
    (q : Memref sig .tc .vmem S1024x1024 .bf16) (hq : q.IsWhole) (r : Memref sig .tc .vmem S512x1024 .f32) (hr : r.IsWhole)
    (x : Vec Ideal S512x1024 .bf16) (y : Vec Ideal S1024x1024 .bf16) (a : Fin 512) (b : Fin 1024) :
    out0_A_2 c i p hp q hq r hr x y (ix2 a b) = ∑ k : Fin 1024, (x (ix2 a k) * y (ix2 b k) : EReal) := by
  unfold out0_A_2
  rw [View.read_writes_eq_canon _ _ _ (cover0_A_2 c i p hp q hq r hr x y)]
  unfold kernelRun0_A
  dsimp only
  rw [View.canon_unit_zero (by funext a; fin_cases a <;> rfl)]
  rw [View.readAt_eq_ld, View.readAt_eq_ld, hp.read_unread, hq.read_unread, View.ld_unit_zero (by funext a; fin_cases a <;> rfl),
    View.ld_unit_zero (by funext a; fin_cases a <;> rfl)]
  exact mm_nt (φ₁ := .bf16) (φ₂ := .bf16) _ x y a b

variable (m : (ℓ : Loc nD τ sig) → Buf (Elt Ideal) ℓ) (c : Dev nD)

theorem index0 : ∀ t : Fin cfg0.N, win0_0.index t = ![t.val % 4, 0] := (by decide +kernel : ∀ t : Fin grid0.N, _)
theorem index1 : ∀ t : Fin cfg0.N, win0_1.index t = ![t.val / 4, 0] := (by decide +kernel : ∀ t : Fin grid0.N, _)
theorem index2 : ∀ t : Fin cfg0.N, win0_2.index t = ![t.val % 4, t.val / 4] := (by decide +kernel : ∀ t : Fin grid0.N, _)

/-- The product of the whole arrays; of the weights the first 4096 rows. -/
abbrev whole : S2048x4096.Idx → EReal :=
  nt (m := 2048) (k := 1024) (n := 4096) (m ((c : Thread nD τ).loc main_arg0)) (top (p := 4608) (by omega) (m ((c : Thread nD τ).loc main_arg1)))

theorem blk0 (t : Fin cfg0.N) (k : Fin 1024) (a : Fin 512) (z : Fin 2048) (hz : z.val = t.val % 4 * 512 + a.val) :
    (iblk m c 0 t : Vec Ideal S512x1024 .bf16) (ix2 a k) = m ((c : Thread nD τ).loc main_arg0) (ix2 z k) := by
  blk_ext! [iblk, V, index0 t]

theorem blk1 (t : Fin cfg0.N) (k : Fin 1024) (b : Fin 1024) (z : Fin 4608) (hz : z.val = t.val / 4 * 1024 + b.val) :
    (X0_1 m c t : Vec Ideal S1024x1024 .bf16) (ix2 b k) = m ((c : Thread nD τ).loc main_arg1) (ix2 z k) := by
  unfold X0_1 Pipeline.Window.fill
  rw [dif_pos (moved0_1 t _)]
  blk_ext! [iblk, V, index1 t]

theorem at_ (t : Fin cfg0.N) (y : S512x1024.Idx) (z : S2048x4096.Idx) (h0 : (z 0).val = t.val % 4 * 512 + (y 0).val)
    (h1 : (z 1).val = t.val / 4 * 1024 + (y 1).val) : outsAt0 m c t y = whole m c z := by
  refine (congrArg _ (eq_ix2 y)).trans ((tile _ _ _ _ _ _ _ _ _ _ (y 0) (y 1)).trans (Finset.sum_congr rfl fun k _ => ?_))
  exact congrArg₂ (· * ·) (blk0 m c t k (y 0) (z 0) h0) (blk1 m c t k (y 1) ((z 1).castLE (by decide)) h1)

theorem final : (dats m 0 c).arrAt 2 cfg0.N = whole m c := by
  refine (dats m 0 c).arrAt_eq_of_covers 2 _ (by decide +kernel) fun t hf y => ?_
  blk_simp
  rw [after0_2]
  refine at_ m c t _ _ ?_ ?_ <;> blk_simp [index2 t]

end Kernel

theorem values : Cert.algebraic_KernelPCIdeal_ReferencePCIdeal := by
  intro m g m' g' _ hargs
  refine ⟨fun c => whole m c, ?_, ?_⟩
  · refine (θ_run Cert.KernelPCIdeal.defs _ _).mono (fun r h c => ?_) (Cert.KernelPCIdeal.Value.run_blocks m g)
    exact ⟨(h c).1.trans (final m c), (h c).2⟩
  · refine (θ_run Cert.ReferencePCIdeal.defs _ _).mono (fun r h c => ?_) (Cert.ReferencePCIdeal.Value.run m' g')
    refine ⟨(h c).1.trans ?_, (h c).2⟩
    obtain ⟨h0, h1⟩ := hargs c
    rw [h0, h1]
    refine ext_ix2 _ _ fun a b => ?_
    refine (host_nn (φ₁ := .f32) (φ₂ := .f32) _ _ _ a b).trans (Finset.sum_congr rfl fun k _ => ?_)
    exact congrArg₂ (· * ·) rfl ((turned _ _ k b).trans (sliced (by omega) _ (Cert.ReferencePCIdeal.Gen.slices_S4608x1024_S4096x1024_0_0) b k))

section Frame

variable {F : FTy → Type} [FloatOps F]

/-- The kernel and its idealization have the same text. -/
theorem body_eq : (Cert.KernelPC.cc0_mm_proj_c (F := F)) = (Cert.KernelPCIdeal.cc0_mm_proj_c (F := F)) := rfl

theorem bodies_eq : (Cert.KernelPC.defs₀ (F := F)) = (Cert.KernelPCIdeal.defs₀ (F := F)) := by
  unfold Cert.KernelPC.defs₀ Cert.KernelPCIdeal.defs₀
  refine congrArg Defs.onTc (funext fun l => funext fun a => ?_)
  match l, a with
  | 0, (t, s) =>
    dsimp only
    rw [body_eq]
    rfl
  | ⟨_ + 1, h⟩, _ => exact absurd h (Nat.not_lt.2 (Nat.le_add_left _ _))

theorem defs_eq : (Cert.KernelPC.defs (F := F)) = (Cert.KernelPCIdeal.defs (F := F)) :=
  congrArg (Pipeline.defs Cert.KernelPCIdeal.pcfgs) bodies_eq

end Frame

/-- The kernel's frame: the run stated over any floats, read at bit patterns. -/
theorem frame_kernel : Cert.quiescent_KernelPC := by
  intro m ρ _
  rw [defs_eq]
  exact Cert.KernelPCIdeal.Gen.frame (F := Bits) m ρ

theorem frame_ideal : Cert.quiescent_KernelPCIdeal := fun m ρ _ => Cert.KernelPCIdeal.Gen.frame m ρ

theorem frame_reference : Cert.quiescent_ReferencePCIdeal := fun m ρ _ =>
  (θ_run Cert.ReferencePCIdeal.defs _ _).mono (fun r h => ⟨fun c => (h c).2, sem_eq_zero_of_no_sems (by decide) r.2⟩)
    (Cert.ReferencePCIdeal.Value.run m ρ)

end Cert.Products.PC
-- ==== Proof.Rms.lean ====
/-
  The backward pass of the root-mean-square normalisation on one row of extended reals: the kernel's form and the
  chain rule's. A row whose mean square is infinite has scale zero; otherwise the scale is a positive real, and a
  positive real factor distributes over any sum.
-/
module

public import Idealize.ShloMosaic.PureOps.Ideal
public import Idealize.ShloMosaic.Lib.IdealHost

@[expose] public section

noncomputable section

open scoped BigOperators

namespace Cert.Norm

open Idealize.ShloMosaic

/-- The mean's divisor, the regulariser and the exponent's factor, as the programs write them. -/
abbrev width : EReal := Ideal.ofBits .f32 0x44800000#32
abbrev eps : EReal := Ideal.ofBits .f32 0x358637BD#32
abbrev half : EReal := Ideal.ofBits .f32 0xBF000000#32

theorem width_eq : width = ((1024 : ℝ) : EReal) := by
  simp [width, Ideal.ofBits, Ideal.ieee]
  rw [← EReal.coe_mul]
  norm_num

theorem half_eq : half = ((-(1 / 2) : ℝ) : EReal) := by
  simp [half, Ideal.ofBits, Ideal.ieee]
  rw [← EReal.coe_mul]
  norm_num

theorem eps_eq : ∃ e : ℝ, 0 < e ∧ eps = (e : EReal) := by
  refine ⟨_, ?_, by simp only [eps, Ideal.ofBits, Ideal.ieee]; simp; rfl⟩
  positivity

variable (x d w o : Fin 1024 → EReal)

/-- The mean square of a row, with the regulariser. -/
def msq : EReal := Ideal.div (∑ k, x k * x k) width + eps

/-- The row's scale. -/
def scale : EReal := Ideal.rsqrt (msq x)

/-- The kernel's entry of the row's gradient. -/
def dxK (b : Fin 1024) : EReal :=
  scale x * (d b * w b - x b * scale x * Ideal.div (∑ k, d k * w k * (x k * scale x)) width) + o b

/-- What the chain rule puts on the row's mean square. -/
def dmean : EReal := Ideal.div ((∑ k, x k * (d k * w k)) * (half * Ideal.div (scale x) (msq x))) width

/-- The chain rule's entry of the row's gradient. -/
def dxR (b : Fin 1024) : EReal := o b + d b * w b * scale x + x b * dmean x d w + dmean x d w * x b

/-- A square is not negative. -/
theorem sq_nonneg' (a : EReal) : 0 ≤ a * a := by
  induction a using EReal.rec with
  | bot => simp
  | coe r => rw [← EReal.coe_mul]; exact EReal.coe_nonneg.2 (mul_self_nonneg r)
  | top => simp

/-- The mean square is infinite or a positive real. -/
theorem msq_cases : msq x = ⊤ ∨ ∃ v : ℝ, 0 < v ∧ msq x = (v : EReal) := by
  obtain ⟨e, he, hE⟩ := eps_eq
  have hs : 0 ≤ ∑ k, x k * x k := Finset.sum_nonneg fun k _ => sq_nonneg' (x k)
  unfold msq
  rw [width_eq, Ideal.div_coe (by norm_num), hE]
  generalize (∑ k, x k * x k) = s at hs
  induction s using EReal.rec with
  | bot => exact absurd hs (by simp)
  | coe r =>
    have hr : 0 ≤ r := EReal.coe_nonneg.1 hs
    exact .inr ⟨r * (1 / 1024) + e, by positivity, by rw [EReal.coe_add, EReal.coe_mul]⟩
  | top =>
    refine .inl ?_
    rw [EReal.top_mul_coe_of_pos (by norm_num)]
    exact EReal.top_add_coe e

/-- A positive real factor comes out of a sum. -/
theorem sum_mul_pos {n : ℕ} {r : ℝ} (hr : 0 < r) (f : Fin n → EReal) : ∑ k, f k * (r : EReal) = (∑ k, f k) * r := by
  induction (Finset.univ : Finset (Fin n)) using Finset.induction with
  | empty => simp
  | insert a t ha ih =>
    rw [Finset.sum_insert ha, Finset.sum_insert ha, ih, mul_comm _ (r : EReal), mul_comm _ (r : EReal), mul_comm _ (r : EReal),
      EReal.left_distrib_of_nonneg_of_ne_top (EReal.coe_nonneg.2 hr.le) (EReal.coe_ne_top r)]

/-- Twice a negative multiple. -/
theorem twice (P : EReal) {c : ℝ} (hc : c < 0) : P * (c : EReal) + P * (c : EReal) = P * ((2 * c : ℝ) : EReal) := by
  have h2 : 2 * c < 0 := by linarith
  induction P using EReal.rec with
  | bot => rw [EReal.bot_mul_coe_of_neg hc, EReal.bot_mul_coe_of_neg h2]; rfl
  | coe r => rw [← EReal.coe_mul, ← EReal.coe_mul, ← EReal.coe_add]; congr 1; ring
  | top => rw [EReal.top_mul_coe_of_neg hc, EReal.top_mul_coe_of_neg h2]; rfl

theorem dx_eq (b : Fin 1024) : dxK x d w o b = dxR x d w o b := by
  unfold dxK dxR dmean
  rcases msq_cases x with hv | ⟨v, pos, hv⟩
  · have hr : scale x = 0 := by unfold scale; rw [hv]; rfl
    have hz : Ideal.div 0 (⊤ : EReal) = 0 := by simp [Ideal.div]
    have hw : Ideal.div 0 width = 0 := by rw [width_eq, Ideal.div_coe (by norm_num), zero_mul]
    simp only [hr, hv, hz, hw, mul_zero, zero_mul, zero_add, add_zero]
  · have hr : scale x = (((Real.sqrt v)⁻¹ : ℝ) : EReal) := by
      unfold scale
      rw [hv, Ideal.rsqrt_coe, if_neg (not_lt.2 pos.le), if_neg pos.ne']
    have hq : (Real.sqrt v)⁻¹ * (Real.sqrt v)⁻¹ = 1 / v := by
      rw [← mul_inv, Real.mul_self_sqrt pos.le, one_div]
    have hr0 : 0 < (Real.sqrt v)⁻¹ := inv_pos.2 (Real.sqrt_pos.2 pos)
    rw [hr, hv, width_eq, half_eq]
    generalize (Real.sqrt v)⁻¹ = r at hq hr0
    have hsum : ∑ k, d k * w k * (x k * (r : EReal)) = (∑ k, x k * (d k * w k)) * r := by
      rw [← sum_mul_pos hr0]
      exact Finset.sum_congr rfl fun k _ => by ac_rfl
    rw [hsum]
    generalize (∑ k, x k * (d k * w k)) = S
    generalize d b * w b = A
    rw [Ideal.div_coe (by norm_num), Ideal.div_coe (by norm_num), Ideal.div_coe pos.ne']
    have eK : x b * (r : EReal) * (S * r * ((1 / 1024 : ℝ) : EReal)) = x b * S * ((r * r * (1 / 1024) : ℝ) : EReal) := by
      simp only [EReal.coe_mul]; ac_rfl
    have eR : x b * (S * (((-(1 / 2) : ℝ) : EReal) * ((r : EReal) * ((1 / v : ℝ) : EReal))) * ((1 / 1024 : ℝ) : EReal))
        = x b * S * ((-(1 / 2) * (r * (1 / v)) * (1 / 1024) : ℝ) : EReal) := by
      simp only [EReal.coe_mul]; ac_rfl
    rw [mul_comm _ (x b), add_assoc _ (x b * _) (x b * _), eR, eK,
      twice _ (by have := one_div_pos.2 pos; have := mul_pos hr0 this; linarith), sub_eq_add_neg, ← mul_neg, ← EReal.coe_neg,
      EReal.left_distrib_of_nonneg_of_ne_top (EReal.coe_nonneg.2 hr0.le) (EReal.coe_ne_top r), ← hq]
    have e2 : (r : EReal) * (x b * S * ((-(r * r * (1 / 1024)) : ℝ) : EReal))
        = x b * S * ((2 * (-(1 / 2) * (r * (r * r)) * (1 / 1024)) : ℝ) : EReal) := by
      rw [mul_left_comm, ← EReal.coe_mul]
      congr 2
      ring
    rw [e2, mul_comm A, add_comm (o b), add_assoc, add_assoc, add_comm (o b)]

end Cert.Norm
-- ==== Proof.NormKernel.lean ====
/-
  The kernel of the normalisation's backward pass: what one grid point computes.
-/
module

public import proofs.«01_k».proof.Proof.Rms
public import proofs.«01_k».proof.Proof.ProductOps
public import proofs.«01_k».proof.Proof.Gen.KernelXIdeal.Value
public import Idealize.ShloMosaic.Lib.Pipeline.ValueKit
public import Idealize.ShloMosaic.Lib.Pointwise

@[expose] public section

set_option maxRecDepth 16384

noncomputable section

open scoped BigOperators

namespace Cert.Norm

open Idealize.ShloMosaic Idealize.ShloMosaic.TcCoe Idealize.ShloMosaic.ValueKit Idealize.SL.Sem Cert.Products
open Cert.KernelXIdeal Cert.KernelXIdeal.Gen

/-- A row of a block. -/
abbrev row {n : ℕ} (x : (⟨2, ![n, 1024]⟩ : Shape).Idx → EReal) (a : Fin n) : Fin 1024 → EReal := fun k => x (ix2 a k)

theorem pay6 (x : Vec Ideal S1024x1024 .f32) (a b : Fin 1024) : k0_pay6 x (ix2 a b) = x (ix2 a b) * scale (row x a) := by
  unfold k0_pay6 k0_pay5 scale msq
  pointwise

theorem pay7 (x d : Vec Ideal S1024x1024 .f32) (w : Vec Ideal S1x1024 .f32) (o : Vec Ideal S1024x1024 .f32) (a b : Fin 1024) :
    k0_pay7 x d w o (ix2 a b) = dxK (row x a) (row d a) (row w 0) (row o a) b := by
  unfold k0_pay7 k0_pay6 k0_pay5 dxK scale msq
  pointwise

theorem pay8 (x d : Vec Ideal S1024x1024 .f32) (g : Vec Ideal S1x1024 .f32) (a : Fin 1) (b : Fin 1024) :
    k0_pay8 x d g (ix2 a b) = g (ix2 a b) + ∑ k : Fin 1024, d (ix2 k b) * (x (ix2 k b) * scale (row x k)) := by
  unfold k0_pay8 k0_pay6 k0_pay5 scale msq
  pointwise

section Body

variable (c : Dev nD) (i : grid0.Coords) (r0 : Memref sig .tc .vmem S1024x1024 .bf16) (h0 : r0.IsWhole)
  (r1 : Memref sig .tc .vmem S1024x1024 .bf16) (h1 : r1.IsWhole) (r2 : Memref sig .tc .vmem S1024x1024 .f32) (h2 : r2.IsWhole)
  (r3 : Memref sig .tc .vmem S1024x1024 .f32) (h3 : r3.IsWhole) (r4 : Memref sig .tc .vmem S1x1024 .f32) (h4 : r4.IsWhole)
  (r5 : Memref sig .tc .vmem S1024x1024 .f32) (h5 : r5.IsWhole) (r6 : Memref sig .tc .vmem S1024x1024 .f32) (h6 : r6.IsWhole)
  (r7 : Memref sig .tc .vmem S1x1024 .f32) (h7 : r7.IsWhole) (r8 : Memref sig .tc .vmem S1024x1024 .f32) (h8 : r8.IsWhole)
  (p q : Vec Ideal S1024x1024 .bf16) (e x : Vec Ideal S1024x1024 .f32) (w : Vec Ideal S1x1024 .f32) (o : Vec Ideal S1024x1024 .f32)
  (g : Vec Ideal S1x1024 .f32) (z : Vec Ideal S1024x1024 .f32)

/-- The first run of a block of rows leaves its tile and the gradient already there in the accumulator. -/
theorem firstA (k0 : cond0_0 i) (k1 : ¬cond0_1 i) (k2 : cond0_2 i) (k3 : ¬cond0_3 i) :
    sout0_A_0 c i r0 h0 r1 h1 r2 h2 r3 h3 r4 h4 r5 h5 r6 h6 r7 h7 r8 h8 k0 k1 k2 k3 p q e x w o = k0_pay2 p q e := by
  unfold sout0_A_0
  rw [View.read_writes_eq_canon _ _ _ (scover0_A_0 c i r0 h0 r1 h1 r2 h2 r3 h3 r4 h4 r5 h5 r6 h6 r7 h7 r8 h8 k0 k1 k2 k3 p q e x w o)]
  unfold kernelRun0_A
  dsimp only
  rw [View.canon_unit_zero (by funext a; fin_cases a <;> rfl)]
  simp only [View.readAt_eq_ld, h0.read_unread, h1.read_unread, h2.read_unread]
  repeat rw [View.ld_unit_zero (by funext a; fin_cases a <;> rfl)]

theorem firstD (k0 : cond0_0 i) (k1 : ¬cond0_1 i) (k2 : ¬cond0_2 i) (k3 : ¬cond0_3 i) :
    sout0_D_0 c i r0 h0 r1 h1 r2 h2 r3 h3 r4 h4 r5 h5 r6 h6 r7 h7 r8 h8 k0 k1 k2 k3 p q e x w o = k0_pay2 p q e := by
  unfold sout0_D_0
  rw [View.read_writes_eq_canon _ _ _ (scover0_D_0 c i r0 h0 r1 h1 r2 h2 r3 h3 r4 h4 r5 h5 r6 h6 r7 h7 r8 h8 k0 k1 k2 k3 p q e x w o)]
  unfold kernelRun0_D
  dsimp only
  rw [View.canon_unit_zero (by funext a; fin_cases a <;> rfl)]
  simp only [View.readAt_eq_ld, h0.read_unread, h1.read_unread, h2.read_unread]
  repeat rw [View.ld_unit_zero (by funext a; fin_cases a <;> rfl)]

/-- The very first point also clears the weight's gradient. -/
theorem cleared (k0 : cond0_0 i) (k1 : ¬cond0_1 i) (k2 : cond0_2 i) (k3 : ¬cond0_3 i) :
    out0_A_7 c i r0 h0 r1 h1 r2 h2 r3 h3 r4 h4 r5 h5 r6 h6 r7 h7 r8 h8 k0 k1 k2 k3 p q e x w o = k0_pay4 (F := Ideal) := by
  unfold out0_A_7
  rw [View.read_writes_eq_canon _ _ _ (cover0_A_7 c i r0 h0 r1 h1 r2 h2 r3 h3 r4 h4 r5 h5 r6 h6 r7 h7 r8 h8 k0 k1 k2 k3 p q e x w o)]
  unfold kernelRun0_A
  dsimp only
  rw [View.canon_unit_zero (by funext a; fin_cases a <;> rfl)]

/-- A later run adds its tile. -/
theorem addedB (k0 : ¬cond0_0 i) (k1 : cond0_1 i) (k2 : ¬cond0_2 i) (k3 : ¬cond0_3 i) :
    sout0_B_0 c i r0 h0 r1 h1 r2 h2 r3 h3 r4 h4 r5 h5 r6 h6 r7 h7 r8 h8 k0 k1 k2 k3 p q e x w o z = k0_pay3 p q z := by
  unfold sout0_B_0
  rw [View.read_writes_eq_canon _ _ _ (scover0_B_0 c i r0 h0 r1 h1 r2 h2 r3 h3 r4 h4 r5 h5 r6 h6 r7 h7 r8 h8 k0 k1 k2 k3 p q e x w o z)]
  unfold kernelRun0_B
  dsimp only
  rw [View.canon_unit_zero (by funext a; fin_cases a <;> rfl)]
  simp only [View.readAt_eq_ld, h0.read_unread, h1.read_unread, h8.read_unread]
  repeat rw [View.ld_unit_zero (by funext a; fin_cases a <;> rfl)]

/-- The accumulator the last run reads back. -/
theorem summed : kernelRun0_C.sl.v18 c r0 h0 r1 h1 r8 h8 p q z = k0_pay3 p q z := by
  unfold kernelRun0_C.sl.v18
  rw [View.readCov_eq_canon']
  unfold kernelRun0_C.sl.HS0_1
  show View.ld (View.canon _) (Rect.unit (s := S1024x1024) ![0, 0] S1024x1024.size inb_S1024x1024_S1024x1024_0_0) = _
  rw [View.ld_unit_zero (by funext a; fin_cases a <;> rfl), View.canon_unit_zero (by funext a; fin_cases a <;> rfl)]
  simp only [View.readAt_eq_ld, h0.read_unread, h1.read_unread, h8.read_unread]
  repeat rw [View.ld_unit_zero (by funext a; fin_cases a <;> rfl)]

/-- The last run adds its tile and writes the rows' gradient. -/
theorem rowsC (k0 : ¬cond0_0 i) (k1 : cond0_1 i) (k2 : ¬cond0_2 i) (k3 : cond0_3 i) :
    out0_C_6 c i r0 h0 r1 h1 r2 h2 r3 h3 r4 h4 r5 h5 r6 h6 r7 h7 r8 h8 k0 k1 k2 k3 p q e x w o g z = k0_pay7 x (k0_pay3 p q z) w o := by
  unfold out0_C_6
  rw [View.read_writes_eq_canon _ _ _ (cover0_C_6 c i r0 h0 r1 h1 r2 h2 r3 h3 r4 h4 r5 h5 r6 h6 r7 h7 r8 h8 k0 k1 k2 k3 p q e x w o g z)]
  unfold kernelRun0_C
  dsimp only
  rw [View.canon_unit_zero (by funext a; fin_cases a <;> rfl)]
  simp only [View.readAt_eq_ld, h0.read_unread, h1.read_unread, h3.read_unread, h4.read_unread, h5.read_unread, h8.read_unread]
  repeat rw [View.ld_unit_zero (by funext a; fin_cases a <;> rfl)]
  rw [summed]

/-- It also adds the rows' share to the weight's gradient. -/
theorem weightC (k0 : ¬cond0_0 i) (k1 : cond0_1 i) (k2 : ¬cond0_2 i) (k3 : cond0_3 i) :
    out0_C_7 c i r0 h0 r1 h1 r2 h2 r3 h3 r4 h4 r5 h5 r6 h6 r7 h7 r8 h8 k0 k1 k2 k3 p q e x w o g z = k0_pay8 x (k0_pay3 p q z) g := by
  unfold out0_C_7
  rw [View.read_writes_eq_canon _ _ _ (cover0_C_7 c i r0 h0 r1 h1 r2 h2 r3 h3 r4 h4 r5 h5 r6 h6 r7 h7 r8 h8 k0 k1 k2 k3 p q e x w o g z)]
  unfold kernelRun0_C
  dsimp only
  rw [View.canon_unit_zero (by funext a; fin_cases a <;> rfl)]
  simp only [View.readAt_eq_ld, h0.read_unread, h1.read_unread, h3.read_unread, h7.read_unread, h8.read_unread]
  repeat rw [View.ld_unit_zero (by funext a; fin_cases a <;> rfl)]
  rw [summed]

end Body

end Cert.Norm
-- ==== Proof.NormRef.lean ====
/-
  The chain rule's formulas for the normalisation, entry by entry.
-/
module

public import proofs.«01_k».proof.Defs
public import proofs.«01_k».proof.Proof.Gen.ReferenceXIdeal.Run
public import proofs.«01_k».proof.Proof.Rms
public import proofs.«01_k».proof.Proof.ProductOps
public import proofs.«01_k».proof.Proof.NormKernel

@[expose] public section

set_option maxRecDepth 16384

noncomputable section

open scoped BigOperators

namespace Cert.Norm

open Idealize.ShloMosaic Idealize.ShloMosaic.TcCoe Idealize.ShloMosaic.ValueKit Idealize.SL.Sem Cert.Products
open Cert.ReferenceXIdeal Cert.ReferenceXIdeal.Gen

variable (x d : FVec Ideal S2048x1024 .f32) (w : FVec Ideal S1x1024 .f32) (o : FVec Ideal S2048x1024 .f32)

/-- The rows' mean squares, shifted. -/
def squares : FVec Ideal S2048x1 .f32 := addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

/-- What reaches a row's mean square. -/
def slope : FVec Ideal S2048 .f32 := Host.reduceAdd (Host.divf (mulf (shapeCast _ (Host.reduceAdd (mulf x (mulf d (broadcastInDim S2048x1024 ![0, 1] bcast_S1x1024_S2048x1024_0_1 w))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (squares x)) (squares x)))) (broadcastInDim S2048x1 ![] bcast_S_S2048x1 (constant S_ .f32 0x44800000#32))) (constant S_ .f32 0x00000000#32) reducesTo_S2048x1_S2048_d1 h_S_

/-- The gradient of the rows. -/
def rowsR : FVec Ideal S2048x1024 .f32 := addf (addf (addf o (mulf (mulf d (broadcastInDim S2048x1024 ![0, 1] bcast_S1x1024_S2048x1024_0_1 w)) (broadcastInDim S2048x1024 ![0, 1] bcast_S2048x1_S2048x1024_0_1 (Host.rsqrt (squares x))))) (mulf x (broadcastInDim S2048x1024 ![0] bcast_S2048_S2048x1024_0 (slope x d w)))) (mulf (broadcastInDim S2048x1024 ![0] bcast_S2048_S2048x1024_0 (slope x d w)) x)

/-- The gradient of the weight. -/
def weightR : FVec Ideal S1x1024 .f32 := shapeCast S1x1024 (Host.reduceAdd (mulf (mulf x (broadcastInDim S2048x1024 ![0, 1] bcast_S2048x1_S2048x1024_0_1 (Host.rsqrt (squares x)))) d) (constant S_ .f32 0x00000000#32) reducesTo_S2048x1024_S1024_d0 h_S_) shapeCasts_S1024_S1x1024

theorem rows_at (a : Fin 2048) (b : Fin 1024) : rowsR x d w o (ix2 a b) = dxR (row x a) (row d a) (row w 0) (row o a) b := by
  unfold rowsR slope squares
  pointwise
  rw [Fin.sum_univ_one]
  rfl

theorem weight_at (b : Fin 1024) : weightR x d (ix2 0 b) = ∑ k : Fin 2048, d (ix2 k b) * (x (ix2 k b) * scale (row x k)) := by
  unfold weightR squares
  pointwise
  exact Finset.sum_congr rfl fun k _ => mul_comm _ _

end Cert.Norm
-- ==== Proof.Norm.lean ====
/-
  The backward pass of the normalisation with the product that feeds it: the kernel's runs of rows against the chain rule.
-/
module

public import proofs.«01_k».proof.Defs
public import proofs.«01_k».proof.Proof.NormKernel
public import proofs.«01_k».proof.Proof.NormRef
public import proofs.«01_k».proof.Proof.Gen.KernelXIdeal.Value
public import proofs.«01_k».proof.Proof.Gen.KernelX
public import proofs.«01_k».proof.Proof.Gen.ReferenceXIdeal.Run
public import Idealize.ShloMosaic.Adequacy
public import Idealize.ShloMosaic.Init

@[expose] public section

set_option maxRecDepth 16384

noncomputable section

open scoped BigOperators

namespace Cert.Norm

open Idealize.ShloMosaic Idealize.ShloMosaic.TcCoe Idealize.ShloMosaic.ValueKit Idealize.SL.Sem Cert.Products

/-- The sum of two extended reals, for elements of buffers. -/
abbrev plus (x y : EReal) : EReal := x + y

section Kernel

open Cert.KernelXIdeal Cert.KernelXIdeal.Gen

variable (m : (ℓ : Loc nD τ sig) → Buf (Elt Ideal) ℓ) (c : Dev nD)

/-- The gradient that reaches the normalisation's result: what another branch sent and the product of this one. -/
def grad (z : S2048x1024.Idx) : EReal :=
  plus (m ((c : Thread nD τ).loc main_arg2) z) (∑ u : Fin 4096,
    times (m ((c : Thread nD τ).loc main_arg0) (ix2 (z 0) u)) (m ((c : Thread nD τ).loc main_arg1) (ix2 (u.castLE (by decide)) (z 1))))

/-- The rows the normalisation was taken of. -/
abbrev inp : S2048x1024.Idx → EReal := m ((c : Thread nD τ).loc main_arg3)

/-- The two results. -/
def wholeX (z : S2048x1024.Idx) : EReal :=
  dxK (row (n := 2048) (inp m c) (z 0)) (row (n := 2048) (grad m c) (z 0)) (row (n := 1) (m ((c : Thread nD τ).loc main_arg4)) 0)
    (row (n := 2048) (m ((c : Thread nD τ).loc main_arg5)) (z 0)) (z 1)
def wholeW (z : S1x1024.Idx) : EReal :=
  ∑ k : Fin 2048, grad m c (ix2 k (z 1)) * (inp m c (ix2 k (z 1)) * scale (row (n := 2048) (inp m c) k))

theorem index0 : ∀ t : Fin cfg0.N, win0_0.index t = ![t.val / 4, t.val % 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![t.val / 4, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val / 4, 0] := (by decide +kernel : ∀ t : Fin grid0.N, _)
theorem index6 : ∀ t : Fin cfg0.N, win0_6.index t = ![t.val / 4, 0] := (by decide +kernel : ∀ t : Fin grid0.N, _)
theorem index7 : ∀ t : Fin cfg0.N, win0_7.index t = ![0, 0] := (by decide +kernel : ∀ t : Fin grid0.N, _)

theorem blk0 (t : Fin cfg0.N) (a k : Fin 1024) (z : Fin 2048) (u : Fin 4096) (hz : z.val = t.val / 4 * 1024 + a.val)
    (hu : u.val = t.val % 4 * 1024 + k.val) :
    (iblk m c 0 t : Vec Ideal S1024x1024 .bf16) (ix2 a k) = m ((c : Thread nD τ).loc main_arg0) (ix2 z u) := by
  blk_ext! [iblk, V, index0 t]

theorem blk1 (t : Fin cfg0.N) (k b : Fin 1024) (u : Fin 4608) (hu : u.val = t.val % 4 * 1024 + k.val) :
    (X0_1 m c t : Vec Ideal S1024x1024 .bf16) (ix2 k b) = m ((c : Thread nD τ).loc main_arg1) (ix2 u b) := by
  unfold X0_1 Pipeline.Window.fill
  rw [dif_pos (moved0_1 t _)]
  blk_ext! [iblk, V, index1 t]

theorem blk2 (t : Fin cfg0.N) (a b : Fin 1024) (z : Fin 2048) (hz : z.val = t.val / 4 * 1024 + a.val) :
    (iblk m c 2 t : Vec Ideal S1024x1024 .f32) (ix2 a b) = m ((c : Thread nD τ).loc main_arg2) (ix2 z b) := by
  blk_ext! [iblk, V, index2 t]

theorem blk3 (t : Fin cfg0.N) (a b : Fin 1024) (z : Fin 2048) (hz : z.val = t.val / 4 * 1024 + a.val) :
    (iblk m c 3 t : Vec Ideal S1024x1024 .f32) (ix2 a b) = m ((c : Thread nD τ).loc main_arg3) (ix2 z b) := by
  blk_ext! [iblk, V, index3 t]

theorem blk4 (t : Fin cfg0.N) (b : Fin 1024) :
    (iblk m c 4 t : Vec Ideal S1x1024 .f32) (ix2 0 b) = m ((c : Thread nD τ).loc main_arg4) (ix2 0 b) := by
  blk_ext! [iblk, V, index4 t]

theorem blk5 (t : Fin cfg0.N) (a b : Fin 1024) (z : Fin 2048) (hz : z.val = t.val / 4 * 1024 + a.val) :
    (iblk m c 5 t : Vec Ideal S1024x1024 .f32) (ix2 a b) = m ((c : Thread nD τ).loc main_arg5) (ix2 z b) := by
  blk_ext! [iblk, V, index5 t]

/-- What one point hands to the next. -/
abbrev before (t : Fin cfg0.N) := outsAt0 m c (t.val - 1) (Nat.lt_of_le_of_lt (Nat.sub_le _ _) t.isLt)

/-- The accumulator after the first run of a block of rows. -/
theorem start (t : Fin cfg0.N) (ht : t.val % 4 = 0) :
    (outsAt0 m c t.val t.isLt).2.2 = k0_pay2 (iblk m c 0 t : Vec Ideal S1024x1024 .bf16) (X0_1 m c t) (iblk m c 2 t) := by
  by_cases h8 : t.val % 8 = 0
  · have e := congrArg (fun q => q.2.2) (outsAt0_A m c t ht (by omega) h8 (by omega))
    dsimp only at e
    rw [firstA] at e
    exact e
  · have e := congrArg (fun q => q.2.2) (outsAt0_D m c t ht (by omega) h8 (by omega))
    dsimp only at e
    rw [firstD] at e
    exact e

/-- The accumulator after a middle run. -/
theorem step (t : Fin cfg0.N) (h0 : t.val % 4 ≠ 0) (h3 : t.val % 4 ≠ 3) :
    (outsAt0 m c t.val t.isLt).2.2 = k0_pay3 (iblk m c 0 t : Vec Ideal S1024x1024 .bf16) (X0_1 m c t) (before m c t).2.2 := by
  have e := congrArg (fun q => q.2.2) (outsAt0_B m c t h0 (by omega) (by omega) h3)
  dsimp only at e
  rw [addedB] at e
  exact e

/-- The weight's gradient, off the last run of a block of rows, is carried along. -/
theorem carried (t : Fin cfg0.N) (h8 : t.val % 8 ≠ 0) (h3 : t.val % 4 ≠ 3) :
    (outsAt0 m c t.val t.isLt).2.1 = (before m c t).2.1 := by
  by_cases h0 : t.val % 4 = 0
  · exact congrArg (fun q => q.2.1) (outsAt0_D m c t h0 (by omega) h8 h3)
  · exact congrArg (fun q => q.2.1) (outsAt0_B m c t h0 (by omega) h8 h3)

/-- The accumulator at the last run of a block of rows. -/
abbrev acc (t : Fin cfg0.N) : Vec Ideal S1024x1024 .f32 :=
  k0_pay3 (iblk m c 0 t : Vec Ideal S1024x1024 .bf16) (X0_1 m c t) (before m c t).2.2

theorem rows_last (t : Fin cfg0.N) (h3 : t.val % 4 = 3) :
    (outsAt0 m c t.val t.isLt).1 = k0_pay7 (iblk m c 3 t : Vec Ideal S1024x1024 .f32) (acc m c t) (iblk m c 4 t) (iblk m c 5 t) := by
  have e := congrArg (fun q => q.1) (outsAt0_C m c t (by omega) (by omega) (by omega) h3)
  dsimp only at e
  rw [rowsC] at e
  exact e

theorem weight_last (t : Fin cfg0.N) (h3 : t.val % 4 = 3) :
    (outsAt0 m c t.val t.isLt).2.1 = k0_pay8 (iblk m c 3 t : Vec Ideal S1024x1024 .f32) (acc m c t) (before m c t).2.1 := by
  have e := congrArg (fun q => q.2.1) (outsAt0_C m c t (by omega) (by omega) (by omega) h3)
  dsimp only at e
  rw [weightC] at e
  exact e

/-- One term of the product's sum at one place. -/
abbrev term (z : S2048x1024.Idx) (u : Fin 4096) : EReal :=
  times (m ((c : Thread nD τ).loc main_arg0) (ix2 (z 0) u)) (m ((c : Thread nD τ).loc main_arg1) (ix2 (u.castLE (by decide)) (z 1)))

/-- The tile at one point is that run of the whole sum. -/
theorem run_at (t : Fin cfg0.N) (z : S2048x1024.Idx) (a b : Fin 1024) (h0 : (z 0).val = t.val / 4 * 1024 + a.val) (h1 : (z 1).val = b.val)
    (e : Fin 1024 → Fin 4096) (he : ∀ k, (e k).val = t.val % 4 * 1024 + k.val) :
    k0_pay1 (iblk m c 0 t : Vec Ideal S1024x1024 .bf16) (X0_1 m c t) (ix2 a b) = ∑ k, term m c z (e k) := by
  refine (mm_nn (φ₁ := .bf16) (φ₂ := .bf16) _ (iblk m c 0 t : Vec Ideal S1024x1024 .bf16) (X0_1 m c t) a b).trans (Finset.sum_congr rfl fun k _ => ?_)
  obtain rfl : b = z 1 := Fin.ext h1.symm
  exact congrArg₂ (· * ·) (blk0 m c t a k (z 0) (e k) h0 (he k)) (blk1 m c t k (z 1) ((e k).castLE (by decide)) (he k))

theorem pay2 (p q : Vec Ideal S1024x1024 .bf16) (e : Vec Ideal S1024x1024 .f32) (a b : Fin 1024) :
    k0_pay2 p q e (ix2 a b) = (k0_pay1 p q (ix2 a b) + e (ix2 a b) : EReal) := by
  unfold k0_pay2
  exact congrFun (shapeCast_self _ _) _

theorem pay3 (p q : Vec Ideal S1024x1024 .bf16) (e : Vec Ideal S1024x1024 .f32) (a b : Fin 1024) :
    k0_pay3 p q e (ix2 a b) = (e (ix2 a b) + k0_pay1 p q (ix2 a b) : EReal) := by
  unfold k0_pay3
  exact congrFun (shapeCast_self _ _) _

theorem total (g p q r s : EReal) : plus (plus (plus (plus p g) q) r) s = plus g (p + q + r + s) := by
  simp only [plus, add_assoc, add_left_comm]

/-- A sum in four equal runs. -/
theorem split4 {n : ℕ} (f : Fin (n + n + n + n) → EReal) : ∑ k, f k = ∑ k, f (Fin.castAdd n (Fin.castAdd n (Fin.castAdd n k)))
    + ∑ k, f (Fin.castAdd n (Fin.castAdd n (Fin.natAdd n k))) + ∑ k, f (Fin.castAdd n (Fin.natAdd (n + n) k))
    + ∑ k, f (Fin.natAdd (n + n + n) k) := by
  rw [Fin.sum_univ_add, Fin.sum_univ_add, Fin.sum_univ_add]

/-- What the first run of a block of rows leaves at one place. -/
theorem acc_first (t : Fin cfg0.N) (ht : t.val % 4 = 0) (z : S2048x1024.Idx) (a b : Fin 1024) (h0 : (z 0).val = t.val / 4 * 1024 + a.val)
    (h1 : (z 1).val = b.val) (e : Fin 1024 → Fin 4096) (he : ∀ k, (e k).val = t.val % 4 * 1024 + k.val) :
    (outsAt0 m c t.val t.isLt).2.2 (ix2 a b) = plus (∑ k, term m c z (e k)) (m ((c : Thread nD τ).loc main_arg2) z) := by
  refine (congrFun (start m c t ht) _).trans ((pay2 _ _ _ a b).trans (congrArg₂ plus (run_at m c t z a b h0 h1 e he) ?_))
  refine (blk2 m c _ a b (z 0) h0).trans (congrArg _ ?_)
  obtain rfl : b = z 1 := Fin.ext h1.symm
  exact (eq_ix2 z).symm

/-- What a middle run adds at one place. -/
theorem acc_step (t : Fin cfg0.N) (ht : t.val % 4 ≠ 0) (ht' : t.val % 4 ≠ 3) (z : S2048x1024.Idx) (a b : Fin 1024)
    (h0 : (z 0).val = t.val / 4 * 1024 + a.val) (h1 : (z 1).val = b.val) (e : Fin 1024 → Fin 4096)
    (he : ∀ k, (e k).val = t.val % 4 * 1024 + k.val) :
    (outsAt0 m c t.val t.isLt).2.2 (ix2 a b) = plus ((before m c t).2.2 (ix2 a b)) (∑ k, term m c z (e k)) :=
  (congrFun (step m c t ht ht') _).trans ((pay3 _ _ _ a b).trans (congrArg₂ plus rfl (run_at m c t z a b h0 h1 e he)))

/-- At the last run the accumulator holds the whole gradient. -/
theorem acc_at (t : Fin cfg0.N) (ht : t.val % 4 = 3) (a b : Fin 1024) (z : S2048x1024.Idx) (h0 : (z 0).val = t.val / 4 * 1024 + a.val)
    (h1 : (z 1).val = b.val) : acc m c t (ix2 a b) = grad m c z := by
  have l1 : t.val - 1 < cfg0.N := by omega
  have l2 : t.val - 1 - 1 < cfg0.N := by omega
  have l3 : t.val - 1 - 1 - 1 < cfg0.N := by omega
  have s0 := acc_first m c ⟨t.val - 1 - 1 - 1, l3⟩ (by dsimp only; omega) z a b (by dsimp only; omega) h1
    (fun k => Fin.castAdd 1024 (Fin.castAdd 1024 (Fin.castAdd 1024 k))) fun k => by simp only [Fin.val_castAdd]; omega
  have s1 := acc_step m c ⟨t.val - 1 - 1, l2⟩ (by dsimp only; omega) (by dsimp only; omega) z a b (by dsimp only; omega) h1
    (fun k => Fin.castAdd 1024 (Fin.castAdd (n := 1024 + 1024) 1024 (Fin.natAdd 1024 k))) fun k => by simp only [Fin.val_castAdd, Fin.val_natAdd]; omega
  have s2 := acc_step m c ⟨t.val - 1, l1⟩ (by dsimp only; omega) (by dsimp only; omega) z a b (by dsimp only; omega) h1
    (fun k => Fin.castAdd 1024 (Fin.natAdd (1024 + 1024) k)) fun k => by simp only [Fin.val_castAdd, Fin.val_natAdd]; omega
  have s3 := run_at m c t z a b h0 h1 (fun k => Fin.natAdd (1024 + 1024 + 1024) k) fun k => by simp only [Fin.val_natAdd]; omega
  refine (pay3 _ _ _ a b).trans (((congrArg₂ plus (s2.trans (congrArg₂ plus (s1.trans (congrArg₂ plus s0 rfl)) rfl)) s3).trans ?_))
  unfold grad
  rw [show (∑ u : Fin 4096, _ : EReal) = _ from split4 (n := 1024) (term m c z)]
  generalize (∑ k, term m c z (Fin.castAdd 1024 (Fin.castAdd 1024 (Fin.castAdd 1024 k)))) = x0
  generalize (∑ k, term m c z (Fin.castAdd 1024 (Fin.castAdd (n := 1024 + 1024) 1024 (Fin.natAdd 1024 k)))) = x1
  generalize (∑ k, term m c z (Fin.castAdd (n := 1024 + 1024 + 1024) 1024 (Fin.natAdd (1024 + 1024) k))) = x2
  generalize (∑ k : Fin 1024, term m c z (Fin.natAdd (1024 + 1024 + 1024) k)) = x3
  exact total _ _ _ _ _

theorem out_rows (t : Fin cfg0.N) (ht : t.val % 4 = 3) (y : S1024x1024.Idx) (z : S2048x1024.Idx) (h0 : (z 0).val = t.val / 4 * 1024 + (y 0).val)
    (h1 : (z 1).val = (y 1).val) : (outsAt0 m c t.val t.isLt).1 y = wholeX m c z := by
  rw [rows_last m c t ht, eq_ix2 y]
  refine (pay7 _ _ _ _ (y 0) (y 1)).trans ?_
  unfold wholeX
  have e1 : y 1 = z 1 := Fin.ext h1.symm
  rw [e1]
  have r3 : row (iblk m c 3 t : Vec Ideal S1024x1024 .f32) (y 0) = row (n := 2048) (inp m c) (z 0) := funext fun k => blk3 m c t (y 0) k (z 0) h0
  have r4 : row (iblk m c 4 t : Vec Ideal S1x1024 .f32) 0 = row (n := 1) (m ((c : Thread nD τ).loc main_arg4)) 0 := funext fun k => blk4 m c t k
  have r5 : row (iblk m c 5 t : Vec Ideal S1024x1024 .f32) (y 0) = row (n := 2048) (m ((c : Thread nD τ).loc main_arg5)) (z 0) :=
    funext fun k => blk5 m c t (y 0) k (z 0) h0
  have rg : row (acc m c t) (y 0) = row (n := 2048) (grad m c) (z 0) := funext fun k => acc_at m c t ht (y 0) k (ix2 (z 0) k) h0 rfl
  rw [r3, r4, r5, rg]

/-- The rows' share of the weight's gradient at one column. -/
abbrev share (b : Fin 1024) (k : Fin 2048) : EReal :=
  grad m c (ix2 k b) * (inp m c (ix2 k b) * scale (row (n := 2048) (inp m c) k))

/-- The last run of a block of rows adds their share to what it found. -/
theorem weight_add (t : Fin cfg0.N) (ht : t.val % 4 = 3) (b : Fin 1024) (e : Fin 1024 → Fin 2048) (he : ∀ k, (e k).val = t.val / 4 * 1024 + k.val) :
    (outsAt0 m c t.val t.isLt).2.1 (ix2 0 b) = plus ((before m c t).2.1 (ix2 0 b)) (∑ k, share m c b (e k)) := by
  rw [weight_last m c t ht]
  refine (pay8 _ _ _ 0 b).trans (congrArg₂ (· + ·) rfl (Finset.sum_congr rfl fun k _ => ?_))
  have r3 : row (iblk m c 3 t : Vec Ideal S1024x1024 .f32) k = row (n := 2048) (inp m c) (e k) := funext fun j => blk3 m c t k j (e k) (he k)
  rw [acc_at m c t ht k b (ix2 (e k) b) (he k) rfl, r3]
  exact congrArg₂ (· * ·) rfl (congrArg₂ (· * ·) (blk3 m c t k b (e k) (he k)) rfl)

/-- The weight's gradient after one run, at one column. -/
def weight (b : Fin 1024) (n : ℕ) (h : n < cfg0.N) : EReal := (outsAt0 m c n h).2.1 (ix2 0 b)

theorem weight_carried (b : Fin 1024) (n : ℕ) (h : n + 1 < cfg0.N) (h8 : (n + 1) % 8 ≠ 0) (h3 : (n + 1) % 4 ≠ 3) :
    weight m c b (n + 1) h = weight m c b n (Nat.lt_of_succ_lt h) :=
  congrFun (carried m c ⟨n + 1, h⟩ h8 h3) _

theorem weight_added (b : Fin 1024) (n : ℕ) (h : n + 1 < cfg0.N) (h3 : (n + 1) % 4 = 3) (e : Fin 1024 → Fin 2048)
    (he : ∀ k, (e k).val = (n + 1) / 4 * 1024 + k.val) :
    weight m c b (n + 1) h = weight m c b n (Nat.lt_of_succ_lt h) + ∑ k, share m c b (e k) :=
  weight_add m c ⟨n + 1, h⟩ h3 b e he

theorem weight_zero (b : Fin 1024) (h : 0 < cfg0.N) : weight m c b 0 h = 0 := by
  have e := congrArg (fun q => q.2.1) (outsAt0_A m c ⟨0, h⟩ rfl (by dsimp only; omega) rfl (by dsimp only; omega))
  dsimp only at e
  rw [cleared] at e
  exact (congrFun e _).trans Ideal.ofBits_zero_f32

theorem weight_end (b : Fin 1024) (h : 7 < cfg0.N) : weight m c b 7 h = wholeW m c (ix2 0 b) := by
  have l (n : ℕ) (hn : n < 8) : n < cfg0.N := hn
  rw [weight_added m c b 6 h (by decide) (fun k => Fin.natAdd 1024 k) fun k => (by simp only [Fin.val_natAdd]),
    weight_carried m c b 5 (l 6 (by omega)) (by omega) (by omega), weight_carried m c b 4 (l 5 (by omega)) (by omega) (by omega),
    weight_carried m c b 3 (l 4 (by omega)) (by omega) (by omega),
    weight_added m c b 2 (l 3 (by omega)) (by omega) (fun k => Fin.castAdd 1024 k) fun k => (by simp [Fin.val_castAdd]),
    weight_carried m c b 1 (l 2 (by omega)) (by omega) (by omega), weight_carried m c b 0 (l 1 (by omega)) (by omega) (by omega),
    weight_zero, zero_add]
  exact (Fin.sum_univ_add (a := 1024) (b := 1024) (share m c b)).symm

theorem final6 : (dats m 0 c).arrAt 6 cfg0.N = wholeX m c := by
  refine (dats m 0 c).arrAt_eq_of_covers 6 _ (by decide +kernel) fun t hf y => ?_
  blk_simp
  rw [after0_6]
  refine out_rows m c t ((flush0_6 t).mp hf) _ _ ?_ ?_ <;> blk_simp [index6 t]

theorem out_weight (t : Fin cfg0.N) (ht : t.val % 8 = 7) (y : S1x1024.Idx) (z : S1x1024.Idx) (h1 : (z 1).val = (y 1).val) :
    (outsAt0 m c t.val t.isLt).2.1 y = wholeW m c z := by
  have hN : t.val < 8 := t.isLt
  have h7 : t.val = 7 := by omega
  obtain ⟨n, hn⟩ := t
  obtain rfl : n = 7 := h7
  have e : y = ix2 0 (y 1) := (eq_ix2 y).trans (congrArg (fun q => ix2 q (y 1)) (Fin.fin_one_eq_zero (y 0)))
  rw [e]
  refine (weight_end m c (y 1) hn).trans ?_
  have e1 : y 1 = z 1 := Fin.ext h1.symm
  rw [e1]
  rfl

theorem final7 : (dats m 0 c).arrAt 7 cfg0.N = wholeW m c := by
  refine (dats m 0 c).arrAt_eq_of_covers 7 _ (by decide +kernel) fun t hf y => ?_
  blk_simp
  rw [after0_7]
  refine out_weight m c t ((flush0_7 t).mp hf) _ _ ?_
  blk_simp [index7 t]

end Kernel

section Reference

open Cert.ReferenceXIdeal Cert.ReferenceXIdeal.Gen

/-- The gradient that reaches the normalisation's result, as the reference writes it. -/
abbrev gradR (p : FVec Ideal S2048x4096 .bf16) (q : FVec Ideal S4608x1024 .bf16) (e : FVec Ideal S2048x1024 .f32) : FVec Ideal S2048x1024 .f32 :=
  addf e (Host.dotGeneral dot_S2048x4096_S1024x4096_S2048x1024_1_1_0_0_n_n none (extf .f32 p bitsLt_bf16_f32) (transpose S1024x4096 [1, 0] (extf .f32 (extractStridedSlice S4096x1024 ![0, 0] q slices_S4608x1024_S4096x1024_0_0) bitsLt_bf16_f32) transposes_S4096x1024_S1024x4096_1_0))

theorem gradR_eq (m : (ℓ : Loc Cert.KernelXIdeal.nD Cert.KernelXIdeal.τ Cert.KernelXIdeal.sig) → Buf (Elt Ideal) ℓ) (c : Dev Cert.KernelXIdeal.nD) :
    gradR (m ((c : Thread Cert.KernelXIdeal.nD Cert.KernelXIdeal.τ).loc Cert.KernelXIdeal.main_arg0))
      (m ((c : Thread Cert.KernelXIdeal.nD Cert.KernelXIdeal.τ).loc Cert.KernelXIdeal.main_arg1))
      (m ((c : Thread Cert.KernelXIdeal.nD Cert.KernelXIdeal.τ).loc Cert.KernelXIdeal.main_arg2)) = grad m c := by
  refine ext_ix2 _ _ fun a b => ?_
  refine congrArg₂ plus rfl ?_
  refine (host_nt (φ₁ := .f32) (φ₂ := .f32) _ _ _ a b).trans (Finset.sum_congr rfl fun k _ => ?_)
  exact congrArg₂ (· * ·) rfl ((turned _ _ b k).trans (sliced (by omega) _ slices_S4608x1024_S4096x1024_0_0 k b))

end Reference

theorem values : Cert.algebraic_KernelXIdeal_ReferenceXIdeal := by
  intro m g m' g' _ hargs
  refine ⟨fun c => wholeX m c, fun c => wholeW m c, ?_, ?_⟩
  · refine (θ_run Cert.KernelXIdeal.defs _ _).mono (fun r h c => ?_) (Cert.KernelXIdeal.Value.run_blocks m g)
    exact ⟨(h c).1.trans (final6 m c), (h c).2.1.trans (final7 m c), (h c).2.2⟩
  · refine (θ_run Cert.ReferenceXIdeal.defs _ _).mono (fun r h c => ?_) (Cert.ReferenceXIdeal.Value.run m' g')
    obtain ⟨h0, h1, h2, h3, h4, h5⟩ := hargs c
    refine ⟨(h c).1.trans ?_, (h c).2.1.trans ?_, (h c).2.2⟩
    · unfold Cert.ReferenceXIdeal.Value.res_main_v41
      rw [h0, h1, h2, h3, h4, h5]
      refine Eq.trans (b := rowsR (inp m c) (gradR _ _ _) _ _) rfl ?_
      rw [gradR_eq]
      refine ext_ix2 _ _ fun a b => (rows_at _ _ _ _ a b).trans ?_
      exact (dx_eq _ _ _ _ b).symm
    · rw [h0, h1, h2, h3]
      refine Eq.trans (b := weightR (inp m c) (gradR _ _ _)) rfl ?_
      rw [gradR_eq]
      refine ext_ix2 _ _ fun a b => ?_
      rw [Fin.fin_one_eq_zero a]
      exact weight_at _ _ b

section Frame

variable {F : FTy → Type} [FloatOps F]

/-- The kernel and its idealization have the same text. -/
theorem body_eq : (Cert.KernelX.cc0_dh_rms_bwd (F := F)) = (Cert.KernelXIdeal.cc0_dh_rms_bwd (F := F)) := rfl

theorem bodies_eq : (Cert.KernelX.defs₀ (F := F)) = (Cert.KernelXIdeal.defs₀ (F := F)) := by
  unfold Cert.KernelX.defs₀ Cert.KernelXIdeal.defs₀
  refine congrArg Defs.onTc (funext fun l => funext fun a => ?_)
  match l, a with
  | 0, (t, s) =>
    dsimp only
    rw [body_eq]
    rfl
  | ⟨_ + 1, h⟩, _ => exact absurd h (Nat.not_lt.2 (Nat.le_add_left _ _))

theorem defs_eq : (Cert.KernelX.defs (F := F)) = (Cert.KernelXIdeal.defs (F := F)) :=
  congrArg (Pipeline.defs Cert.KernelXIdeal.pcfgs) bodies_eq

end Frame

/-- The kernel's frame: the run stated over any floats, read at bit patterns. -/
theorem frame_kernel : Cert.quiescent_KernelX := by
  intro m ρ _
  rw [defs_eq]
  exact Cert.KernelXIdeal.Gen.frame (F := Bits) m ρ

theorem frame_ideal : Cert.quiescent_KernelXIdeal := fun m ρ _ => Cert.KernelXIdeal.Gen.frame m ρ

theorem frame_reference : Cert.quiescent_ReferenceXIdeal := fun m ρ _ =>
  (θ_run Cert.ReferenceXIdeal.defs _ _).mono (fun r h => ⟨fun c => (h c).2.2, sem_eq_zero_of_no_sems (by decide) r.2⟩)
    (Cert.ReferenceXIdeal.Value.run m ρ)

end Cert.Norm
-- ==== Proof.LossKernel.lean ====
/-
  The kernel of the last norm and the loss: what one grid point computes.
-/
module

public import proofs.«01_k».proof.Proof.NormKernel
public import proofs.«01_k».proof.Proof.Gen.KernelLIdeal.Value
public import Idealize.ShloMosaic.Lib.Pipeline.ValueKit
public import Idealize.ShloMosaic.Lib.Pointwise

@[expose] public section

set_option maxRecDepth 16384

noncomputable section

open scoped BigOperators

namespace Cert.Loss

open Idealize.ShloMosaic Idealize.ShloMosaic.TcCoe Idealize.ShloMosaic.ValueKit Idealize.SL.Sem Cert.Products Cert.Norm

abbrev share : EReal := Ideal.ofBits .f32 0x3A800000#32
abbrev halfShare : EReal := Ideal.ofBits .f32 0x3A000000#32

theorem share_eq : share = ((1 / 1024 : ℝ) : EReal) := by
  simp [share, Ideal.ofBits, Ideal.ieee]
  rw [← EReal.coe_mul]
  norm_num

theorem halfShare_eq : halfShare = ((1 / 2048 : ℝ) : EReal) := by
  simp [halfShare, Ideal.ofBits, Ideal.ieee]
  rw [← EReal.coe_mul]
  norm_num

section Row

variable (v w g : Fin 1024 → EReal)

/-- The difference of the normed row and its target. -/
def err (b : Fin 1024) : EReal := v b * scale v * w b - g b

/-- The gradient of the normed row. -/
def dy (b : Fin 1024) : EReal := err v w g b * share

/-- The row's part of the loss. -/
def rowLoss : EReal := (∑ k, err v w g k * err v w g k) * halfShare

/-- The gradient of the row. -/
def dv (b : Fin 1024) : EReal := dxK v (dy v w g) w (fun _ => 0) b

end Row

open Cert.KernelLIdeal Cert.KernelLIdeal.Gen

section Payload

variable (p : Vec Ideal S256x2048 .bf16) (q : Vec Ideal S2048x1024 .bf16) (x g : Vec Ideal S256x1024 .f32) (w : Vec Ideal S1x1024 .f32)

theorem pay10 (a : Fin 256) (b : Fin 1024) :
    k0_pay10 p q x w g (ix2 a b) = dv (row (n := 256) (k0_pay5 p q x) a) (row w 0) (row g a) b := by
  unfold k0_pay10 k0_pay9 k0_pay8 k0_pay7 k0_pay6
  generalize k0_pay5 p q x = v
  pointwise
  refine Eq.trans ?_ (add_zero _).symm
  rfl

theorem pay3 (u : Vec Ideal S1x1024 .f32) (a : Fin 1) (b : Fin 1024) :
    k0_pay3 (k0_pay7 p q x) (k0_pay9 p q x w g) u (ix2 a b) = (u (ix2 a b) + ∑ k : Fin 256, dy (row (n := 256) (k0_pay5 p q x) k) (row w 0) (row g k) b
      * (k0_pay5 p q x (ix2 k b) * scale (row (n := 256) (k0_pay5 p q x) k)) : EReal) := by
  unfold k0_pay3 k0_pay9 k0_pay8 k0_pay7 k0_pay6
  generalize k0_pay5 p q x = v
  pointwise
  rfl

theorem pay4 (l : Vec Ideal S1x1 .f32) (a b : Fin 1) :
    k0_pay4 (k0_pay8 p q x w g) l (ix2 a b) = (l (ix2 a b) + halfShare * ∑ k : Fin 256, ∑ j, err (row (n := 256) (k0_pay5 p q x) k) (row w 0) (row g k) j
      * err (row (n := 256) (k0_pay5 p q x) k) (row w 0) (row g k) j : EReal) := by
  unfold k0_pay4 k0_pay8 k0_pay7 k0_pay6
  generalize k0_pay5 p q x = v
  pointwise
  rfl

end Payload

section Body

variable (c : Dev nD) (i : grid0.Coords)
  (r0 : Memref sig .tc .vmem S256x2048 .bf16) (h0 : r0.IsWhole)
  (r1 : Memref sig .tc .vmem S2048x1024 .bf16) (h1 : r1.IsWhole) (r2 : Memref sig .tc .vmem S256x1024 .f32) (h2 : r2.IsWhole)
  (r3 : Memref sig .tc .vmem S256x1024 .f32) (h3 : r3.IsWhole) (r4 : Memref sig .tc .vmem S1x1024 .f32) (h4 : r4.IsWhole)
  (r5 : Memref sig .tc .vmem S256x1024 .f32) (h5 : r5.IsWhole) (r6 : Memref sig .tc .vmem S256x1024 .bf16) (h6 : r6.IsWhole)
  (r7 : Memref sig .tc .vmem S1x1024 .f32) (h7 : r7.IsWhole) (r8 : Memref sig .tc .vmem S1x1 .f32) (h8 : r8.IsWhole)
  (p : Vec Ideal S256x2048 .bf16) (q : Vec Ideal S2048x1024 .bf16) (x g : Vec Ideal S256x1024 .f32) (w : Vec Ideal S1x1024 .f32)
  (u : Vec Ideal S1x1024 .f32) (l : Vec Ideal S1x1 .f32)

theorem partA_0 : kernelRun0_A.sl.r c r0 h0 r1 h1 r2 h2 p q x = k0_pay7 p q x := by
  unfold kernelRun0_A.sl.r
  simp only [View.readAt_eq_ld, h0.read_unread, h1.read_unread, h2.read_unread]
  repeat rw [View.ld_unit_zero (by funext a; fin_cases a <;> rfl)]

theorem partA_1 : kernelRun0_A.sl.r_1 c r0 h0 r1 h1 r2 h2 r3 h3 r4 h4 p q x g w = k0_pay8 p q x w g := by
  unfold kernelRun0_A.sl.r_1
  simp only [View.readAt_eq_ld, h0.read_unread, h1.read_unread, h2.read_unread, h3.read_unread, h4.read_unread]
  repeat rw [View.ld_unit_zero (by funext a; fin_cases a <;> rfl)]

theorem partA_2 : kernelRun0_A.sl.r_2 c r0 h0 r1 h1 r2 h2 r3 h3 r4 h4 p q x g w = k0_pay9 p q x w g := by
  unfold kernelRun0_A.sl.r_2
  simp only [View.readAt_eq_ld, h0.read_unread, h1.read_unread, h2.read_unread, h3.read_unread, h4.read_unread]
  repeat rw [View.ld_unit_zero (by funext a; fin_cases a <;> rfl)]

theorem partA_3 : kernelRun0_A.sl.r_3 c r0 h0 r1 h1 r2 h2 r3 h3 r4 h4 p q x g w = k0_pay11 p q x w g := by
  unfold kernelRun0_A.sl.r_3
  simp only [View.readAt_eq_ld, h0.read_unread, h1.read_unread, h2.read_unread, h3.read_unread, h4.read_unread]
  repeat rw [View.ld_unit_zero (by funext a; fin_cases a <;> rfl)]

theorem partB_0 : kernelRun0_B.sl.r c r0 h0 r1 h1 r2 h2 p q x = k0_pay7 p q x := by
  unfold kernelRun0_B.sl.r
  simp only [View.readAt_eq_ld, h0.read_unread, h1.read_unread, h2.read_unread]
  repeat rw [View.ld_unit_zero (by funext a; fin_cases a <;> rfl)]

theorem partB_1 : kernelRun0_B.sl.r_1 c r0 h0 r1 h1 r2 h2 r3 h3 r4 h4 p q x g w = k0_pay8 p q x w g := by
  unfold kernelRun0_B.sl.r_1
  simp only [View.readAt_eq_ld, h0.read_unread, h1.read_unread, h2.read_unread, h3.read_unread, h4.read_unread]
  repeat rw [View.ld_unit_zero (by funext a; fin_cases a <;> rfl)]

theorem partB_2 : kernelRun0_B.sl.r_2 c r0 h0 r1 h1 r2 h2 r3 h3 r4 h4 p q x g w = k0_pay9 p q x w g := by
  unfold kernelRun0_B.sl.r_2
  simp only [View.readAt_eq_ld, h0.read_unread, h1.read_unread, h2.read_unread, h3.read_unread, h4.read_unread]
  repeat rw [View.ld_unit_zero (by funext a; fin_cases a <;> rfl)]

theorem partB_3 : kernelRun0_B.sl.r_3 c r0 h0 r1 h1 r2 h2 r3 h3 r4 h4 p q x g w = k0_pay11 p q x w g := by
  unfold kernelRun0_B.sl.r_3
  simp only [View.readAt_eq_ld, h0.read_unread, h1.read_unread, h2.read_unread, h3.read_unread, h4.read_unread]
  repeat rw [View.ld_unit_zero (by funext a; fin_cases a <;> rfl)]

theorem clearv40 : kernelRun0_A.sl.v40 (F := Ideal) c r7 = k0_pay1 (F := Ideal) := by
  unfold kernelRun0_A.sl.v40
  rw [View.readCov_eq_canon']
  unfold kernelRun0_A.sl.H7_1
  show View.ld (View.canon _) (Rect.unit (s := S1x1024) ![0, 0] S1x1024.size inb_S1x1024_S1x1024_0_0) = _
  rw [View.ld_unit_zero (by funext a; fin_cases a <;> rfl), View.canon_cons_unit_zero (by funext a; fin_cases a <;> rfl)]

theorem clearv47 : kernelRun0_A.sl.v47 (F := Ideal) c r8 = k0_pay2 (F := Ideal) := by
  unfold kernelRun0_A.sl.v47
  rw [View.readCov_eq_canon']
  unfold kernelRun0_A.sl.H8_1
  show View.ld (View.canon _) (Rect.unit (s := S1x1) ![0, 0] S1x1.size inb_S1x1_S1x1_0_0) = _
  rw [View.ld_unit_zero (by funext a; fin_cases a <;> rfl), View.canon_cons_unit_zero (by funext a; fin_cases a <;> rfl)]

theorem outA5 (k : cond0_0 i) : out0_A_5 c i r0 h0 r1 h1 r2 h2 r3 h3 r4 h4 r5 h5 r6 h6 r7 h7 r8 h8 k p q x g w = k0_pay10 p q x w g := by
  unfold out0_A_5
  rw [View.read_writes_eq_canon _ _ _ (cover0_A_5 c i r0 h0 r1 h1 r2 h2 r3 h3 r4 h4 r5 h5 r6 h6 r7 h7 r8 h8 k p q x g w)]
  unfold kernelRun0_A
  dsimp only
  rw [View.canon_cons_unit_zero (by funext a; fin_cases a <;> rfl)]
  simp only [View.readAt_eq_ld, h0.read_unread, h1.read_unread, h2.read_unread, h3.read_unread, h4.read_unread, h7.read_unread, h8.read_unread]
  repeat rw [View.ld_unit_zero (by funext a; fin_cases a <;> rfl)]

theorem outA6 (k : cond0_0 i) : out0_A_6 c i r0 h0 r1 h1 r2 h2 r3 h3 r4 h4 r5 h5 r6 h6 r7 h7 r8 h8 k p q x g w = k0_pay11 p q x w g := by
  unfold out0_A_6
  rw [View.read_writes_eq_canon _ _ _ (cover0_A_6 c i r0 h0 r1 h1 r2 h2 r3 h3 r4 h4 r5 h5 r6 h6 r7 h7 r8 h8 k p q x g w)]
  unfold kernelRun0_A
  dsimp only
  rw [View.canon_cons_unit_zero (by funext a; fin_cases a <;> rfl)]
  rw [partA_3]

theorem outA7 (k : cond0_0 i) : out0_A_7 c i r0 h0 r1 h1 r2 h2 r3 h3 r4 h4 r5 h5 r6 h6 r7 h7 r8 h8 k p q x g w = k0_pay3 (k0_pay7 p q x) (k0_pay9 p q x w g) (k0_pay1 (F := Ideal)) := by
  unfold out0_A_7
  rw [View.read_writes_eq_canon _ _ _ (cover0_A_7 c i r0 h0 r1 h1 r2 h2 r3 h3 r4 h4 r5 h5 r6 h6 r7 h7 r8 h8 k p q x g w)]
  unfold kernelRun0_A
  dsimp only
  rw [View.canon_cons_unit_zero (by funext a; fin_cases a <;> rfl)]
  rw [partA_0, partA_2, clearv40]

theorem outA8 (k : cond0_0 i) : out0_A_8 c i r0 h0 r1 h1 r2 h2 r3 h3 r4 h4 r5 h5 r6 h6 r7 h7 r8 h8 k p q x g w = k0_pay4 (k0_pay8 p q x w g) (k0_pay2 (F := Ideal)) := by
  unfold out0_A_8
  rw [View.read_writes_eq_canon _ _ _ (cover0_A_8 c i r0 h0 r1 h1 r2 h2 r3 h3 r4 h4 r5 h5 r6 h6 r7 h7 r8 h8 k p q x g w)]
  unfold kernelRun0_A
  dsimp only
  rw [View.canon_cons_unit_zero (by funext a; fin_cases a <;> rfl)]
  rw [partA_1, clearv47]

theorem outB5 (k : ¬cond0_0 i) : out0_B_5 c i r0 h0 r1 h1 r2 h2 r3 h3 r4 h4 r5 h5 r6 h6 r7 h7 r8 h8 k p q x g w u l = k0_pay10 p q x w g := by
  unfold out0_B_5
  rw [View.read_writes_eq_canon _ _ _ (cover0_B_5 c i r0 h0 r1 h1 r2 h2 r3 h3 r4 h4 r5 h5 r6 h6 r7 h7 r8 h8 k p q x g w u l)]
  unfold kernelRun0_B
  dsimp only
  rw [View.canon_cons_unit_zero (by funext a; fin_cases a <;> rfl)]
  simp only [View.readAt_eq_ld, h0.read_unread, h1.read_unread, h2.read_unread, h3.read_unread, h4.read_unread, h7.read_unread, h8.read_unread]
  repeat rw [View.ld_unit_zero (by funext a; fin_cases a <;> rfl)]

theorem outB6 (k : ¬cond0_0 i) : out0_B_6 c i r0 h0 r1 h1 r2 h2 r3 h3 r4 h4 r5 h5 r6 h6 r7 h7 r8 h8 k p q x g w u l = k0_pay11 p q x w g := by
  unfold out0_B_6
  rw [View.read_writes_eq_canon _ _ _ (cover0_B_6 c i r0 h0 r1 h1 r2 h2 r3 h3 r4 h4 r5 h5 r6 h6 r7 h7 r8 h8 k p q x g w u l)]
  unfold kernelRun0_B
  dsimp only
  rw [View.canon_cons_unit_zero (by funext a; fin_cases a <;> rfl)]
  rw [partB_3]

theorem outB7 (k : ¬cond0_0 i) : out0_B_7 c i r0 h0 r1 h1 r2 h2 r3 h3 r4 h4 r5 h5 r6 h6 r7 h7 r8 h8 k p q x g w u l = k0_pay3 (k0_pay7 p q x) (k0_pay9 p q x w g) u := by
  unfold out0_B_7
  rw [View.read_writes_eq_canon _ _ _ (cover0_B_7 c i r0 h0 r1 h1 r2 h2 r3 h3 r4 h4 r5 h5 r6 h6 r7 h7 r8 h8 k p q x g w u l)]
  unfold kernelRun0_B
  dsimp only
  rw [View.canon_cons_unit_zero (by funext a; fin_cases a <;> rfl)]
  simp only [View.readAt_eq_ld, h7.read_unread]
  repeat rw [View.ld_unit_zero (by funext a; fin_cases a <;> rfl)]
  rw [partB_0, partB_2]

theorem outB8 (k : ¬cond0_0 i) : out0_B_8 c i r0 h0 r1 h1 r2 h2 r3 h3 r4 h4 r5 h5 r6 h6 r7 h7 r8 h8 k p q x g w u l = k0_pay4 (k0_pay8 p q x w g) l := by
  unfold out0_B_8
  rw [View.read_writes_eq_canon _ _ _ (cover0_B_8 c i r0 h0 r1 h1 r2 h2 r3 h3 r4 h4 r5 h5 r6 h6 r7 h7 r8 h8 k p q x g w u l)]
  unfold kernelRun0_B
  dsimp only
  rw [View.canon_cons_unit_zero (by funext a; fin_cases a <;> rfl)]
  simp only [View.readAt_eq_ld, h8.read_unread]
  repeat rw [View.ld_unit_zero (by funext a; fin_cases a <;> rfl)]
  rw [partB_1]

end Body

end Cert.Loss
-- ==== Proof.LossRef.lean ====
/-
  The chain rule's formulas for the last norm and the loss, entry by entry.
-/
module

public import proofs.«01_k».proof.Proof.LossKernel
public import proofs.«01_k».proof.Proof.Gen.ReferenceLIdeal.Run

@[expose] public section

set_option maxRecDepth 16384

noncomputable section

open scoped BigOperators

namespace Cert.Loss

open Idealize.ShloMosaic Idealize.ShloMosaic.TcCoe Idealize.ShloMosaic.ValueKit Idealize.SL.Sem Cert.Products Cert.Norm
open Cert.ReferenceLIdeal Cert.ReferenceLIdeal.Gen

variable (v d : FVec Ideal S2048x1024 .f32) (w : FVec Ideal S1x1024 .f32) (g : FVec Ideal S2048x1024 .f32)

/-- The rows' mean squares, shifted. -/
def squares : FVec Ideal S2048x1 .f32 := addf (Host.divf (broadcastInDim S2048x1 ![0] bcast_S2048_S2048x1_0 (Host.reduceAdd (mulf v v) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

/-- The differences of the normed rows and their targets. -/
def errR : FVec Ideal S2048x1024 .f32 := subf (mulf (mulf v (broadcastInDim S2048x1024 ![0, 1] bcast_S2048x1_S2048x1024_0_1 (Host.rsqrt (squares v)))) (broadcastInDim S2048x1024 ![0, 1] bcast_S1x1024_S2048x1024_0_1 w)) g

/-- The gradient of the normed rows. -/
def dyR : FVec Ideal S2048x1024 .f32 := mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) (errR v w g))

/-- What reaches a row's mean square. -/
def slope : FVec Ideal S2048 .f32 := Host.reduceAdd (Host.divf (mulf (shapeCast _ (Host.reduceAdd (mulf v (mulf d (broadcastInDim S2048x1024 ![0, 1] bcast_S1x1024_S2048x1024_0_1 w))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (squares v)) (squares v)))) (broadcastInDim S2048x1 ![] bcast_S_S2048x1 (constant S_ .f32 0x44800000#32))) (constant S_ .f32 0x00000000#32) reducesTo_S2048x1_S2048_d1 h_S_

/-- The gradient of the rows. -/
def rowsR : FVec Ideal S2048x1024 .f32 := addf (addf (mulf (mulf (dyR v w g) (broadcastInDim S2048x1024 ![0, 1] bcast_S1x1024_S2048x1024_0_1 w)) (broadcastInDim S2048x1024 ![0, 1] bcast_S2048x1_S2048x1024_0_1 (Host.rsqrt (squares v)))) (mulf v (broadcastInDim S2048x1024 ![0] bcast_S2048_S2048x1024_0 (slope v (dyR v w g) w)))) (mulf (broadcastInDim S2048x1024 ![0] bcast_S2048_S2048x1024_0 (slope v (dyR v w g) w)) v)

/-- The gradient of the weight. -/
def weightR : FVec Ideal S1x1024 .f32 := shapeCast S1x1024 (Host.reduceAdd (mulf (mulf v (broadcastInDim S2048x1024 ![0, 1] bcast_S2048x1_S2048x1024_0_1 (Host.rsqrt (squares v)))) (dyR v w g)) (constant S_ .f32 0x00000000#32) reducesTo_S2048x1024_S1024_d0 h_S_) shapeCasts_S1024_S1x1024

/-- The loss. -/
def lossR : FVec Ideal S1x1 .f32 := shapeCast S1x1 (mulf (constant S_ .f32 0x3F000000#32) (Host.reduceAdd (Host.divf (Host.reduceAdd (mulf (errR v w g) (errR v w g)) (constant S_ .f32 0x00000000#32) reducesTo_S2048x1024_S2048_d1 h_S_) (broadcastInDim S2048 ![] bcast_S_S2048 (constant S_ .f32 0x44800000#32))) (constant S_ .f32 0x00000000#32) reducesTo_S2048_S_d0 h_S_)) shapeCasts_S_S1x1

theorem half_pos : Ideal.ofBits .f32 0x3F000000#32 = ((1 / 2 : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem err_at (a : Fin 2048) (b : Fin 1024) : errR v w g (ix2 a b) = err (row v a) (row w 0) (row g a) b := by
  unfold errR squares
  pointwise
  rfl

theorem dy_at (a : Fin 2048) (b : Fin 1024) : dyR v w g (ix2 a b) = dy (row v a) (row w 0) (row g a) b := by
  unfold dy
  rw [← err_at]
  unfold dyR
  generalize errR v w g = e
  pointwise
  rw [half_pos, two_eq, show Ideal.ofBits .f32 0x44800000#32 = ((1024 : ℝ) : EReal) from width_eq, Ideal.div_coe (by norm_num), share_eq,
    ← mul_assoc, ← EReal.coe_mul, ← EReal.coe_mul, mul_comm]
  norm_num

theorem rows_at (a : Fin 2048) (b : Fin 1024) : rowsR v w g (ix2 a b) = dv (row v a) (row w 0) (row g a) b := by
  unfold dv
  rw [dx_eq, show dy (row v a) (row w 0) (row g a) = row (dyR v w g) a from funext fun k => (dy_at v w g a k).symm]
  unfold rowsR
  generalize dyR v w g = e
  unfold slope squares dxR dmean scale msq
  pointwise
  rw [Fin.sum_univ_one]

theorem weight_at (b : Fin 1024) : weightR v w g (ix2 0 b) = ∑ k : Fin 2048, dy (row v k) (row w 0) (row g k) b * (v (ix2 k b) * scale (row v k)) := by
  simp only [← dy_at]
  unfold weightR
  generalize dyR v w g = e
  unfold squares
  pointwise
  exact Finset.sum_congr rfl fun k _ => mul_comm _ _

theorem loss_at : lossR v w g (ix2 0 0) = ∑ k : Fin 2048, rowLoss (row v k) (row w 0) (row g k) := by
  simp only [rowLoss, ← err_at]
  unfold lossR
  generalize errR v w g = e
  pointwise
  rw [half_pos, show Ideal.ofBits .f32 0x44800000#32 = ((1024 : ℝ) : EReal) from width_eq, halfShare_eq, sum_mul_pos (by norm_num)]
  simp only [Ideal.div_coe (show (1024 : ℝ) ≠ 0 by norm_num)]
  rw [sum_mul_pos (by norm_num), mul_comm, mul_assoc, ← EReal.coe_mul]
  norm_num

end Cert.Loss
-- ==== Proof.Loss.lean ====
/-
  The last norm and the loss: the kernel's blocks of rows against the chain rule.
-/
module

public import proofs.«01_k».proof.Defs
public import proofs.«01_k».proof.Proof.LossRef
public import proofs.«01_k».proof.Proof.Norm
public import proofs.«01_k».proof.Proof.Gen.KernelL
public import Idealize.ShloMosaic.Adequacy
public import Idealize.ShloMosaic.Init

@[expose] public section

set_option maxRecDepth 16384

noncomputable section

open scoped BigOperators

namespace Cert.Loss

open Idealize.ShloMosaic Idealize.ShloMosaic.TcCoe Idealize.ShloMosaic.ValueKit Idealize.SL.Sem Cert.Products
open Cert.Norm (row plus scale)

section Kernel

open Cert.KernelLIdeal Cert.KernelLIdeal.Gen

variable (m : (ℓ : Loc nD τ sig) → Buf (Elt Ideal) ℓ) (c : Dev nD)

/-- The rows that the last norm is taken of: the product and the residual. -/
def out (z : S2048x1024.Idx) : EReal :=
  plus (∑ u : Fin 2048, times (m ((c : Thread nD τ).loc main_arg0) (ix2 (z 0) u)) (m ((c : Thread nD τ).loc main_arg1) (ix2 u (z 1))))
    (m ((c : Thread nD τ).loc main_arg2) z)

/-- A row of that, a row of the targets, and the weight. -/
abbrev outRow (a : Fin 2048) : Fin 1024 → EReal := row (n := 2048) (out m c) a
abbrev target (a : Fin 2048) : Fin 1024 → EReal := row (n := 2048) (m ((c : Thread nD τ).loc main_arg3)) a
abbrev wgt : Fin 1024 → EReal := row (n := 1) (m ((c : Thread nD τ).loc main_arg4)) 0

/-- The results. -/
def wholeV (z : S2048x1024.Idx) : EReal := dv (outRow m c (z 0)) (wgt m c) (target m c (z 0)) (z 1)
def wholeW (z : S1x1024.Idx) : EReal :=
  ∑ k : Fin 2048, dy (outRow m c k) (wgt m c) (target m c k) (z 1) * (out m c (ix2 k (z 1)) * scale (outRow m c k))
def wholeL (_ : S1x1.Idx) : EReal := ∑ k : Fin 2048, rowLoss (outRow m c k) (wgt m c) (target m c k)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)

theorem blk0 (t : Fin cfg0.N) (a : Fin 256) (k : Fin 2048) (z : Fin 2048) (hz : z.val = t.val * 256 + a.val) :
    (iblk m c 0 t : Vec Ideal S256x2048 .bf16) (ix2 a k) = m ((c : Thread nD τ).loc main_arg0) (ix2 z k) := by
  blk_ext! [iblk, V, index0 t]

theorem blk1 (t : Fin cfg0.N) (k : Fin 2048) (b : Fin 1024) :
    (iblk m c 1 t : Vec Ideal S2048x1024 .bf16) (ix2 k b) = m ((c : Thread nD τ).loc main_arg1) (ix2 k b) := by
  blk_ext! [iblk, V, index1 t]

theorem blk2 (t : Fin cfg0.N) (a : Fin 256) (b : Fin 1024) (z : Fin 2048) (hz : z.val = t.val * 256 + a.val) :
    (iblk m c 2 t : Vec Ideal S256x1024 .f32) (ix2 a b) = m ((c : Thread nD τ).loc main_arg2) (ix2 z b) := by
  blk_ext! [iblk, V, index2 t]

theorem blk3 (t : Fin cfg0.N) (a : Fin 256) (b : Fin 1024) (z : Fin 2048) (hz : z.val = t.val * 256 + a.val) :
    (iblk m c 3 t : Vec Ideal S256x1024 .f32) (ix2 a b) = m ((c : Thread nD τ).loc main_arg3) (ix2 z b) := by
  blk_ext! [iblk, V, index3 t]

theorem blk4 (t : Fin cfg0.N) (b : Fin 1024) :
    (iblk m c 4 t : Vec Ideal S1x1024 .f32) (ix2 0 b) = m ((c : Thread nD τ).loc main_arg4) (ix2 0 b) := by
  blk_ext! [iblk, V, index4 t]

/-- The rows at one point. -/
abbrev rows (t : Fin cfg0.N) : Vec Ideal S256x1024 .f32 := k0_pay5 (iblk m c 0 t : Vec Ideal S256x2048 .bf16) (iblk m c 1 t) (iblk m c 2 t)

theorem rows_eq (t : Fin cfg0.N) (a : Fin 256) (b : Fin 1024) (z : Fin 2048) (hz : z.val = t.val * 256 + a.val) :
    rows m c t (ix2 a b) = out m c (ix2 z b) := by
  unfold rows k0_pay5
  refine congrArg₂ plus ?_ (blk2 m c t a b z hz)
  refine (mm_nn (φ₁ := .bf16) (φ₂ := .bf16) _ (iblk m c 0 t : Vec Ideal S256x2048 .bf16) (iblk m c 1 t) a b).trans (Finset.sum_congr rfl fun k _ => ?_)
  exact congrArg₂ (· * ·) (blk0 m c t a k z hz) (blk1 m c t k b)

theorem row_out (t : Fin cfg0.N) (a : Fin 256) (z : Fin 2048) (hz : z.val = t.val * 256 + a.val) :
    row (n := 256) (rows m c t) a = outRow m c z := funext fun k => rows_eq m c t a k z hz
theorem row_target (t : Fin cfg0.N) (a : Fin 256) (z : Fin 2048) (hz : z.val = t.val * 256 + a.val) :
    row (n := 256) (iblk m c 3 t : Vec Ideal S256x1024 .f32) a = target m c z := funext fun k => blk3 m c t a k z hz
theorem row_wgt (t : Fin cfg0.N) : row (n := 1) (iblk m c 4 t : Vec Ideal S1x1024 .f32) 0 = wgt m c := funext fun k => blk4 m c t k

/-- What every point leaves of the rows' gradient. -/
theorem point5 (t : Fin cfg0.N) : (outsAt0 m c t.val t.isLt).1
    = k0_pay10 (iblk m c 0 t : Vec Ideal S256x2048 .bf16) (iblk m c 1 t) (iblk m c 2 t) (iblk m c 4 t) (iblk m c 3 t) := by
  by_cases h : t.val % 8 = 0
  · have e := congrArg (fun q => q.1) (outsAt0_A m c t h)
    dsimp only at e
    rw [outA5] at e
    exact e
  · have e := congrArg (fun q => q.1) (outsAt0_B m c t h)
    dsimp only at e
    rw [outB5] at e
    exact e

theorem point6 (t : Fin cfg0.N) : (outsAt0 m c t.val t.isLt).2.1
    = k0_pay11 (iblk m c 0 t : Vec Ideal S256x2048 .bf16) (iblk m c 1 t) (iblk m c 2 t) (iblk m c 4 t) (iblk m c 3 t) := by
  by_cases h : t.val % 8 = 0
  · have e := congrArg (fun q => q.2.1) (outsAt0_A m c t h)
    dsimp only at e
    rw [outA6] at e
    exact e
  · have e := congrArg (fun q => q.2.1) (outsAt0_B m c t h)
    dsimp only at e
    rw [outB6] at e
    exact e

theorem at5 (t : Fin cfg0.N) (y : S256x1024.Idx) (z : S2048x1024.Idx) (h0 : (z 0).val = t.val * 256 + (y 0).val) (h1 : (z 1).val = (y 1).val) :
    k0_pay10 (iblk m c 0 t : Vec Ideal S256x2048 .bf16) (iblk m c 1 t) (iblk m c 2 t) (iblk m c 4 t) (iblk m c 3 t) y = wholeV m c z := by
  rw [eq_ix2 y]
  refine (pay10 _ _ _ _ _ (y 0) (y 1)).trans ?_
  have e1 : y 1 = z 1 := Fin.ext h1.symm
  rw [e1, row_target m c t (y 0) (z 0) h0, row_wgt]
  exact congrArg (fun q => dv q (wgt m c) (target m c (z 0)) (z 1)) (row_out m c t (y 0) (z 0) h0)

theorem final5 : (dats m 0 c).arrAt 5 cfg0.N = wholeV m c := by
  refine (dats m 0 c).arrAt_eq_of_covers 5 _ (by decide +kernel) fun t hf y => ?_
  blk_simp
  rw [after0_5, point5]
  refine at5 m c t _ _ ?_ ?_ <;> blk_simp [index5 t]

theorem final6 : (dats m 0 c).arrAt 6 cfg0.N = wholeV m c := by
  refine (dats m 0 c).arrAt_eq_of_covers 6 _ (by decide +kernel) fun t hf y => ?_
  blk_simp
  rw [after0_6, point6]
  refine at5 m c t _ _ ?_ ?_ <;> blk_simp [index6 t]

/-- What the rows before one give to the weight's gradient and to the loss. -/
def weightTerm (b : Fin 1024) (j : ℕ) : EReal :=
  if h : j < 2048 then dy (outRow m c ⟨j, h⟩) (wgt m c) (target m c ⟨j, h⟩) b * (out m c (ix2 ⟨j, h⟩ b) * scale (outRow m c ⟨j, h⟩)) else 0
def lossTerm (j : ℕ) : EReal := if h : j < 2048 then rowLoss (outRow m c ⟨j, h⟩) (wgt m c) (target m c ⟨j, h⟩) else 0

theorem weight_block (t : Fin cfg0.N) (u : Vec Ideal S1x1024 .f32) (b : Fin 1024) :
    k0_pay3 (k0_pay7 (iblk m c 0 t : Vec Ideal S256x2048 .bf16) (iblk m c 1 t) (iblk m c 2 t))
      (k0_pay9 (iblk m c 0 t : Vec Ideal S256x2048 .bf16) (iblk m c 1 t) (iblk m c 2 t) (iblk m c 4 t) (iblk m c 3 t)) u (ix2 0 b)
      = plus (u (ix2 0 b)) (∑ k ∈ Finset.range 256, weightTerm m c b (t.val * 256 + k)) := by
  have hN : t.val < 8 := t.isLt
  refine (pay3 _ _ _ _ _ u 0 b).trans (congrArg (plus (u (ix2 0 b))) ?_)
  rw [← Fin.sum_univ_eq_sum_range (fun k => weightTerm m c b (t.val * 256 + k))]
  refine Finset.sum_congr rfl fun k _ => ?_
  have hk : t.val * 256 + k.val < 2048 := by omega
  unfold weightTerm
  rw [dif_pos hk, row_target m c t k ⟨_, hk⟩ rfl, row_wgt]
  have er := row_out m c t k ⟨_, hk⟩ rfl
  exact congrArg₂ (· * ·) (congrArg (fun q => dy q (wgt m c) (target m c ⟨_, hk⟩) b) er)
    (congrArg₂ (· * ·) (rows_eq m c t k b ⟨_, hk⟩ rfl) (congrArg scale er))

theorem loss_block (t : Fin cfg0.N) (l : Vec Ideal S1x1 .f32) :
    k0_pay4 (k0_pay8 (iblk m c 0 t : Vec Ideal S256x2048 .bf16) (iblk m c 1 t) (iblk m c 2 t) (iblk m c 4 t) (iblk m c 3 t)) l (ix2 0 0)
      = plus (l (ix2 0 0)) (∑ k ∈ Finset.range 256, lossTerm m c (t.val * 256 + k)) := by
  have hN : t.val < 8 := t.isLt
  refine (pay4 _ _ _ _ _ l 0 0).trans (congrArg (plus (l (ix2 0 0))) ?_)
  rw [← Fin.sum_univ_eq_sum_range (fun k => lossTerm m c (t.val * 256 + k)), mul_comm, halfShare_eq, ← Cert.Norm.sum_mul_pos (by norm_num), ← halfShare_eq]
  refine Finset.sum_congr rfl fun k _ => ?_
  have hk : t.val * 256 + k.val < 2048 := by omega
  unfold lossTerm
  rw [dif_pos hk, row_target m c t k ⟨_, hk⟩ rfl, row_wgt]
  exact congrArg (fun q => rowLoss q (wgt m c) (target m c ⟨_, hk⟩)) (row_out m c t k ⟨_, hk⟩ rfl)

/-- After each point the two sums run over the rows so far. -/
theorem weight_so_far (b : Fin 1024) : ∀ (n : ℕ) (h : n < cfg0.N),
    (outsAt0 m c n h).2.2.1 (ix2 0 b) = ∑ k ∈ Finset.range ((n + 1) * 256), weightTerm m c b k
  | 0, h => by
    have e := congrArg (fun q => q.2.2.1) (outsAt0_A m c ⟨0, h⟩ rfl)
    dsimp only at e
    rw [outA7] at e
    refine (congrFun e _).trans ((weight_block m c ⟨0, h⟩ _ b).trans ?_)
    refine (congrArg (fun q => plus q _) Ideal.ofBits_zero_f32).trans ((zero_add _).trans ?_)
    simp only [Nat.zero_mul, Nat.zero_add, Nat.one_mul]
  | n + 1, h => by
    have hN : n + 1 < 8 := h
    have e := congrArg (fun q => q.2.2.1) (outsAt0_B m c ⟨n + 1, h⟩ (by dsimp only; omega))
    dsimp only at e
    rw [outB7] at e
    refine (congrFun e _).trans ((weight_block m c ⟨n + 1, h⟩ _ b).trans ?_)
    rw [Nat.add_mul (n + 1), Nat.one_mul, Finset.sum_range_add]
    exact congrArg (fun q => plus q _) (weight_so_far b n (Nat.lt_of_succ_lt h))

theorem loss_so_far : ∀ (n : ℕ) (h : n < cfg0.N),
    (outsAt0 m c n h).2.2.2 (ix2 0 0) = ∑ k ∈ Finset.range ((n + 1) * 256), lossTerm m c k
  | 0, h => by
    have e := congrArg (fun q => q.2.2.2) (outsAt0_A m c ⟨0, h⟩ rfl)
    dsimp only at e
    rw [outA8] at e
    refine (congrFun e _).trans ((loss_block m c ⟨0, h⟩ _).trans ?_)
    refine (congrArg (fun q => plus q _) Ideal.ofBits_zero_f32).trans ((zero_add _).trans ?_)
    simp only [Nat.zero_mul, Nat.zero_add, Nat.one_mul]
  | n + 1, h => by
    have hN : n + 1 < 8 := h
    have e := congrArg (fun q => q.2.2.2) (outsAt0_B m c ⟨n + 1, h⟩ (by dsimp only; omega))
    dsimp only at e
    rw [outB8] at e
    refine (congrFun e _).trans ((loss_block m c ⟨n + 1, h⟩ _).trans ?_)
    rw [Nat.add_mul (n + 1), Nat.one_mul, Finset.sum_range_add]
    exact congrArg (fun q => plus q _) (loss_so_far n (Nat.lt_of_succ_lt h))

theorem weight_end (b : Fin 1024) (h : 7 < cfg0.N) : (outsAt0 m c 7 h).2.2.1 (ix2 0 b) = wholeW m c (ix2 0 b) := by
  refine (weight_so_far m c b 7 h).trans ((Fin.sum_univ_eq_sum_range (weightTerm m c b) 2048).symm.trans (Finset.sum_congr rfl fun k _ => ?_))
  exact dif_pos k.isLt

theorem loss_end (h : 7 < cfg0.N) (z : S1x1.Idx) : (outsAt0 m c 7 h).2.2.2 (ix2 0 0) = wholeL m c z := by
  refine (loss_so_far m c 7 h).trans ((Fin.sum_univ_eq_sum_range (lossTerm m c) 2048).symm.trans (Finset.sum_congr rfl fun k _ => ?_))
  exact dif_pos k.isLt

theorem out_weight (t : Fin cfg0.N) (ht : t.val % 8 = 7) (y z : S1x1024.Idx) (h1 : (z 1).val = (y 1).val) :
    (outsAt0 m c t.val t.isLt).2.2.1 y = wholeW m c z := by
  have hN : t.val < 8 := t.isLt
  have h7 : t.val = 7 := by omega
  obtain ⟨n, hn⟩ := t
  obtain rfl : n = 7 := h7
  have e : y = ix2 0 (y 1) := (eq_ix2 y).trans (congrArg (fun q => ix2 q (y 1)) (Fin.fin_one_eq_zero (y 0)))
  rw [e]
  refine (weight_end m c (y 1) hn).trans ?_
  have e1 : y 1 = z 1 := Fin.ext h1.symm
  rw [e1]
  rfl

theorem out_loss (t : Fin cfg0.N) (ht : t.val % 8 = 7) (y z : S1x1.Idx) : (outsAt0 m c t.val t.isLt).2.2.2 y = wholeL m c z := by
  have hN : t.val < 8 := t.isLt
  have h7 : t.val = 7 := by omega
  obtain ⟨n, hn⟩ := t
  obtain rfl : n = 7 := h7
  have e : y = ix2 0 0 := (eq_ix2 y).trans (congrArg₂ ix2 (Fin.fin_one_eq_zero (y 0)) (Fin.fin_one_eq_zero (y 1)))
  rw [e]
  exact loss_end m c hn z

theorem final7 : (dats m 0 c).arrAt 7 cfg0.N = wholeW m c := by
  refine (dats m 0 c).arrAt_eq_of_covers 7 _ (by decide +kernel) fun t hf y => ?_
  blk_simp
  rw [after0_7]
  refine out_weight m c t ((flush0_7 t).mp hf) _ _ ?_
  blk_simp [index7 t]

theorem final8 : (dats m 0 c).arrAt 8 cfg0.N = wholeL m c := by
  refine (dats m 0 c).arrAt_eq_of_covers 8 _ (by decide +kernel) fun t hf y => ?_
  blk_simp
  rw [after0_8]
  exact out_loss m c t ((flush0_8 t).mp hf) _ _

end Kernel

section Reference

open Cert.ReferenceLIdeal Cert.ReferenceLIdeal.Gen

/-- The rows that the last norm is taken of, as the reference writes them. -/
abbrev outR (p : FVec Ideal S2048x2048 .bf16) (q : FVec Ideal S2048x1024 .bf16) (x : FVec Ideal S2048x1024 .f32) : FVec Ideal S2048x1024 .f32 :=
  addf x (Host.dotGeneral dot_S2048x2048_S2048x1024_S2048x1024_1_0_0_1_n_n none (extf .f32 p bitsLt_bf16_f32) (extf .f32 q bitsLt_bf16_f32))

theorem outR_eq (m : (ℓ : Loc Cert.KernelLIdeal.nD Cert.KernelLIdeal.τ Cert.KernelLIdeal.sig) → Buf (Elt Ideal) ℓ) (c : Dev Cert.KernelLIdeal.nD) :
    outR (m ((c : Thread Cert.KernelLIdeal.nD Cert.KernelLIdeal.τ).loc Cert.KernelLIdeal.main_arg0))
      (m ((c : Thread Cert.KernelLIdeal.nD Cert.KernelLIdeal.τ).loc Cert.KernelLIdeal.main_arg1))
      (m ((c : Thread Cert.KernelLIdeal.nD Cert.KernelLIdeal.τ).loc Cert.KernelLIdeal.main_arg2)) = out m c := by
  refine ext_ix2 _ _ fun a b => ?_
  refine (add_comm (G := EReal) _ _).trans (congrArg₂ plus ?_ rfl)
  exact host_nn (φ₁ := .f32) (φ₂ := .f32) _ _ _ a b

end Reference

theorem values : Cert.algebraic_KernelLIdeal_ReferenceLIdeal := by
  intro m g m' g' _ hargs
  refine ⟨fun c => wholeV m c, fun c => wholeV m c, fun c => wholeW m c, fun c => wholeL m c, ?_, ?_⟩
  · refine (θ_run Cert.KernelLIdeal.defs _ _).mono (fun r h c => ?_) (Cert.KernelLIdeal.Value.run_blocks m g)
    exact ⟨(h c).1.trans (final5 m c), (h c).2.1.trans (final6 m c), (h c).2.2.1.trans (final7 m c), (h c).2.2.2.1.trans (final8 m c),
      (h c).2.2.2.2⟩
  · refine (θ_run Cert.ReferenceLIdeal.defs _ _).mono (fun r h c => ?_) (Cert.ReferenceLIdeal.Value.run m' g')
    obtain ⟨h0, h1, h2, h3, h4⟩ := hargs c
    have hv : rowsR (out m c) (m ((c : Thread Cert.KernelLIdeal.nD Cert.KernelLIdeal.τ).loc Cert.KernelLIdeal.main_arg4))
        (m ((c : Thread Cert.KernelLIdeal.nD Cert.KernelLIdeal.τ).loc Cert.KernelLIdeal.main_arg3)) = wholeV m c :=
      ext_ix2 _ _ fun a b => rows_at _ _ _ a b
    refine ⟨(h c).1.trans ?_, (h c).2.1.trans ?_, (h c).2.2.1.trans ?_, (h c).2.2.2.1.trans ?_, (h c).2.2.2.2⟩
    · unfold Cert.ReferenceLIdeal.Value.res_main_v52
      rw [h0, h1, h2, h3, h4]
      refine Eq.trans (b := rowsR (outR _ _ _) _ _) rfl ?_
      rw [outR_eq]
      exact hv
    · unfold Cert.ReferenceLIdeal.Value.res_main_v53
      rw [h0, h1, h2, h3, h4]
      refine Eq.trans (b := rowsR (outR _ _ _) _ _) rfl ?_
      rw [outR_eq]
      exact hv
    · rw [h0, h1, h2, h3, h4]
      refine Eq.trans (b := weightR (outR _ _ _) _ _) rfl ?_
      rw [outR_eq]
      refine ext_ix2 _ _ fun a b => ?_
      rw [Fin.fin_one_eq_zero a]
      exact weight_at _ _ _ b
    · rw [h0, h1, h2, h3, h4]
      refine Eq.trans (b := lossR (outR _ _ _) _ _) rfl ?_
      rw [outR_eq]
      refine ext_ix2 _ _ fun a b => ?_
      rw [Fin.fin_one_eq_zero a, Fin.fin_one_eq_zero b]
      exact loss_at _ _ _

section Frame

variable {F : FTy → Type} [FloatOps F]

/-- The kernel and its idealization have the same text. -/
theorem body_eq : (Cert.KernelL.cc0_out_loss (F := F)) = (Cert.KernelLIdeal.cc0_out_loss (F := F)) := rfl

theorem bodies_eq : (Cert.KernelL.defs₀ (F := F)) = (Cert.KernelLIdeal.defs₀ (F := F)) := by
  unfold Cert.KernelL.defs₀ Cert.KernelLIdeal.defs₀
  refine congrArg Defs.onTc (funext fun l => funext fun a => ?_)
  match l, a with
  | 0, (t, s) =>
    dsimp only
    rw [body_eq]
    rfl
  | ⟨_ + 1, h⟩, _ => exact absurd h (Nat.not_lt.2 (Nat.le_add_left _ _))

theorem defs_eq : (Cert.KernelL.defs (F := F)) = (Cert.KernelLIdeal.defs (F := F)) :=
  congrArg (Pipeline.defs Cert.KernelLIdeal.pcfgs) bodies_eq

end Frame

/-- The kernel's frame: the run stated over any floats, read at bit patterns. -/
theorem frame_kernel : Cert.quiescent_KernelL := by
  intro m ρ _
  rw [defs_eq]
  exact Cert.KernelLIdeal.Gen.frame (F := Bits) m ρ

theorem frame_ideal : Cert.quiescent_KernelLIdeal := fun m ρ _ => Cert.KernelLIdeal.Gen.frame m ρ

theorem frame_reference : Cert.quiescent_ReferenceLIdeal := fun m ρ _ =>
  (θ_run Cert.ReferenceLIdeal.defs _ _).mono (fun r h => ⟨fun c => (h c).2.2.2.2, sem_eq_zero_of_no_sems (by decide) r.2⟩)
    (Cert.ReferenceLIdeal.Value.run m ρ)

end Cert.Loss
-- ==== Proof.FirstNorm.lean ====
/-
  The first norm of the input's rows: the kernel's tiles and the whole.
-/
module

public import proofs.«01_k».proof.Defs
public import proofs.«01_k».proof.Proof.Rms
public import proofs.«01_k».proof.Proof.ProductOps
public import proofs.«01_k».proof.Proof.Norm
public import proofs.«01_k».proof.Proof.Gen.KernelN.Frame
public import proofs.«01_k».proof.Proof.Gen.KernelNIdeal.Value
public import proofs.«01_k».proof.Proof.Gen.ReferenceNIdeal.Run
public import Idealize.ShloMosaic.Adequacy
public import Idealize.ShloMosaic.Init

@[expose] public section

set_option maxRecDepth 16384

noncomputable section

open scoped BigOperators

namespace Cert.FirstNorm

open Idealize.ShloMosaic Idealize.ShloMosaic.TcCoe Idealize.ShloMosaic.ValueKit Idealize.SL.Sem Cert.Products
open Cert.Norm (row scale msq)

section Kernel

open Cert.KernelNIdeal Cert.KernelNIdeal.Gen

/-- One tile: the entry times the row's scale and the weight. -/
theorem tile (x : Vec Ideal S256x1024 .f32) (w : Vec Ideal S1x1024 .f32) (a : Fin 256) (b : Fin 1024) :
    out0_2 x w (ix2 a b) = (x (ix2 a b) * scale (row (n := 256) x a) * w (ix2 0 b) : EReal) := by
  unfold out0_2
  rw [View.canon_unit_zero (by funext a; fin_cases a <;> rfl), View.ld_unit_zero (by funext a; fin_cases a <;> rfl),
    View.ld_unit_zero (by funext a; fin_cases a <;> rfl)]
  unfold k0_pay1
  pointwise
  rfl

variable (m : (ℓ : Loc nD τ sig) → Buf (Elt Ideal) ℓ) (c : Dev nD)

/-- The normed rows. -/
def whole (z : S2048x1024.Idx) : EReal :=
  times (times (m ((c : Thread nD τ).loc main_arg0) z) (scale (row (n := 2048) (m ((c : Thread nD τ).loc main_arg0)) (z 0))))
    (m ((c : Thread nD τ).loc main_arg1) (ix2 0 (z 1)))

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem blk0 (t : Fin cfg0.N) (a : Fin 256) (b : Fin 1024) (z : Fin 2048) (hz : z.val = t.val * 256 + a.val) :
    (iblk m c 0 t : Vec Ideal S256x1024 .f32) (ix2 a b) = m ((c : Thread nD τ).loc main_arg0) (ix2 z b) := by
  blk_ext! [iblk, V, index0 t]

theorem blk1 (t : Fin cfg0.N) (b : Fin 1024) :
    (iblk m c 1 t : Vec Ideal S1x1024 .f32) (ix2 0 b) = m ((c : Thread nD τ).loc main_arg1) (ix2 0 b) := by
  blk_ext! [iblk, V, index1 t]

theorem at_ (t : Fin cfg0.N) (y : S256x1024.Idx) (z : S2048x1024.Idx) (h0 : (z 0).val = t.val * 256 + (y 0).val)
    (h1 : (z 1).val = (y 1).val) : out0_2 (iblk m c 0 t) (iblk m c 1 t) y = whole m c z := by
  have e1 : y 1 = z 1 := Fin.ext h1.symm
  rw [eq_ix2 y, e1]
  refine (tile _ _ (y 0) (z 1)).trans ?_
  have ez : m ((c : Thread nD τ).loc main_arg0) (ix2 (z 0) (z 1)) = m ((c : Thread nD τ).loc main_arg0) z := congrArg _ (eq_ix2 z).symm
  exact congrArg₂ times (congrArg₂ times ((blk0 m c t (y 0) (z 1) (z 0) h0).trans ez)
    (congrArg scale (funext fun k => blk0 m c t (y 0) k (z 0) h0))) (blk1 m c t (z 1))

theorem final : (dats m 0 c).arrAt 2 cfg0.N = whole m c := by
  refine (dats m 0 c).arrAt_eq_of_covers 2 _ (by decide +kernel) fun t hf y => ?_
  blk_simp
  rw [after0_2]
  refine at_ m c t _ _ ?_ ?_ <;> blk_simp [index2 t]

end Kernel

section Reference

open Cert.ReferenceNIdeal Cert.ReferenceNIdeal.Gen

/-- The reference's rows. -/
def normR (x : FVec Ideal S2048x1024 .f32) (w : FVec Ideal S1x1024 .f32) : FVec Ideal S2048x1024 .f32 :=
  mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 w)

theorem norm_at (x : FVec Ideal S2048x1024 .f32) (w : FVec Ideal S1x1024 .f32) (a : Fin 2048) (b : Fin 1024) :
    normR x w (ix2 a b) = (x (ix2 a b) * scale (row (n := 2048) x a) * w (ix2 0 b) : EReal) := by
  unfold normR
  pointwise
  rfl

end Reference

theorem values : Cert.algebraic_KernelNIdeal_ReferenceNIdeal := by
  intro m g m' g' _ hargs
  refine ⟨fun c => whole m c, ?_, ?_⟩
  · refine (θ_run Cert.KernelNIdeal.defs _ _).mono (fun r h c => ?_) (Cert.KernelNIdeal.Value.run_blocks m g)
    exact ⟨(h c).1.trans (final m c), (h c).2⟩
  · refine (θ_run Cert.ReferenceNIdeal.defs _ _).mono (fun r h c => ?_) (Cert.ReferenceNIdeal.Value.run m' g')
    obtain ⟨h0, h1⟩ := hargs c
    refine ⟨(h c).1.trans ?_, (h c).2⟩
    rw [h0, h1]
    refine Eq.trans (b := normR _ _) rfl ?_
    exact ext_ix2 _ _ fun a b => norm_at _ _ a b

theorem frame_kernel : Cert.quiescent_KernelN := fun m ρ _ => Cert.KernelN.Gen.frame m ρ

theorem frame_ideal : Cert.quiescent_KernelNIdeal := fun m ρ _ => Cert.KernelNIdeal.Gen.frame m ρ

theorem frame_reference : Cert.quiescent_ReferenceNIdeal := fun m ρ _ =>
  (θ_run Cert.ReferenceNIdeal.defs _ _).mono (fun _ h => ⟨fun c => (h c).2, sem_eq_zero_of_no_sems (by decide) _⟩)
    (Cert.ReferenceNIdeal.Value.run m ρ)

end Cert.FirstNorm

end
-- ==== Proof.Adam.lean ====
/-
  AdamW's step on the output projection's weights: the kernel's tiles and the whole.
-/
module

public import proofs.«01_k».proof.Defs
public import proofs.«01_k».proof.Proof.Rms
public import proofs.«01_k».proof.Proof.ProductOps
public import proofs.«01_k».proof.Proof.Norm
public import proofs.«01_k».proof.Proof.Gen.KernelA.Frame
public import proofs.«01_k».proof.Proof.Gen.KernelAIdeal.Value
public import proofs.«01_k».proof.Proof.Gen.ReferenceAIdeal.Run
public import Idealize.ShloMosaic.Adequacy
public import Idealize.ShloMosaic.Init

@[expose] public section

set_option maxRecDepth 16384

noncomputable section

open scoped BigOperators

namespace Cert.Adam

open Idealize.ShloMosaic Idealize.ShloMosaic.TcCoe Idealize.ShloMosaic.ValueKit Idealize.SL.Sem Cert.Products

/-- The step on one entry, as the reference writes it: the gradient, the two moments and the change of the weight. -/
def grad (g1 g2 : EReal) : EReal := g1 + g2
def first (m g : EReal) : EReal := Ideal.ofBits .f32 0x3F666666#32 * m + Ideal.ofBits .f32 0x3DCCCCCD#32 * g
def second (v g : EReal) : EReal := Ideal.ofBits .f32 0x3F7FBE77#32 * v + Ideal.ofBits .f32 0x3A83126F#32 * (g * g)
abbrev bias1 : EReal := Ideal.ofBits .f32 0x3F26BD02#32
abbrev bias2 : EReal := Ideal.ofBits .f32 0x3C231ACC#32
def delta (w m v g : EReal) : EReal :=
  Ideal.ofBits .f32 0xBA83126F#32 * (Ideal.div (Ideal.div (first m g) bias1) (Ideal.sqrt (Ideal.div (second v g) bias2) + Ideal.ofBits .f32 0x322BCC77#32)
    + Ideal.ofBits .f32 0x3C23D70A#32 * w)

theorem bias1_eq : bias1 = ((5463681 / 8388608 : ℝ) : EReal) := by
  simp [bias1, Ideal.ofBits, Ideal.ieee]
  rw [← EReal.coe_mul]
  norm_num

theorem bias2_eq : bias2 = ((2672307 / 268435456 : ℝ) : EReal) := by
  simp [bias2, Ideal.ofBits, Ideal.ieee]
  rw [← EReal.coe_mul]
  norm_num

/-- The kernel's named factors are the reciprocals of the reference's divisors. -/
theorem correction1 : Named.named (F := Ideal) Cert.KernelAIdeal.κ "first_correction" (φ := .f32) 0x3FC48605#32 = ((8388608 / 5463681 : ℝ) : EReal) :=
  IdealRules.named_const.ideal_named_scalar _ _ _ _ rfl
theorem correction2 : Named.named (F := Ideal) Cert.KernelAIdeal.κ "second_correction" (φ := .f32) 0x42C8E6D3#32 = ((268435456 / 2672307 : ℝ) : EReal) :=
  IdealRules.named_const.ideal_named_scalar _ _ _ _ rfl

section Kernel

open Cert.KernelAIdeal Cert.KernelAIdeal.Gen

section Tiles

variable (w m v g1 g2 : Vec Ideal S128x1024 .f32) (y : S128x1024.Idx)

theorem tile5 : out0_5 w m v g1 g2 y = grad (g1 y) (g2 y) := by
  unfold out0_5
  rw [View.canon_unit_zero (by funext a; fin_cases a <;> rfl)]
  repeat rw [View.ld_unit_zero (by funext a; fin_cases a <;> rfl)]
  rfl

theorem tile6 : out0_6 w m v g1 g2 y = delta (w y) (m y) (v y) (grad (g1 y) (g2 y)) := by
  unfold out0_6
  rw [View.canon_unit_zero (by funext a; fin_cases a <;> rfl)]
  repeat rw [View.ld_unit_zero (by funext a; fin_cases a <;> rfl)]
  unfold delta
  rw [bias1_eq, bias2_eq, Ideal.div_coe (by norm_num), Ideal.div_coe (by norm_num), one_div_div, one_div_div, ← correction1, ← correction2]
  rfl

theorem tile7 : out0_7 w m v g1 g2 y = first (m y) (grad (g1 y) (g2 y)) := by
  unfold out0_7
  rw [View.canon_unit_zero (by funext a; fin_cases a <;> rfl)]
  repeat rw [View.ld_unit_zero (by funext a; fin_cases a <;> rfl)]
  rfl

theorem tile8 : out0_8 w m v g1 g2 y = second (v y) (grad (g1 y) (g2 y)) := by
  unfold out0_8
  rw [View.canon_unit_zero (by funext a; fin_cases a <;> rfl)]
  repeat rw [View.ld_unit_zero (by funext a; fin_cases a <;> rfl)]
  rfl

end Tiles

variable (m : (ℓ : Loc nD τ sig) → Buf (Elt Ideal) ℓ) (c : Dev nD)

/-- The results: the gradient, the change of the weights and the moments. -/
def wholeG (z : S512x1024.Idx) : EReal := grad (m ((c : Thread nD τ).loc main_arg3) z) (m ((c : Thread nD τ).loc main_arg4) z)
def wholeD (z : S512x1024.Idx) : EReal := delta (m ((c : Thread nD τ).loc main_arg0) z) (m ((c : Thread nD τ).loc main_arg1) z) (m ((c : Thread nD τ).loc main_arg2) z) (grad (m ((c : Thread nD τ).loc main_arg3) z) (m ((c : Thread nD τ).loc main_arg4) z))
def wholeM (z : S512x1024.Idx) : EReal := first (m ((c : Thread nD τ).loc main_arg1) z) (grad (m ((c : Thread nD τ).loc main_arg3) z) (m ((c : Thread nD τ).loc main_arg4) z))
def wholeV (z : S512x1024.Idx) : EReal := second (m ((c : Thread nD τ).loc main_arg2) z) (grad (m ((c : Thread nD τ).loc main_arg3) z) (m ((c : Thread nD τ).loc main_arg4) z))

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)

theorem blk0 (t : Fin cfg0.N) (y : S128x1024.Idx) (z : S512x1024.Idx) (h0 : (z 0).val = t.val * 128 + (y 0).val) (h1 : (z 1).val = (y 1).val) :
    (iblk m c 0 t : Vec Ideal S128x1024 .f32) y = m ((c : Thread nD τ).loc main_arg0) z := by
  blk_ext! [iblk, V, index0 t]

theorem blk1 (t : Fin cfg0.N) (y : S128x1024.Idx) (z : S512x1024.Idx) (h0 : (z 0).val = t.val * 128 + (y 0).val) (h1 : (z 1).val = (y 1).val) :
    (iblk m c 1 t : Vec Ideal S128x1024 .f32) y = m ((c : Thread nD τ).loc main_arg1) z := by
  blk_ext! [iblk, V, index1 t]

theorem blk2 (t : Fin cfg0.N) (y : S128x1024.Idx) (z : S512x1024.Idx) (h0 : (z 0).val = t.val * 128 + (y 0).val) (h1 : (z 1).val = (y 1).val) :
    (iblk m c 2 t : Vec Ideal S128x1024 .f32) y = m ((c : Thread nD τ).loc main_arg2) z := by
  blk_ext! [iblk, V, index2 t]

theorem blk3 (t : Fin cfg0.N) (y : S128x1024.Idx) (z : S512x1024.Idx) (h0 : (z 0).val = t.val * 128 + (y 0).val) (h1 : (z 1).val = (y 1).val) :
    (iblk m c 3 t : Vec Ideal S128x1024 .f32) y = m ((c : Thread nD τ).loc main_arg3) z := by
  blk_ext! [iblk, V, index3 t]

theorem blk4 (t : Fin cfg0.N) (y : S128x1024.Idx) (z : S512x1024.Idx) (h0 : (z 0).val = t.val * 128 + (y 0).val) (h1 : (z 1).val = (y 1).val) :
    (iblk m c 4 t : Vec Ideal S128x1024 .f32) y = m ((c : Thread nD τ).loc main_arg4) z := by
  blk_ext! [iblk, V, index4 t]

theorem at5 (t : Fin cfg0.N) (y : S128x1024.Idx) (z : S512x1024.Idx) (h0 : (z 0).val = t.val * 128 + (y 0).val) (h1 : (z 1).val = (y 1).val) :
    out0_5 (iblk m c 0 t) (iblk m c 1 t) (iblk m c 2 t) (iblk m c 3 t) (iblk m c 4 t) y = wholeG m c z := by
  refine (tile5 _ _ _ _ _ y).trans ?_
  unfold wholeG
  rw [← blk3 m c t y z h0 h1, ← blk4 m c t y z h0 h1]

theorem at6 (t : Fin cfg0.N) (y : S128x1024.Idx) (z : S512x1024.Idx) (h0 : (z 0).val = t.val * 128 + (y 0).val) (h1 : (z 1).val = (y 1).val) :
    out0_6 (iblk m c 0 t) (iblk m c 1 t) (iblk m c 2 t) (iblk m c 3 t) (iblk m c 4 t) y = wholeD m c z := by
  refine (tile6 _ _ _ _ _ y).trans ?_
  unfold wholeD
  rw [← blk0 m c t y z h0 h1, ← blk1 m c t y z h0 h1, ← blk2 m c t y z h0 h1, ← blk3 m c t y z h0 h1, ← blk4 m c t y z h0 h1]

theorem at7 (t : Fin cfg0.N) (y : S128x1024.Idx) (z : S512x1024.Idx) (h0 : (z 0).val = t.val * 128 + (y 0).val) (h1 : (z 1).val = (y 1).val) :
    out0_7 (iblk m c 0 t) (iblk m c 1 t) (iblk m c 2 t) (iblk m c 3 t) (iblk m c 4 t) y = wholeM m c z := by
  refine (tile7 _ _ _ _ _ y).trans ?_
  unfold wholeM
  rw [← blk1 m c t y z h0 h1, ← blk3 m c t y z h0 h1, ← blk4 m c t y z h0 h1]

theorem at8 (t : Fin cfg0.N) (y : S128x1024.Idx) (z : S512x1024.Idx) (h0 : (z 0).val = t.val * 128 + (y 0).val) (h1 : (z 1).val = (y 1).val) :
    out0_8 (iblk m c 0 t) (iblk m c 1 t) (iblk m c 2 t) (iblk m c 3 t) (iblk m c 4 t) y = wholeV m c z := by
  refine (tile8 _ _ _ _ _ y).trans ?_
  unfold wholeV
  rw [← blk2 m c t y z h0 h1, ← blk3 m c t y z h0 h1, ← blk4 m c t y z h0 h1]

theorem final5 : (dats m 0 c).arrAt 5 cfg0.N = wholeG m c := by
  refine (dats m 0 c).arrAt_eq_of_covers 5 _ (by decide +kernel) fun t hf y => ?_
  blk_simp
  rw [after0_5]
  refine at5 m c t _ _ ?_ ?_ <;> blk_simp [index5 t]

theorem final6 : (dats m 0 c).arrAt 6 cfg0.N = wholeD m c := by
  refine (dats m 0 c).arrAt_eq_of_covers 6 _ (by decide +kernel) fun t hf y => ?_
  blk_simp
  rw [after0_6]
  refine at6 m c t _ _ ?_ ?_ <;> blk_simp [index6 t]

theorem final7 : (dats m 0 c).arrAt 7 cfg0.N = wholeM m c := by
  refine (dats m 0 c).arrAt_eq_of_covers 7 _ (by decide +kernel) fun t hf y => ?_
  blk_simp
  rw [after0_7]
  refine at7 m c t _ _ ?_ ?_ <;> blk_simp [index7 t]

theorem final8 : (dats m 0 c).arrAt 8 cfg0.N = wholeV m c := by
  refine (dats m 0 c).arrAt_eq_of_covers 8 _ (by decide +kernel) fun t hf y => ?_
  blk_simp
  rw [after0_8]
  refine at8 m c t _ _ ?_ ?_ <;> blk_simp [index8 t]

end Kernel

theorem values : Cert.algebraic_KernelAIdeal_ReferenceAIdeal := by
  intro m g m' g' _ hargs
  refine ⟨fun c => wholeG m c, fun c => wholeD m c, fun c => wholeM m c, fun c => wholeV m c, ?_, ?_⟩
  · refine (θ_run Cert.KernelAIdeal.defs _ _).mono (fun r h c => ?_) (Cert.KernelAIdeal.Value.run_blocks m g)
    exact ⟨(h c).1.trans (final5 m c), (h c).2.1.trans (final6 m c), (h c).2.2.1.trans (final7 m c), (h c).2.2.2.1.trans (final8 m c),
      (h c).2.2.2.2⟩
  · refine (θ_run Cert.ReferenceAIdeal.defs _ _).mono (fun r h c => ?_) (Cert.ReferenceAIdeal.Value.run m' g')
    obtain ⟨h0, h1, h2, h3, h4⟩ := hargs c
    refine ⟨(h c).1.trans ?_, (h c).2.1.trans ?_, (h c).2.2.1.trans ?_, (h c).2.2.2.1.trans ?_, (h c).2.2.2.2⟩
    · rw [h3, h4]
      rfl
    · rw [h0, h1, h2, h3, h4]
      rfl
    · rw [h1, h3, h4]
      rfl
    · rw [h2, h3, h4]
      rfl

/-- The two named constants are the table's values. -/
theorem preserves : Cert.preserves_KernelA_KernelAIdeal :=
  ⟨IdealRules.named_const.statement Cert.KernelAIdeal.κ "first_correction" .f32 0x3FC48605#32 ((8388608 / 5463681 : ℝ) : EReal) rfl,
    IdealRules.named_const.statement Cert.KernelAIdeal.κ "second_correction" .f32 0x42C8E6D3#32 ((268435456 / 2672307 : ℝ) : EReal) rfl⟩

theorem frame_kernel : Cert.quiescent_KernelA := fun m ρ _ => Cert.KernelA.Gen.frame m ρ

theorem frame_ideal : Cert.quiescent_KernelAIdeal := fun m ρ _ => Cert.KernelAIdeal.Gen.frame m ρ

theorem frame_reference : Cert.quiescent_ReferenceAIdeal := fun m ρ _ =>
  (θ_run Cert.ReferenceAIdeal.defs _ _).mono (fun _ h => ⟨fun c => (h c).2.2.2.2, sem_eq_zero_of_no_sems (by decide) _⟩)
    (Cert.ReferenceAIdeal.Value.run m ρ)

end Cert.Adam

end
-- ==== Proof.lean ====
/-
  The claims about the backward scan, the six matrix products, the first norm with its backward pass, the loss with the last
  norm and AdamW's step: the frames of the kernels and of the references, and their equality over the reals.
-/
module

public import proofs.«01_k».proof.Defs
public import proofs.«01_k».proof.Proof.Same
public import proofs.«01_k».proof.Proof.Values
public import proofs.«01_k».proof.Proof.ProductG
public import proofs.«01_k».proof.Proof.ProductC
public import proofs.«01_k».proof.Proof.ProductO
public import proofs.«01_k».proof.Proof.ProductH
public import proofs.«01_k».proof.Proof.ProductPG
public import proofs.«01_k».proof.Proof.ProductPC
public import proofs.«01_k».proof.Proof.Norm
public import proofs.«01_k».proof.Proof.Loss
public import proofs.«01_k».proof.Proof.FirstNorm
public import proofs.«01_k».proof.Proof.Adam
public import proofs.«01_k».proof.Proof.Gen.Pre_finite
public import proofs.«01_k».proof.Proof.Gen.KernelIdeal.Value
public import proofs.«01_k».proof.Proof.Gen.ReferenceIdeal.Run
public import proofs.«01_k».proof.Proof.Gen.KernelG
public import proofs.«01_k».proof.Proof.Gen.KernelGIdeal.Value
public import proofs.«01_k».proof.Proof.Gen.ReferenceGIdeal.Run
public import proofs.«01_k».proof.Proof.Gen.KernelC
public import proofs.«01_k».proof.Proof.Gen.KernelCIdeal.Value
public import proofs.«01_k».proof.Proof.Gen.ReferenceCIdeal.Run
public import proofs.«01_k».proof.Proof.Gen.KernelO
public import proofs.«01_k».proof.Proof.Gen.KernelOIdeal.Value
public import proofs.«01_k».proof.Proof.Gen.ReferenceOIdeal.Run
public import proofs.«01_k».proof.Proof.Gen.KernelH
public import proofs.«01_k».proof.Proof.Gen.KernelHIdeal.Value
public import proofs.«01_k».proof.Proof.Gen.ReferenceHIdeal.Run
public import proofs.«01_k».proof.Proof.Gen.KernelPG
public import proofs.«01_k».proof.Proof.Gen.KernelPGIdeal.Value
public import proofs.«01_k».proof.Proof.Gen.ReferencePGIdeal.Run
public import proofs.«01_k».proof.Proof.Gen.KernelPC
public import proofs.«01_k».proof.Proof.Gen.KernelPCIdeal.Value
public import proofs.«01_k».proof.Proof.Gen.ReferencePCIdeal.Run
public import proofs.«01_k».proof.Proof.Gen.KernelX
public import proofs.«01_k».proof.Proof.Gen.KernelXIdeal.Value
public import proofs.«01_k».proof.Proof.Gen.ReferenceXIdeal.Run
public import proofs.«01_k».proof.Proof.Gen.KernelL
public import proofs.«01_k».proof.Proof.Gen.KernelLIdeal.Value
public import proofs.«01_k».proof.Proof.Gen.ReferenceLIdeal.Run
public import proofs.«01_k».proof.Proof.Gen.KernelN
public import proofs.«01_k».proof.Proof.Gen.KernelN.Frame
public import proofs.«01_k».proof.Proof.Gen.KernelNIdeal.Value
public import proofs.«01_k».proof.Proof.Gen.ReferenceNIdeal.Run
public import proofs.«01_k».proof.Proof.Gen.KernelA
public import proofs.«01_k».proof.Proof.Gen.KernelA.Frame
public import proofs.«01_k».proof.Proof.Gen.KernelAIdeal.Value
public import proofs.«01_k».proof.Proof.Gen.ReferenceAIdeal.Run
public import Idealize.ShloMosaic.Adequacy
public import Idealize.ShloMosaic.Init

@[expose] public section

noncomputable section

namespace Cert.Proof

open Idealize.ShloMosaic Idealize.SL.Sem

/-- The kernel's frame: its text is its idealization's, whose run is stated over any floats. -/
theorem frame_kernel : Cert.quiescent_Kernel := Cert.Same.frame_kernel

theorem frame_ideal : Cert.quiescent_KernelIdeal := fun m ρ _ => Cert.KernelIdeal.Gen.frame m ρ

theorem frame_ideal_pre : Cert.quiescent_KernelIdeal_pre_finite := fun m ρ _ => Cert.KernelIdeal.Gen.frame m ρ

/-- The reference's frame: its run keeps the arguments, and it declares no semaphore. -/
theorem frame_reference : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run m ρ)

theorem frame_reference_pre : Cert.quiescent_ReferenceIdeal_pre_finite := fun m ρ _ => frame_reference m ρ trivial

theorem algebraic : Cert.algebraic_KernelIdeal_ReferenceIdeal_pre_finite := Cert.ScanBwd.values

theorem claim : Cert.Claim :=
  ⟨inferInstance, inferInstance, inferInstance, inferInstance, inferInstance, inferInstance, inferInstance, inferInstance, inferInstance, inferInstance, inferInstance,
    inferInstance, inferInstance, inferInstance, inferInstance, inferInstance, inferInstance, inferInstance, inferInstance, inferInstance, inferInstance, inferInstance,
    inferInstance, inferInstance, inferInstance, inferInstance, inferInstance, inferInstance, inferInstance, inferInstance, inferInstance, inferInstance,
    inferInstance, inferInstance,
    frame_kernel, frame_ideal, frame_ideal_pre, frame_reference, frame_reference_pre,
    Products.G.frame_kernel, Products.G.frame_ideal, Products.G.frame_reference,
    Products.C.frame_kernel, Products.C.frame_ideal, Products.C.frame_reference,
    Products.O.frame_kernel, Products.O.frame_ideal, Products.O.frame_reference,
    Products.H.frame_kernel, Products.H.frame_ideal, Products.H.frame_reference,
    Products.PG.frame_kernel, Products.PG.frame_ideal, Products.PG.frame_reference,
    Products.PC.frame_kernel, Products.PC.frame_ideal, Products.PC.frame_reference,
    Norm.frame_kernel, Norm.frame_ideal, Norm.frame_reference,
    Loss.frame_kernel, Loss.frame_ideal, Loss.frame_reference,
    FirstNorm.frame_kernel, FirstNorm.frame_ideal, FirstNorm.frame_reference,
    Adam.frame_kernel, Adam.frame_ideal, Adam.frame_reference,
    trivial, algebraic,
    trivial, Products.G.values,
    trivial, Products.C.values,
    trivial, Products.O.values,
    trivial, Products.H.values,
    trivial, Products.PG.values,
    trivial, Products.PC.values,
    trivial, Norm.values,
    trivial, Loss.values,
    trivial, FirstNorm.values,
    Adam.preserves, Adam.values⟩

end Cert.Proof

end
